-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "masked_off" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x256x64x64 : Shape := ⟨4, ![2, 256, 64, 64]⟩
abbrev S2x256x32x32 : Shape := ⟨4, ![2, 256, 32, 32]⟩
abbrev S2x256x16x16 : Shape := ⟨4, ![2, 256, 16, 16]⟩
abbrev S256x256x3x3 : Shape := ⟨4, ![256, 256, 3, 3]⟩
abbrev S256 : Shape := ⟨1, ![256]⟩
abbrev S3x256x1x1 : Shape := ⟨4, ![3, 256, 1, 1]⟩
abbrev S3 : Shape := ⟨1, ![3]⟩
abbrev S12x256x1x1 : Shape := ⟨4, ![12, 256, 1, 1]⟩
abbrev S12 : Shape := ⟨1, ![12]⟩
abbrev S_ : Shape := ⟨0, ![]⟩

class Facts : Prop where
  bcast_S_S2x256x64x64 : S_.BroadcastsInDim S2x256x64x64 (![] : Fin 0 → Fin S2x256x64x64.rank)
  reducesTo_S2x256x64x64_S_d0_1_2_3 : S2x256x64x64.ReducesTo [0, 1, 2, 3] S_
  h_S_ : 0 < S_.numel
  bcast_S_S2x256x32x32 : S_.BroadcastsInDim S2x256x32x32 (![] : Fin 0 → Fin S2x256x32x32.rank)
  reducesTo_S2x256x32x32_S_d0_1_2_3 : S2x256x32x32.ReducesTo [0, 1, 2, 3] S_
  bcast_S_S2x256x16x16 : S_.BroadcastsInDim S2x256x16x16 (![] : Fin 0 → Fin S2x256x16x16.rank)
  reducesTo_S2x256x16x16_S_d0_1_2_3 : S2x256x16x16.ReducesTo [0, 1, 2, 3] S_
  bcast_S_S256x256x3x3 : S_.BroadcastsInDim S256x256x3x3 (![] : Fin 0 → Fin S256x256x3x3.rank)
  reducesTo_S256x256x3x3_S_d0_1_2_3 : S256x256x3x3.ReducesTo [0, 1, 2, 3] S_
  bcast_S_S256 : S_.BroadcastsInDim S256 (![] : Fin 0 → Fin S256.rank)
  reducesTo_S256_S_d0 : S256.ReducesTo [0] S_
  bcast_S_S3x256x1x1 : S_.BroadcastsInDim S3x256x1x1 (![] : Fin 0 → Fin S3x256x1x1.rank)
  reducesTo_S3x256x1x1_S_d0_1_2_3 : S3x256x1x1.ReducesTo [0, 1, 2, 3] S_
  bcast_S_S3 : S_.BroadcastsInDim S3 (![] : Fin 0 → Fin S3.rank)
  reducesTo_S3_S_d0 : S3.ReducesTo [0] S_

variable [Facts]

def fn_part2 {F : FTy → Type} [FloatOps F] (main_arg5 : FVec F S3x256x1x1 .f32) (main_arg6 : FVec F S3 .f32) (main_v27 : IVec S_ 1) (main_v32 : IVec S256 1) : IVec S_ 1 :=
  let main_c_13 : IVec S_ 1 := constantI S_ 1 1#1
  let main_v33 : IVec S_ 1 := (fun x v => Host.reduce IntOp.andi x v reducesTo_S256_S_d0 h_S_) main_v32 main_c_13
  let main_v34 : IVec S_ 1 := andi main_v27 main_v33
  let main_cst_14 : FVec F S_ .f32 := constant S_ .f32 0x7F800000#32
  let main_v35 : FVec F S3x256x1x1 .f32 := broadcastInDim S3x256x1x1 ![] bcast_S_S3x256x1x1 main_cst_14
  let main_v36 : IVec S3x256x1x1 1 := cmpf .olt main_arg5 main_v35
  let main_cst_15 : FVec F S_ .f32 := constant S_ .f32 0xFF800000#32
  let main_v37 : FVec F S3x256x1x1 .f32 := broadcastInDim S3x256x1x1 ![] bcast_S_S3x256x1x1 main_cst_15
  let main_v38 : IVec S3x256x1x1 1 := cmpf .ogt main_arg5 main_v37
  let main_v39 : IVec S3x256x1x1 1 := andi main_v36 main_v38
  let main_c_16 : IVec S_ 1 := constantI S_ 1 1#1
  let main_v40 : IVec S_ 1 := (fun x v => Host.reduce IntOp.andi x v reducesTo_S3x256x1x1_S_d0_1_2_3 h_S_) main_v39 main_c_16
  let main_v41 : IVec S_ 1 := andi main_v34 main_v40
  let main_cst_17 : FVec F S_ .f32 := constant S_ .f32 0x7F800000#32
  let main_v42 : FVec F S3 .f32 := broadcastInDim S3 ![] bcast_S_S3 main_cst_17
  let main_v43 : IVec S3 1 := cmpf .olt main_arg6 main_v42
  let main_cst_18 : FVec F S_ .f32 := constant S_ .f32 0xFF800000#32
  let main_v44 : FVec F S3 .f32 := broadcastInDim S3 ![] bcast_S_S3 main_cst_18
  let main_v45 : IVec S3 1 := cmpf .ogt main_arg6 main_v44
  let main_v46 : IVec S3 1 := andi main_v43 main_v45
  let main_c_19 : IVec S_ 1 := constantI S_ 1 1#1
  let main_v47 : IVec S_ 1 := (fun x v => Host.reduce IntOp.andi x v reducesTo_S3_S_d0 h_S_) main_v46 main_c_19
  let main_v48 : IVec S_ 1 := andi main_v41 main_v47
  main_v48

def fn_part1 {F : FTy → Type} [FloatOps F] (main_arg2 : FVec F S2x256x16x16 .f32) (main_arg3 : FVec F S256x256x3x3 .f32) (main_arg4 : FVec F S256 .f32) (main_arg5 : FVec F S3x256x1x1 .f32) (main_arg6 : FVec F S3 .f32) (main_v13 : IVec S_ 1) (main_v15 : IVec S2x256x16x16 1) : IVec S_ 1 :=
  let main_cst_6 : FVec F S_ .f32 := constant S_ .f32 0xFF800000#32
  let main_v16 : FVec F S2x256x16x16 .f32 := broadcastInDim S2x256x16x16 ![] bcast_S_S2x256x16x16 main_cst_6
  let main_v17 : IVec S2x256x16x16 1 := cmpf .ogt main_arg2 main_v16
  let main_v18 : IVec S2x256x16x16 1 := andi main_v15 main_v17
  let main_c_7 : IVec S_ 1 := constantI S_ 1 1#1
  let main_v19 : IVec S_ 1 := (fun x v => Host.reduce IntOp.andi x v reducesTo_S2x256x16x16_S_d0_1_2_3 h_S_) main_v18 main_c_7
  let main_v20 : IVec S_ 1 := andi main_v13 main_v19
  let main_cst_8 : FVec F S_ .f32 := constant S_ .f32 0x7F800000#32
  let main_v21 : FVec F S256x256x3x3 .f32 := broadcastInDim S256x256x3x3 ![] bcast_S_S256x256x3x3 main_cst_8
  let main_v22 : IVec S256x256x3x3 1 := cmpf .olt main_arg3 main_v21
  let main_cst_9 : FVec F S_ .f32 := constant S_ .f32 0xFF800000#32
  let main_v23 : FVec F S256x256x3x3 .f32 := broadcastInDim S256x256x3x3 ![] bcast_S_S256x256x3x3 main_cst_9
  let main_v24 : IVec S256x256x3x3 1 := cmpf .ogt main_arg3 main_v23
  let main_v25 : IVec S256x256x3x3 1 := andi main_v22 main_v24
  let main_c_10 : IVec S_ 1 := constantI S_ 1 1#1
  let main_v26 : IVec S_ 1 := (fun x v => Host.reduce IntOp.andi x v reducesTo_S256x256x3x3_S_d0_1_2_3 h_S_) main_v25 main_c_10
  let main_v27 : IVec S_ 1 := andi main_v20 main_v26
  let main_cst_11 : FVec F S_ .f32 := constant S_ .f32 0x7F800000#32
  let main_v28 : FVec F S256 .f32 := broadcastInDim S256 ![] bcast_S_S256 main_cst_11
  let main_v29 : IVec S256 1 := cmpf .olt main_arg4 main_v28
  let main_cst_12 : FVec F S_ .f32 := constant S_ .f32 0xFF800000#32
  let main_v30 : FVec F S256 .f32 := broadcastInDim S256 ![] bcast_S_S256 main_cst_12
  let main_v31 : IVec S256 1 := cmpf .ogt main_arg4 main_v30
  let main_v32 : IVec S256 1 := andi main_v29 main_v31
  fn_part2 (F := F) main_arg5 main_arg6 main_v27 main_v32

def fn {F : FTy → Type} [FloatOps F] (main_arg0 : FVec F S2x256x64x64 .f32) (main_arg1 : FVec F S2x256x32x32 .f32) (main_arg2 : FVec F S2x256x16x16 .f32) (main_arg3 : FVec F S256x256x3x3 .f32) (main_arg4 : FVec F S256 .f32) (main_arg5 : FVec F S3x256x1x1 .f32) (main_arg6 : FVec F S3 .f32) (main_arg7 : FVec F S12x256x1x1 .f32) (main_arg8 : FVec F S12 .f32) : IVec S_ 1 :=
  let main_cst : FVec F S_ .f32 := constant S_ .f32 0x7F800000#32
  let main_v0 : FVec F S2x256x64x64 .f32 := broadcastInDim S2x256x64x64 ![] bcast_S_S2x256x64x64 main_cst
  let main_v1 : IVec S2x256x64x64 1 := cmpf .olt main_arg0 main_v0
  let main_cst_0 : FVec F S_ .f32 := constant S_ .f32 0xFF800000#32
  let main_v2 : FVec F S2x256x64x64 .f32 := broadcastInDim S2x256x64x64 ![] bcast_S_S2x256x64x64 main_cst_0
  let main_v3 : IVec S2x256x64x64 1 := cmpf .ogt main_arg0 main_v2
  let main_v4 : IVec S2x256x64x64 1 := andi main_v1 main_v3
  let main_c : IVec S_ 1 := constantI S_ 1 1#1
  let main_v5 : IVec S_ 1 := (fun x v => Host.reduce IntOp.andi x v reducesTo_S2x256x64x64_S_d0_1_2_3 h_S_) main_v4 main_c
  let main_c_1 : IVec S_ 1 := constantI S_ 1 1#1
  let main_v6 : IVec S_ 1 := andi main_c_1 main_v5
  let main_cst_2 : FVec F S_ .f32 := constant S_ .f32 0x7F800000#32
  let main_v7 : FVec F S2x256x32x32 .f32 := broadcastInDim S2x256x32x32 ![] bcast_S_S2x256x32x32 main_cst_2
  let main_v8 : IVec S2x256x32x32 1 := cmpf .olt main_arg1 main_v7
  let main_cst_3 : FVec F S_ .f32 := constant S_ .f32 0xFF800000#32
  let main_v9 : FVec F S2x256x32x32 .f32 := broadcastInDim S2x256x32x32 ![] bcast_S_S2x256x32x32 main_cst_3
  let main_v10 : IVec S2x256x32x32 1 := cmpf .ogt main_arg1 main_v9
  let main_v11 : IVec S2x256x32x32 1 := andi main_v8 main_v10
  let main_c_4 : IVec S_ 1 := constantI S_ 1 1#1
  let main_v12 : IVec S_ 1 := (fun x v => Host.reduce IntOp.andi x v reducesTo_S2x256x32x32_S_d0_1_2_3 h_S_) main_v11 main_c_4
  let main_v13 : IVec S_ 1 := andi main_v6 main_v12
  let main_cst_5 : FVec F S_ .f32 := constant S_ .f32 0x7F800000#32
  let main_v14 : FVec F S2x256x16x16 .f32 := broadcastInDim S2x256x16x16 ![] bcast_S_S2x256x16x16 main_cst_5
  let main_v15 : IVec S2x256x16x16 1 := cmpf .olt main_arg2 main_v14
  fn_part1 (F := F) main_arg2 main_arg3 main_arg4 main_arg5 main_arg6 main_v13 main_v15
-- ==== Kernel.lean ====
abbrev S2x256x64x64 : Shape := ⟨4, ![2, 256, 64, 64]⟩
abbrev S2x256x32x32 : Shape := ⟨4, ![2, 256, 32, 32]⟩
abbrev S2x256x16x16 : Shape := ⟨4, ![2, 256, 16, 16]⟩
abbrev S256x256x3x3 : Shape := ⟨4, ![256, 256, 3, 3]⟩
abbrev S256 : Shape := ⟨1, ![256]⟩
abbrev S3x256x1x1 : Shape := ⟨4, ![3, 256, 1, 1]⟩
abbrev S3 : Shape := ⟨1, ![3]⟩
abbrev S12x256x1x1 : Shape := ⟨4, ![12, 256, 1, 1]⟩
abbrev S12 : Shape := ⟨1, ![12]⟩
abbrev S256x256x1x1 : Shape := ⟨4, ![256, 256, 1, 1]⟩
abbrev S256x256 : Shape := ⟨2, ![256, 256]⟩
abbrev S1x256x256 : Shape := ⟨3, ![1, 256, 256]⟩
abbrev S9x256x256 : Shape := ⟨3, ![9, 256, 256]⟩
abbrev S256x1 : Shape := ⟨2, ![256, 1]⟩
abbrev S3x256 : Shape := ⟨2, ![3, 256]⟩
abbrev S3x1 : Shape := ⟨2, ![3, 1]⟩
abbrev S12x256 : Shape := ⟨2, ![12, 256]⟩
abbrev S12x1 : Shape := ⟨2, ![12, 1]⟩
abbrev S_ : Shape := ⟨0, ![]⟩
abbrev S2x256x67x66 : Shape := ⟨4, ![2, 256, 67, 66]⟩
abbrev S2x256x4422 : Shape := ⟨3, ![2, 256, 4422]⟩
abbrev S2x100x4 : Shape := ⟨3, ![2, 100, 4]⟩
abbrev S1x256x4422 : Shape := ⟨3, ![1, 256, 4422]⟩
abbrev S1x100x4 : Shape := ⟨3, ![1, 100, 4]⟩
abbrev S400x400 : Shape := ⟨2, ![400, 400]⟩
abbrev S1x256x4224 : Shape := ⟨3, ![1, 256, 4224]⟩
abbrev S256x4224 : Shape := ⟨2, ![256, 4224]⟩
abbrev S3x4224 : Shape := ⟨2, ![3, 4224]⟩
abbrev S12x4224 : Shape := ⟨2, ![12, 4224]⟩
abbrev S400x1 : Shape := ⟨2, ![400, 1]⟩
abbrev S1x3x4224 : Shape := ⟨3, ![1, 3, 4224]⟩
abbrev S1 : Shape := ⟨1, ![1]⟩
abbrev S1x1x1 : Shape := ⟨3, ![1, 1, 1]⟩
abbrev S1x400 : Shape := ⟨2, ![1, 400]⟩
abbrev S4224x400 : Shape := ⟨2, ![4224, 400]⟩
abbrev S12x400 : Shape := ⟨2, ![12, 400]⟩
abbrev S4x400 : Shape := ⟨2, ![4, 400]⟩
abbrev S400x4 : Shape := ⟨2, ![400, 4]⟩
abbrev S1x1x400 : Shape := ⟨3, ![1, 1, 400]⟩
abbrev S100x1 : Shape := ⟨2, ![100, 1]⟩
abbrev S100x400 : Shape := ⟨2, ![100, 400]⟩
abbrev S100x4 : Shape := ⟨2, ![100, 4]⟩
abbrev S2x256x35x34 : Shape := ⟨4, ![2, 256, 35, 34]⟩
abbrev S2x256x1190 : Shape := ⟨3, ![2, 256, 1190]⟩
abbrev S1x256x1190 : Shape := ⟨3, ![1, 256, 1190]⟩
abbrev S1x256x1088 : Shape := ⟨3, ![1, 256, 1088]⟩
abbrev S256x1088 : Shape := ⟨2, ![256, 1088]⟩
abbrev S3x1088 : Shape := ⟨2, ![3, 1088]⟩
abbrev S12x1088 : Shape := ⟨2, ![12, 1088]⟩
abbrev S1x3x1088 : Shape := ⟨3, ![1, 3, 1088]⟩
abbrev S1088x400 : Shape := ⟨2, ![1088, 400]⟩
abbrev S2x256x19x18 : Shape := ⟨4, ![2, 256, 19, 18]⟩
abbrev S2x256x342 : Shape := ⟨3, ![2, 256, 342]⟩
abbrev S1x256x342 : Shape := ⟨3, ![1, 256, 342]⟩
abbrev S1x256x288 : Shape := ⟨3, ![1, 256, 288]⟩
abbrev S256x288 : Shape := ⟨2, ![256, 288]⟩
abbrev S3x288 : Shape := ⟨2, ![3, 288]⟩
abbrev S12x288 : Shape := ⟨2, ![12, 288]⟩
abbrev S1x3x288 : Shape := ⟨3, ![1, 3, 288]⟩
abbrev S288x400 : Shape := ⟨2, ![288, 400]⟩
abbrev S2x300x4 : Shape := ⟨3, ![2, 300, 4]⟩

abbrev nBuf : Space → Nat
  | .hbm => 58
  | .vmem => 33
  | .smem => 0
  | _ => 0

abbrev bufTy : (tb : Table) → Fin (tcTables nBuf tb) → BufTy
  | .hbm, ⟨0, _⟩ => ⟨S2x256x64x64, .f32⟩
  | .hbm, ⟨1, _⟩ => ⟨S2x256x32x32, .f32⟩
  | .hbm, ⟨2, _⟩ => ⟨S2x256x16x16, .f32⟩
  | .hbm, ⟨3, _⟩ => ⟨S256x256x3x3, .f32⟩
  | .hbm, ⟨4, _⟩ => ⟨S256, .f32⟩
  | .hbm, ⟨5, _⟩ => ⟨S3x256x1x1, .f32⟩
  | .hbm, ⟨6, _⟩ => ⟨S3, .f32⟩
  | .hbm, ⟨7, _⟩ => ⟨S12x256x1x1, .f32⟩
  | .hbm, ⟨8, _⟩ => ⟨S12, .f32⟩
  | .hbm, ⟨9, _⟩ => ⟨S256x256x1x1, .f32⟩
  | .hbm, ⟨10, _⟩ => ⟨S256x256, .f32⟩
  | .hbm, ⟨11, _⟩ => ⟨S256x256x1x1, .f32⟩
  | .hbm, ⟨12, _⟩ => ⟨S256x256, .f32⟩
  | .hbm, ⟨13, _⟩ => ⟨S256x256x1x1, .f32⟩
  | .hbm, ⟨14, _⟩ => ⟨S256x256, .f32⟩
  | .hbm, ⟨15, _⟩ => ⟨S256x256x1x1, .f32⟩
  | .hbm, ⟨16, _⟩ => ⟨S256x256, .f32⟩
  | .hbm, ⟨17, _⟩ => ⟨S256x256x1x1, .f32⟩
  | .hbm, ⟨18, _⟩ => ⟨S256x256, .f32⟩
  | .hbm, ⟨19, _⟩ => ⟨S256x256x1x1, .f32⟩
  | .hbm, ⟨20, _⟩ => ⟨S256x256, .f32⟩
  | .hbm, ⟨21, _⟩ => ⟨S256x256x1x1, .f32⟩
  | .hbm, ⟨22, _⟩ => ⟨S256x256, .f32⟩
  | .hbm, ⟨23, _⟩ => ⟨S256x256x1x1, .f32⟩
  | .hbm, ⟨24, _⟩ => ⟨S256x256, .f32⟩
  | .hbm, ⟨25, _⟩ => ⟨S256x256x1x1, .f32⟩
  | .hbm, ⟨26, _⟩ => ⟨S256x256, .f32⟩
  | .hbm, ⟨27, _⟩ => ⟨S1x256x256, .f32⟩
  | .hbm, ⟨28, _⟩ => ⟨S1x256x256, .f32⟩
  | .hbm, ⟨29, _⟩ => ⟨S1x256x256, .f32⟩
  | .hbm, ⟨30, _⟩ => ⟨S1x256x256, .f32⟩
  | .hbm, ⟨31, _⟩ => ⟨S1x256x256, .f32⟩
  | .hbm, ⟨32, _⟩ => ⟨S1x256x256, .f32⟩
  | .hbm, ⟨33, _⟩ => ⟨S1x256x256, .f32⟩
  | .hbm, ⟨34, _⟩ => ⟨S1x256x256, .f32⟩
  | .hbm, ⟨35, _⟩ => ⟨S1x256x256, .f32⟩
  | .hbm, ⟨36, _⟩ => ⟨S9x256x256, .f32⟩
  | .hbm, ⟨37, _⟩ => ⟨S256x1, .f32⟩
  | .hbm, ⟨38, _⟩ => ⟨S3x256, .f32⟩
  | .hbm, ⟨39, _⟩ => ⟨S3x1, .f32⟩
  | .hbm, ⟨40, _⟩ => ⟨S12x256, .f32⟩
  | .hbm, ⟨41, _⟩ => ⟨S12x1, .f32⟩
  | .hbm, ⟨42, _⟩ => ⟨S_, .i32⟩
  | .hbm, ⟨43, _⟩ => ⟨S_, .f32⟩
  | .hbm, ⟨44, _⟩ => ⟨S2x256x67x66, .f32⟩
  | .hbm, ⟨45, _⟩ => ⟨S2x256x4422, .f32⟩
  | .hbm, ⟨46, _⟩ => ⟨S2x100x4, .f32⟩
  | .hbm, ⟨47, _⟩ => ⟨S_, .i32⟩
  | .hbm, ⟨48, _⟩ => ⟨S_, .f32⟩
  | .hbm, ⟨49, _⟩ => ⟨S2x256x35x34, .f32⟩
  | .hbm, ⟨50, _⟩ => ⟨S2x256x1190, .f32⟩
  | .hbm, ⟨51, _⟩ => ⟨S2x100x4, .f32⟩
  | .hbm, ⟨52, _⟩ => ⟨S_, .i32⟩
  | .hbm, ⟨53, _⟩ => ⟨S_, .f32⟩
  | .hbm, ⟨54, _⟩ => ⟨S2x256x19x18, .f32⟩
  | .hbm, ⟨55, _⟩ => ⟨S2x256x342, .f32⟩
  | .hbm, ⟨56, _⟩ => ⟨S2x100x4, .f32⟩
  | .hbm, ⟨57, _⟩ => ⟨S2x300x4, .f32⟩
  | .local _ .vmem, ⟨0, _⟩ => ⟨S1x256x4422, .f32⟩
  | .local _ .vmem, ⟨1, _⟩ => ⟨S1x256x4422, .f32⟩
  | .local _ .vmem, ⟨2, _⟩ => ⟨S9x256x256, .f32⟩
  | .local _ .vmem, ⟨3, _⟩ => ⟨S256x1, .f32⟩
  | .local _ .vmem, ⟨4, _⟩ => ⟨S3x256, .f32⟩
  | .local _ .vmem, ⟨5, _⟩ => ⟨S3x1, .f32⟩
  | .local _ .vmem, ⟨6, _⟩ => ⟨S12x256, .f32⟩
  | .local _ .vmem, ⟨7, _⟩ => ⟨S12x1, .f32⟩
  | .local _ .vmem, ⟨8, _⟩ => ⟨S1x100x4, .f32⟩
  | .local _ .vmem, ⟨9, _⟩ => ⟨S1x100x4, .f32⟩
  | .local _ .vmem, ⟨10, _⟩ => ⟨S400x400, .f32⟩
  | .local _ .vmem, ⟨11, _⟩ => ⟨S1x256x1190, .f32⟩
  | .local _ .vmem, ⟨12, _⟩ => ⟨S1x256x1190, .f32⟩
  | .local _ .vmem, ⟨13, _⟩ => ⟨S9x256x256, .f32⟩
  | .local _ .vmem, ⟨14, _⟩ => ⟨S256x1, .f32⟩
  | .local _ .vmem, ⟨15, _⟩ => ⟨S3x256, .f32⟩
  | .local _ .vmem, ⟨16, _⟩ => ⟨S3x1, .f32⟩
  | .local _ .vmem, ⟨17, _⟩ => ⟨S12x256, .f32⟩
  | .local _ .vmem, ⟨18, _⟩ => ⟨S12x1, .f32⟩
  | .local _ .vmem, ⟨19, _⟩ => ⟨S1x100x4, .f32⟩
  | .local _ .vmem, ⟨20, _⟩ => ⟨S1x100x4, .f32⟩
  | .local _ .vmem, ⟨21, _⟩ => ⟨S400x400, .f32⟩
  | .local _ .vmem, ⟨22, _⟩ => ⟨S1x256x342, .f32⟩
  | .local _ .vmem, ⟨23, _⟩ => ⟨S1x256x342, .f32⟩
  | .local _ .vmem, ⟨24, _⟩ => ⟨S9x256x256, .f32⟩
  | .local _ .vmem, ⟨25, _⟩ => ⟨S256x1, .f32⟩
  | .local _ .vmem, ⟨26, _⟩ => ⟨S3x256, .f32⟩
  | .local _ .vmem, ⟨27, _⟩ => ⟨S3x1, .f32⟩
  | .local _ .vmem, ⟨28, _⟩ => ⟨S12x256, .f32⟩
  | .local _ .vmem, ⟨29, _⟩ => ⟨S12x1, .f32⟩
  | .local _ .vmem, ⟨30, _⟩ => ⟨S1x100x4, .f32⟩
  | .local _ .vmem, ⟨31, _⟩ => ⟨S1x100x4, .f32⟩
  | .local _ .vmem, ⟨32, _⟩ => ⟨S400x400, .f32⟩
  | _, _ => ⟨S2x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_c : Ref sig .tc := ⟨.hbm, 42, rfl⟩
abbrev main_call0_v0 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_c_0 : Ref sig .tc := ⟨.hbm, 47, rfl⟩
abbrev main_call1_v0 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_c_1 : Ref sig .tc := ⟨.hbm, 52, rfl⟩
abbrev main_call2_v0 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg7_1 : Ref sig .tc := ⟨.vmem, 20, rfl⟩
abbrev cc1_scratch0 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg7_0 : Ref sig .tc := ⟨.vmem, 30, rfl⟩
abbrev cc2_stg7_1 : Ref sig .tc := ⟨.vmem, 31, rfl⟩
abbrev cc2_scratch0 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem7_1 : DmaSem sig := 29

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32_68 : BitVec 32 := 0#32
  let c400_i32 : BitVec 32 := 400#32
  let v115 : BitVec 32 := Scalar.addi c0_i32_68 c400_i32
  let c1_i32_69 : BitVec 32 := 1#32
  ⟨c0_i32_68, v115, c1_i32_69⟩
@[reducible] def k0_t2_loop : Scf.Loop 32 :=
  let c0_i32_132 : BitVec 32 := 0#32
  let c400_i32_133 : BitVec 32 := 400#32
  let v335 : BitVec 32 := Scalar.addi c0_i32_132 c400_i32_133
  let c1_i32_134 : BitVec 32 := 1#32
  ⟨c0_i32_132, v335, c1_i32_134⟩
def k0_off1 (k0_t2 : Fin k0_t2_loop.trips) : Fin 2 → Nat :=
  let c0_i32_132 : BitVec 32 := 0#32
  let c1_i32_134 : BitVec 32 := 1#32
  let arg10 : BitVec 32 := Scf.iv c0_i32_132 c1_i32_134 k0_t2
  let v368 : Index := Scalar.indexCast arg10
  let c0_146 : Index := 0#32
  ![v368.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x4422 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S12x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S12x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x100x4 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![2], ![false]⟩

@[reducible] def k1_t1_loop : Scf.Loop 32 :=
  let c0_i32_68 : BitVec 32 := 0#32
  let c400_i32 : BitVec 32 := 400#32
  let v115 : BitVec 32 := Scalar.addi c0_i32_68 c400_i32
  let c1_i32_69 : BitVec 32 := 1#32
  ⟨c0_i32_68, v115, c1_i32_69⟩
@[reducible] def k1_t2_loop : Scf.Loop 32 :=
  let c0_i32_132 : BitVec 32 := 0#32
  let c400_i32_133 : BitVec 32 := 400#32
  let v335 : BitVec 32 := Scalar.addi c0_i32_132 c400_i32_133
  let c1_i32_134 : BitVec 32 := 1#32
  ⟨c0_i32_132, v335, c1_i32_134⟩
def k1_off1 (k1_t2 : Fin k1_t2_loop.trips) : Fin 2 → Nat :=
  let c0_i32_132 : BitVec 32 := 0#32
  let c1_i32_134 : BitVec 32 := 1#32
  let arg10 : BitVec 32 := Scf.iv c0_i32_132 c1_i32_134 k1_t2
  let v368 : Index := Scalar.indexCast arg10
  let c0_146 : Index := 0#32
  ![v368.toNat, 0]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x256x1190 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S9x256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S3x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S3x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S12x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S12x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1x100x4 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![2], ![false]⟩

@[reducible] def k2_t1_loop : Scf.Loop 32 :=
  let c0_i32_68 : BitVec 32 := 0#32
  let c400_i32 : BitVec 32 := 400#32
  let v115 : BitVec 32 := Scalar.addi c0_i32_68 c400_i32
  let c1_i32_69 : BitVec 32 := 1#32
  ⟨c0_i32_68, v115, c1_i32_69⟩
@[reducible] def k2_t2_loop : Scf.Loop 32 :=
  let c0_i32_132 : BitVec 32 := 0#32
  let c400_i32_133 : BitVec 32 := 400#32
  let v335 : BitVec 32 := Scalar.addi c0_i32_132 c400_i32_133
  let c1_i32_134 : BitVec 32 := 1#32
  ⟨c0_i32_132, v335, c1_i32_134⟩
def k2_off1 (k2_t2 : Fin k2_t2_loop.trips) : Fin 2 → Nat :=
  let c0_i32_132 : BitVec 32 := 0#32
  let c1_i32_134 : BitVec 32 := 1#32
  let arg10 : BitVec 32 := Scf.iv c0_i32_132 c1_i32_134 k2_t2
  let v368 : Index := Scalar.indexCast arg10
  let c0_146 : Index := 0#32
  ![v368.toNat, 0]
def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x256x342 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S9x256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S3x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S3x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S12x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S12x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S1x100x4 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]
-- ==== KernelIdeal.lean ====
variable {F : FTy → Type} [FloatOps F] [Named F]
def κ : String → Option EReal := fun
  | "masked_off" => some ⊥
  | _ => none
-- ==== ReferenceIdeal.lean ====
abbrev S2x256x64x64 : Shape := ⟨4, ![2, 256, 64, 64]⟩
abbrev S2x256x32x32 : Shape := ⟨4, ![2, 256, 32, 32]⟩
abbrev S2x256x16x16 : Shape := ⟨4, ![2, 256, 16, 16]⟩
abbrev S256x256x3x3 : Shape := ⟨4, ![256, 256, 3, 3]⟩
abbrev S256 : Shape := ⟨1, ![256]⟩
abbrev S3x256x1x1 : Shape := ⟨4, ![3, 256, 1, 1]⟩
abbrev S3 : Shape := ⟨1, ![3]⟩
abbrev S12x256x1x1 : Shape := ⟨4, ![12, 256, 1, 1]⟩
abbrev S12 : Shape := ⟨1, ![12]⟩
abbrev S_ : Shape := ⟨0, ![]⟩
abbrev S2x256x66x66 : Shape := ⟨4, ![2, 256, 66, 66]⟩
abbrev S256x256x1x1 : Shape := ⟨4, ![256, 256, 1, 1]⟩
abbrev S256x256 : Shape := ⟨2, ![256, 256]⟩
abbrev S2x64x64x256 : Shape := ⟨4, ![2, 64, 64, 256]⟩
abbrev S1x256x1x1 : Shape := ⟨4, ![1, 256, 1, 1]⟩
abbrev S3x256 : Shape := ⟨2, ![3, 256]⟩
abbrev S2x64x64x3 : Shape := ⟨4, ![2, 64, 64, 3]⟩
abbrev S2x3x64x64 : Shape := ⟨4, ![2, 3, 64, 64]⟩
abbrev S1x3x1x1 : Shape := ⟨4, ![1, 3, 1, 1]⟩
abbrev S2x12288 : Shape := ⟨2, ![2, 12288]⟩
abbrev S2x400 : Shape := ⟨2, ![2, 400]⟩
abbrev S64 : Shape := ⟨1, ![64]⟩
abbrev S64x64 : Shape := ⟨2, ![64, 64]⟩
abbrev S64x1 : Shape := ⟨2, ![64, 1]⟩
abbrev S64x64x1 : Shape := ⟨3, ![64, 64, 1]⟩
abbrev S64x64x4 : Shape := ⟨3, ![64, 64, 4]⟩
abbrev S64x64x1x4 : Shape := ⟨4, ![64, 64, 1, 4]⟩
abbrev S64x64x3x4 : Shape := ⟨4, ![64, 64, 3, 4]⟩
abbrev S12288x4 : Shape := ⟨2, ![12288, 4]⟩
abbrev S12x256 : Shape := ⟨2, ![12, 256]⟩
abbrev S2x64x64x12 : Shape := ⟨4, ![2, 64, 64, 12]⟩
abbrev S2x12x64x64 : Shape := ⟨4, ![2, 12, 64, 64]⟩
abbrev S1x12x1x1 : Shape := ⟨4, ![1, 12, 1, 1]⟩
abbrev S2x3x4x64x64 : Shape := ⟨5, ![2, 3, 4, 64, 64]⟩
abbrev S2x64x64x3x4 : Shape := ⟨5, ![2, 64, 64, 3, 4]⟩
abbrev S2x12288x4 : Shape := ⟨3, ![2, 12288, 4]⟩
abbrev S2x400x1 : Shape := ⟨3, ![2, 400, 1]⟩
abbrev S2x400x4 : Shape := ⟨3, ![2, 400, 4]⟩
abbrev S2x256x34x34 : Shape := ⟨4, ![2, 256, 34, 34]⟩
abbrev S2x32x32x256 : Shape := ⟨4, ![2, 32, 32, 256]⟩
abbrev S2x32x32x3 : Shape := ⟨4, ![2, 32, 32, 3]⟩
abbrev S2x3x32x32 : Shape := ⟨4, ![2, 3, 32, 32]⟩
abbrev S2x3072 : Shape := ⟨2, ![2, 3072]⟩
abbrev S32 : Shape := ⟨1, ![32]⟩
abbrev S32x32 : Shape := ⟨2, ![32, 32]⟩
abbrev S32x1 : Shape := ⟨2, ![32, 1]⟩
abbrev S32x32x1 : Shape := ⟨3, ![32, 32, 1]⟩
abbrev S32x32x4 : Shape := ⟨3, ![32, 32, 4]⟩
abbrev S32x32x1x4 : Shape := ⟨4, ![32, 32, 1, 4]⟩
abbrev S32x32x3x4 : Shape := ⟨4, ![32, 32, 3, 4]⟩
abbrev S3072x4 : Shape := ⟨2, ![3072, 4]⟩
abbrev S2x32x32x12 : Shape := ⟨4, ![2, 32, 32, 12]⟩
abbrev S2x12x32x32 : Shape := ⟨4, ![2, 12, 32, 32]⟩
abbrev S2x3x4x32x32 : Shape := ⟨5, ![2, 3, 4, 32, 32]⟩
abbrev S2x32x32x3x4 : Shape := ⟨5, ![2, 32, 32, 3, 4]⟩
abbrev S2x3072x4 : Shape := ⟨3, ![2, 3072, 4]⟩
abbrev S2x256x18x18 : Shape := ⟨4, ![2, 256, 18, 18]⟩
abbrev S2x16x16x256 : Shape := ⟨4, ![2, 16, 16, 256]⟩
abbrev S2x16x16x3 : Shape := ⟨4, ![2, 16, 16, 3]⟩
abbrev S2x3x16x16 : Shape := ⟨4, ![2, 3, 16, 16]⟩
abbrev S2x768 : Shape := ⟨2, ![2, 768]⟩
abbrev S16 : Shape := ⟨1, ![16]⟩
abbrev S16x16 : Shape := ⟨2, ![16, 16]⟩
abbrev S16x1 : Shape := ⟨2, ![16, 1]⟩
abbrev S16x16x1 : Shape := ⟨3, ![16, 16, 1]⟩
abbrev S16x16x4 : Shape := ⟨3, ![16, 16, 4]⟩
abbrev S16x16x1x4 : Shape := ⟨4, ![16, 16, 1, 4]⟩
abbrev S16x16x3x4 : Shape := ⟨4, ![16, 16, 3, 4]⟩
abbrev S768x4 : Shape := ⟨2, ![768, 4]⟩
abbrev S2x16x16x12 : Shape := ⟨4, ![2, 16, 16, 12]⟩
abbrev S2x12x16x16 : Shape := ⟨4, ![2, 12, 16, 16]⟩
abbrev S2x3x4x16x16 : Shape := ⟨5, ![2, 3, 4, 16, 16]⟩
abbrev S2x16x16x3x4 : Shape := ⟨5, ![2, 16, 16, 3, 4]⟩
abbrev S2x768x4 : Shape := ⟨3, ![2, 768, 4]⟩
abbrev S6x400x4 : Shape := ⟨3, ![6, 400, 4]⟩
abbrev S6x400x1 : Shape := ⟨3, ![6, 400, 1]⟩
abbrev S6x400 : Shape := ⟨2, ![6, 400]⟩
abbrev S6x1x400 : Shape := ⟨3, ![6, 1, 400]⟩
abbrev S6x400x400 : Shape := ⟨3, ![6, 400, 400]⟩
abbrev S6x1 : Shape := ⟨2, ![6, 1]⟩
abbrev S400 : Shape := ⟨1, ![400]⟩
abbrev S1x400 : Shape := ⟨2, ![1, 400]⟩
abbrev S6x100 : Shape := ⟨2, ![6, 100]⟩
abbrev S6x100x1 : Shape := ⟨3, ![6, 100, 1]⟩
abbrev S6x100x4 : Shape := ⟨3, ![6, 100, 4]⟩
abbrev S3x2x100x4 : Shape := ⟨4, ![3, 2, 100, 4]⟩
abbrev S2x3x100x4 : Shape := ⟨4, ![2, 3, 100, 4]⟩
abbrev S2x300x4 : Shape := ⟨3, ![2, 300, 4]⟩

abbrev nBuf : Space → Nat
  | .hbm => 728
  | .vmem => 0
  | .smem => 0
  | _ => 0

abbrev hbmTy0_0 (i : Nat) : BufTy := match i % 128 with
  | 0 => ⟨S2x256x64x64, .f32⟩
  | 1 => ⟨S2x256x32x32, .f32⟩
  | 2 => ⟨S2x256x16x16, .f32⟩
  | 3 => ⟨S256x256x3x3, .f32⟩
  | 4 => ⟨S256, .f32⟩
  | 5 => ⟨S3x256x1x1, .f32⟩
  | 6 => ⟨S3, .f32⟩
  | 7 => ⟨S12x256x1x1, .f32⟩
  | 8 => ⟨S12, .f32⟩
  | 9 => ⟨S_, .f32⟩
  | 10 => ⟨S2x256x66x66, .f32⟩
  | 11 => ⟨S256x256x1x1, .f32⟩
  | 12 => ⟨S256x256, .f32⟩
  | 13 => ⟨S2x256x64x64, .f32⟩
  | 14 => ⟨S2x64x64x256, .f32⟩
  | 15 => ⟨S2x256x64x64, .f32⟩
  | 16 => ⟨S256x256x1x1, .f32⟩
  | 17 => ⟨S256x256, .f32⟩
  | 18 => ⟨S2x256x64x64, .f32⟩
  | 19 => ⟨S2x64x64x256, .f32⟩
  | 20 => ⟨S2x256x64x64, .f32⟩
  | 21 => ⟨S2x256x64x64, .f32⟩
  | 22 => ⟨S256x256x1x1, .f32⟩
  | 23 => ⟨S256x256, .f32⟩
  | 24 => ⟨S2x256x64x64, .f32⟩
  | 25 => ⟨S2x64x64x256, .f32⟩
  | 26 => ⟨S2x256x64x64, .f32⟩
  | 27 => ⟨S2x256x64x64, .f32⟩
  | 28 => ⟨S256x256x1x1, .f32⟩
  | 29 => ⟨S256x256, .f32⟩
  | 30 => ⟨S2x256x64x64, .f32⟩
  | 31 => ⟨S2x64x64x256, .f32⟩
  | 32 => ⟨S2x256x64x64, .f32⟩
  | 33 => ⟨S2x256x64x64, .f32⟩
  | 34 => ⟨S256x256x1x1, .f32⟩
  | 35 => ⟨S256x256, .f32⟩
  | 36 => ⟨S2x256x64x64, .f32⟩
  | 37 => ⟨S2x64x64x256, .f32⟩
  | 38 => ⟨S2x256x64x64, .f32⟩
  | 39 => ⟨S2x256x64x64, .f32⟩
  | 40 => ⟨S256x256x1x1, .f32⟩
  | 41 => ⟨S256x256, .f32⟩
  | 42 => ⟨S2x256x64x64, .f32⟩
  | 43 => ⟨S2x64x64x256, .f32⟩
  | 44 => ⟨S2x256x64x64, .f32⟩
  | 45 => ⟨S2x256x64x64, .f32⟩
  | 46 => ⟨S256x256x1x1, .f32⟩
  | 47 => ⟨S256x256, .f32⟩
  | 48 => ⟨S2x256x64x64, .f32⟩
  | 49 => ⟨S2x64x64x256, .f32⟩
  | 50 => ⟨S2x256x64x64, .f32⟩
  | 51 => ⟨S2x256x64x64, .f32⟩
  | 52 => ⟨S256x256x1x1, .f32⟩
  | 53 => ⟨S256x256, .f32⟩
  | 54 => ⟨S2x256x64x64, .f32⟩
  | 55 => ⟨S2x64x64x256, .f32⟩
  | 56 => ⟨S2x256x64x64, .f32⟩
  | 57 => ⟨S2x256x64x64, .f32⟩
  | 58 => ⟨S256x256x1x1, .f32⟩
  | 59 => ⟨S256x256, .f32⟩
  | 60 => ⟨S2x256x64x64, .f32⟩
  | 61 => ⟨S2x64x64x256, .f32⟩
  | 62 => ⟨S2x256x64x64, .f32⟩
  | 63 => ⟨S2x256x64x64, .f32⟩
  | 64 => ⟨S1x256x1x1, .f32⟩
  | 65 => ⟨S2x256x64x64, .f32⟩
  | 66 => ⟨S2x256x64x64, .f32⟩
  | 67 => ⟨S_, .f32⟩
  | 68 => ⟨S2x256x64x64, .f32⟩
  | 69 => ⟨S2x256x64x64, .f32⟩
  | 70 => ⟨S3x256, .f32⟩
  | 71 => ⟨S2x64x64x3, .f32⟩
  | 72 => ⟨S2x3x64x64, .f32⟩
  | 73 => ⟨S1x3x1x1, .f32⟩
  | 74 => ⟨S2x3x64x64, .f32⟩
  | 75 => ⟨S2x3x64x64, .f32⟩
  | 76 => ⟨S2x64x64x3, .f32⟩
  | 77 => ⟨S2x12288, .f32⟩
  | 78 => ⟨S2x400, .f32⟩
  | 79 => ⟨S2x400, .i32⟩
  | 80 => ⟨S64, .f32⟩
  | 81 => ⟨S_, .f32⟩
  | 82 => ⟨S64, .f32⟩
  | 83 => ⟨S64, .f32⟩
  | 84 => ⟨S_, .f32⟩
  | 85 => ⟨S64, .f32⟩
  | 86 => ⟨S64, .f32⟩
  | 87 => ⟨S64x64, .f32⟩
  | 88 => ⟨S64, .f32⟩
  | 89 => ⟨S_, .f32⟩
  | 90 => ⟨S64, .f32⟩
  | 91 => ⟨S64, .f32⟩
  | 92 => ⟨S_, .f32⟩
  | 93 => ⟨S64, .f32⟩
  | 94 => ⟨S64, .f32⟩
  | 95 => ⟨S64x1, .f32⟩
  | 96 => ⟨S64x64, .f32⟩
  | 97 => ⟨S_, .f32⟩
  | 98 => ⟨S64x64, .f32⟩
  | 99 => ⟨S64x64, .f32⟩
  | 100 => ⟨S_, .f32⟩
  | 101 => ⟨S64x64, .f32⟩
  | 102 => ⟨S64x64, .f32⟩
  | 103 => ⟨S_, .f32⟩
  | 104 => ⟨S64x64, .f32⟩
  | 105 => ⟨S64x64, .f32⟩
  | 106 => ⟨S_, .f32⟩
  | 107 => ⟨S64x64, .f32⟩
  | 108 => ⟨S64x64, .f32⟩
  | 109 => ⟨S64x64x1, .f32⟩
  | 110 => ⟨S64x64x1, .f32⟩
  | 111 => ⟨S64x64x1, .f32⟩
  | 112 => ⟨S64x64x1, .f32⟩
  | 113 => ⟨S64x64x4, .f32⟩
  | 114 => ⟨S_, .f32⟩
  | 115 => ⟨S64x64, .f32⟩
  | 116 => ⟨S64x64, .f32⟩
  | 117 => ⟨S_, .f32⟩
  | 118 => ⟨S64x64, .f32⟩
  | 119 => ⟨S64x64, .f32⟩
  | 120 => ⟨S_, .f32⟩
  | 121 => ⟨S64x64, .f32⟩
  | 122 => ⟨S64x64, .f32⟩
  | 123 => ⟨S_, .f32⟩
  | 124 => ⟨S64x64, .f32⟩
  | 125 => ⟨S64x64, .f32⟩
  | 126 => ⟨S64x64x1, .f32⟩
  | 127 => ⟨S64x64x1, .f32⟩
  | _ => ⟨S2x256x64x64, .f32⟩

abbrev hbmTy0_1 (i : Nat) : BufTy := match i % 128 with
  | 0 => ⟨S64x64x1, .f32⟩
  | 1 => ⟨S64x64x1, .f32⟩
  | 2 => ⟨S64x64x4, .f32⟩
  | 3 => ⟨S_, .f32⟩
  | 4 => ⟨S64x64, .f32⟩
  | 5 => ⟨S64x64, .f32⟩
  | 6 => ⟨S_, .f32⟩
  | 7 => ⟨S64x64, .f32⟩
  | 8 => ⟨S64x64, .f32⟩
  | 9 => ⟨S_, .f32⟩
  | 10 => ⟨S64x64, .f32⟩
  | 11 => ⟨S64x64, .f32⟩
  | 12 => ⟨S_, .f32⟩
  | 13 => ⟨S64x64, .f32⟩
  | 14 => ⟨S64x64, .f32⟩
  | 15 => ⟨S64x64x1, .f32⟩
  | 16 => ⟨S64x64x1, .f32⟩
  | 17 => ⟨S64x64x1, .f32⟩
  | 18 => ⟨S64x64x1, .f32⟩
  | 19 => ⟨S64x64x4, .f32⟩
  | 20 => ⟨S64x64x1x4, .f32⟩
  | 21 => ⟨S64x64x1x4, .f32⟩
  | 22 => ⟨S64x64x1x4, .f32⟩
  | 23 => ⟨S64x64x3x4, .f32⟩
  | 24 => ⟨S12288x4, .f32⟩
  | 25 => ⟨S12x256, .f32⟩
  | 26 => ⟨S2x64x64x12, .f32⟩
  | 27 => ⟨S2x12x64x64, .f32⟩
  | 28 => ⟨S1x12x1x1, .f32⟩
  | 29 => ⟨S2x12x64x64, .f32⟩
  | 30 => ⟨S2x12x64x64, .f32⟩
  | 31 => ⟨S2x3x4x64x64, .f32⟩
  | 32 => ⟨S2x64x64x3x4, .f32⟩
  | 33 => ⟨S2x12288x4, .f32⟩
  | 34 => ⟨S_, .i32⟩
  | 35 => ⟨S2x400, .i32⟩
  | 36 => ⟨S2x400, .i1⟩
  | 37 => ⟨S_, .i32⟩
  | 38 => ⟨S2x400, .i32⟩
  | 39 => ⟨S2x400, .i32⟩
  | 40 => ⟨S2x400, .i32⟩
  | 41 => ⟨S2x400x1, .i32⟩
  | 42 => ⟨S2x400x4, .f32⟩
  | 43 => ⟨S2x12288x4, .f32⟩
  | 44 => ⟨S_, .i32⟩
  | 45 => ⟨S2x400, .i32⟩
  | 46 => ⟨S2x400, .i1⟩
  | 47 => ⟨S_, .i32⟩
  | 48 => ⟨S2x400, .i32⟩
  | 49 => ⟨S2x400, .i32⟩
  | 50 => ⟨S2x400, .i32⟩
  | 51 => ⟨S2x400x1, .i32⟩
  | 52 => ⟨S2x400x4, .f32⟩
  | 53 => ⟨S_, .f32⟩
  | 54 => ⟨S2x256x34x34, .f32⟩
  | 55 => ⟨S256x256x1x1, .f32⟩
  | 56 => ⟨S256x256, .f32⟩
  | 57 => ⟨S2x256x32x32, .f32⟩
  | 58 => ⟨S2x32x32x256, .f32⟩
  | 59 => ⟨S2x256x32x32, .f32⟩
  | 60 => ⟨S256x256x1x1, .f32⟩
  | 61 => ⟨S256x256, .f32⟩
  | 62 => ⟨S2x256x32x32, .f32⟩
  | 63 => ⟨S2x32x32x256, .f32⟩
  | 64 => ⟨S2x256x32x32, .f32⟩
  | 65 => ⟨S2x256x32x32, .f32⟩
  | 66 => ⟨S256x256x1x1, .f32⟩
  | 67 => ⟨S256x256, .f32⟩
  | 68 => ⟨S2x256x32x32, .f32⟩
  | 69 => ⟨S2x32x32x256, .f32⟩
  | 70 => ⟨S2x256x32x32, .f32⟩
  | 71 => ⟨S2x256x32x32, .f32⟩
  | 72 => ⟨S256x256x1x1, .f32⟩
  | 73 => ⟨S256x256, .f32⟩
  | 74 => ⟨S2x256x32x32, .f32⟩
  | 75 => ⟨S2x32x32x256, .f32⟩
  | 76 => ⟨S2x256x32x32, .f32⟩
  | 77 => ⟨S2x256x32x32, .f32⟩
  | 78 => ⟨S256x256x1x1, .f32⟩
  | 79 => ⟨S256x256, .f32⟩
  | 80 => ⟨S2x256x32x32, .f32⟩
  | 81 => ⟨S2x32x32x256, .f32⟩
  | 82 => ⟨S2x256x32x32, .f32⟩
  | 83 => ⟨S2x256x32x32, .f32⟩
  | 84 => ⟨S256x256x1x1, .f32⟩
  | 85 => ⟨S256x256, .f32⟩
  | 86 => ⟨S2x256x32x32, .f32⟩
  | 87 => ⟨S2x32x32x256, .f32⟩
  | 88 => ⟨S2x256x32x32, .f32⟩
  | 89 => ⟨S2x256x32x32, .f32⟩
  | 90 => ⟨S256x256x1x1, .f32⟩
  | 91 => ⟨S256x256, .f32⟩
  | 92 => ⟨S2x256x32x32, .f32⟩
  | 93 => ⟨S2x32x32x256, .f32⟩
  | 94 => ⟨S2x256x32x32, .f32⟩
  | 95 => ⟨S2x256x32x32, .f32⟩
  | 96 => ⟨S256x256x1x1, .f32⟩
  | 97 => ⟨S256x256, .f32⟩
  | 98 => ⟨S2x256x32x32, .f32⟩
  | 99 => ⟨S2x32x32x256, .f32⟩
  | 100 => ⟨S2x256x32x32, .f32⟩
  | 101 => ⟨S2x256x32x32, .f32⟩
  | 102 => ⟨S256x256x1x1, .f32⟩
  | 103 => ⟨S256x256, .f32⟩
  | 104 => ⟨S2x256x32x32, .f32⟩
  | 105 => ⟨S2x32x32x256, .f32⟩
  | 106 => ⟨S2x256x32x32, .f32⟩
  | 107 => ⟨S2x256x32x32, .f32⟩
  | 108 => ⟨S1x256x1x1, .f32⟩
  | 109 => ⟨S2x256x32x32, .f32⟩
  | 110 => ⟨S2x256x32x32, .f32⟩
  | 111 => ⟨S_, .f32⟩
  | 112 => ⟨S2x256x32x32, .f32⟩
  | 113 => ⟨S2x256x32x32, .f32⟩
  | 114 => ⟨S3x256, .f32⟩
  | 115 => ⟨S2x32x32x3, .f32⟩
  | 116 => ⟨S2x3x32x32, .f32⟩
  | 117 => ⟨S1x3x1x1, .f32⟩
  | 118 => ⟨S2x3x32x32, .f32⟩
  | 119 => ⟨S2x3x32x32, .f32⟩
  | 120 => ⟨S2x32x32x3, .f32⟩
  | 121 => ⟨S2x3072, .f32⟩
  | 122 => ⟨S2x400, .f32⟩
  | 123 => ⟨S2x400, .i32⟩
  | 124 => ⟨S32, .f32⟩
  | 125 => ⟨S_, .f32⟩
  | 126 => ⟨S32, .f32⟩
  | 127 => ⟨S32, .f32⟩
  | _ => ⟨S2x256x64x64, .f32⟩

abbrev hbmTy0_2 (i : Nat) : BufTy := match i % 128 with
  | 0 => ⟨S_, .f32⟩
  | 1 => ⟨S32, .f32⟩
  | 2 => ⟨S32, .f32⟩
  | 3 => ⟨S32x32, .f32⟩
  | 4 => ⟨S32, .f32⟩
  | 5 => ⟨S_, .f32⟩
  | 6 => ⟨S32, .f32⟩
  | 7 => ⟨S32, .f32⟩
  | 8 => ⟨S_, .f32⟩
  | 9 => ⟨S32, .f32⟩
  | 10 => ⟨S32, .f32⟩
  | 11 => ⟨S32x1, .f32⟩
  | 12 => ⟨S32x32, .f32⟩
  | 13 => ⟨S_, .f32⟩
  | 14 => ⟨S32x32, .f32⟩
  | 15 => ⟨S32x32, .f32⟩
  | 16 => ⟨S_, .f32⟩
  | 17 => ⟨S32x32, .f32⟩
  | 18 => ⟨S32x32, .f32⟩
  | 19 => ⟨S_, .f32⟩
  | 20 => ⟨S32x32, .f32⟩
  | 21 => ⟨S32x32, .f32⟩
  | 22 => ⟨S_, .f32⟩
  | 23 => ⟨S32x32, .f32⟩
  | 24 => ⟨S32x32, .f32⟩
  | 25 => ⟨S32x32x1, .f32⟩
  | 26 => ⟨S32x32x1, .f32⟩
  | 27 => ⟨S32x32x1, .f32⟩
  | 28 => ⟨S32x32x1, .f32⟩
  | 29 => ⟨S32x32x4, .f32⟩
  | 30 => ⟨S_, .f32⟩
  | 31 => ⟨S32x32, .f32⟩
  | 32 => ⟨S32x32, .f32⟩
  | 33 => ⟨S_, .f32⟩
  | 34 => ⟨S32x32, .f32⟩
  | 35 => ⟨S32x32, .f32⟩
  | 36 => ⟨S_, .f32⟩
  | 37 => ⟨S32x32, .f32⟩
  | 38 => ⟨S32x32, .f32⟩
  | 39 => ⟨S_, .f32⟩
  | 40 => ⟨S32x32, .f32⟩
  | 41 => ⟨S32x32, .f32⟩
  | 42 => ⟨S32x32x1, .f32⟩
  | 43 => ⟨S32x32x1, .f32⟩
  | 44 => ⟨S32x32x1, .f32⟩
  | 45 => ⟨S32x32x1, .f32⟩
  | 46 => ⟨S32x32x4, .f32⟩
  | 47 => ⟨S_, .f32⟩
  | 48 => ⟨S32x32, .f32⟩
  | 49 => ⟨S32x32, .f32⟩
  | 50 => ⟨S_, .f32⟩
  | 51 => ⟨S32x32, .f32⟩
  | 52 => ⟨S32x32, .f32⟩
  | 53 => ⟨S_, .f32⟩
  | 54 => ⟨S32x32, .f32⟩
  | 55 => ⟨S32x32, .f32⟩
  | 56 => ⟨S_, .f32⟩
  | 57 => ⟨S32x32, .f32⟩
  | 58 => ⟨S32x32, .f32⟩
  | 59 => ⟨S32x32x1, .f32⟩
  | 60 => ⟨S32x32x1, .f32⟩
  | 61 => ⟨S32x32x1, .f32⟩
  | 62 => ⟨S32x32x1, .f32⟩
  | 63 => ⟨S32x32x4, .f32⟩
  | 64 => ⟨S32x32x1x4, .f32⟩
  | 65 => ⟨S32x32x1x4, .f32⟩
  | 66 => ⟨S32x32x1x4, .f32⟩
  | 67 => ⟨S32x32x3x4, .f32⟩
  | 68 => ⟨S3072x4, .f32⟩
  | 69 => ⟨S12x256, .f32⟩
  | 70 => ⟨S2x32x32x12, .f32⟩
  | 71 => ⟨S2x12x32x32, .f32⟩
  | 72 => ⟨S1x12x1x1, .f32⟩
  | 73 => ⟨S2x12x32x32, .f32⟩
  | 74 => ⟨S2x12x32x32, .f32⟩
  | 75 => ⟨S2x3x4x32x32, .f32⟩
  | 76 => ⟨S2x32x32x3x4, .f32⟩
  | 77 => ⟨S2x3072x4, .f32⟩
  | 78 => ⟨S_, .i32⟩
  | 79 => ⟨S2x400, .i32⟩
  | 80 => ⟨S2x400, .i1⟩
  | 81 => ⟨S_, .i32⟩
  | 82 => ⟨S2x400, .i32⟩
  | 83 => ⟨S2x400, .i32⟩
  | 84 => ⟨S2x400, .i32⟩
  | 85 => ⟨S2x400x1, .i32⟩
  | 86 => ⟨S2x400x4, .f32⟩
  | 87 => ⟨S2x3072x4, .f32⟩
  | 88 => ⟨S_, .i32⟩
  | 89 => ⟨S2x400, .i32⟩
  | 90 => ⟨S2x400, .i1⟩
  | 91 => ⟨S_, .i32⟩
  | 92 => ⟨S2x400, .i32⟩
  | 93 => ⟨S2x400, .i32⟩
  | 94 => ⟨S2x400, .i32⟩
  | 95 => ⟨S2x400x1, .i32⟩
  | 96 => ⟨S2x400x4, .f32⟩
  | 97 => ⟨S_, .f32⟩
  | 98 => ⟨S2x256x18x18, .f32⟩
  | 99 => ⟨S256x256x1x1, .f32⟩
  | 100 => ⟨S256x256, .f32⟩
  | 101 => ⟨S2x256x16x16, .f32⟩
  | 102 => ⟨S2x16x16x256, .f32⟩
  | 103 => ⟨S2x256x16x16, .f32⟩
  | 104 => ⟨S256x256x1x1, .f32⟩
  | 105 => ⟨S256x256, .f32⟩
  | 106 => ⟨S2x256x16x16, .f32⟩
  | 107 => ⟨S2x16x16x256, .f32⟩
  | 108 => ⟨S2x256x16x16, .f32⟩
  | 109 => ⟨S2x256x16x16, .f32⟩
  | 110 => ⟨S256x256x1x1, .f32⟩
  | 111 => ⟨S256x256, .f32⟩
  | 112 => ⟨S2x256x16x16, .f32⟩
  | 113 => ⟨S2x16x16x256, .f32⟩
  | 114 => ⟨S2x256x16x16, .f32⟩
  | 115 => ⟨S2x256x16x16, .f32⟩
  | 116 => ⟨S256x256x1x1, .f32⟩
  | 117 => ⟨S256x256, .f32⟩
  | 118 => ⟨S2x256x16x16, .f32⟩
  | 119 => ⟨S2x16x16x256, .f32⟩
  | 120 => ⟨S2x256x16x16, .f32⟩
  | 121 => ⟨S2x256x16x16, .f32⟩
  | 122 => ⟨S256x256x1x1, .f32⟩
  | 123 => ⟨S256x256, .f32⟩
  | 124 => ⟨S2x256x16x16, .f32⟩
  | 125 => ⟨S2x16x16x256, .f32⟩
  | 126 => ⟨S2x256x16x16, .f32⟩
  | 127 => ⟨S2x256x16x16, .f32⟩
  | _ => ⟨S2x256x64x64, .f32⟩

abbrev hbmTy0_3 (i : Nat) : BufTy := match i % 128 with
  | 0 => ⟨S256x256x1x1, .f32⟩
  | 1 => ⟨S256x256, .f32⟩
  | 2 => ⟨S2x256x16x16, .f32⟩
  | 3 => ⟨S2x16x16x256, .f32⟩
  | 4 => ⟨S2x256x16x16, .f32⟩
  | 5 => ⟨S2x256x16x16, .f32⟩
  | 6 => ⟨S256x256x1x1, .f32⟩
  | 7 => ⟨S256x256, .f32⟩
  | 8 => ⟨S2x256x16x16, .f32⟩
  | 9 => ⟨S2x16x16x256, .f32⟩
  | 10 => ⟨S2x256x16x16, .f32⟩
  | 11 => ⟨S2x256x16x16, .f32⟩
  | 12 => ⟨S256x256x1x1, .f32⟩
  | 13 => ⟨S256x256, .f32⟩
  | 14 => ⟨S2x256x16x16, .f32⟩
  | 15 => ⟨S2x16x16x256, .f32⟩
  | 16 => ⟨S2x256x16x16, .f32⟩
  | 17 => ⟨S2x256x16x16, .f32⟩
  | 18 => ⟨S256x256x1x1, .f32⟩
  | 19 => ⟨S256x256, .f32⟩
  | 20 => ⟨S2x256x16x16, .f32⟩
  | 21 => ⟨S2x16x16x256, .f32⟩
  | 22 => ⟨S2x256x16x16, .f32⟩
  | 23 => ⟨S2x256x16x16, .f32⟩
  | 24 => ⟨S1x256x1x1, .f32⟩
  | 25 => ⟨S2x256x16x16, .f32⟩
  | 26 => ⟨S2x256x16x16, .f32⟩
  | 27 => ⟨S_, .f32⟩
  | 28 => ⟨S2x256x16x16, .f32⟩
  | 29 => ⟨S2x256x16x16, .f32⟩
  | 30 => ⟨S3x256, .f32⟩
  | 31 => ⟨S2x16x16x3, .f32⟩
  | 32 => ⟨S2x3x16x16, .f32⟩
  | 33 => ⟨S1x3x1x1, .f32⟩
  | 34 => ⟨S2x3x16x16, .f32⟩
  | 35 => ⟨S2x3x16x16, .f32⟩
  | 36 => ⟨S2x16x16x3, .f32⟩
  | 37 => ⟨S2x768, .f32⟩
  | 38 => ⟨S2x400, .f32⟩
  | 39 => ⟨S2x400, .i32⟩
  | 40 => ⟨S16, .f32⟩
  | 41 => ⟨S_, .f32⟩
  | 42 => ⟨S16, .f32⟩
  | 43 => ⟨S16, .f32⟩
  | 44 => ⟨S_, .f32⟩
  | 45 => ⟨S16, .f32⟩
  | 46 => ⟨S16, .f32⟩
  | 47 => ⟨S16x16, .f32⟩
  | 48 => ⟨S16, .f32⟩
  | 49 => ⟨S_, .f32⟩
  | 50 => ⟨S16, .f32⟩
  | 51 => ⟨S16, .f32⟩
  | 52 => ⟨S_, .f32⟩
  | 53 => ⟨S16, .f32⟩
  | 54 => ⟨S16, .f32⟩
  | 55 => ⟨S16x1, .f32⟩
  | 56 => ⟨S16x16, .f32⟩
  | 57 => ⟨S_, .f32⟩
  | 58 => ⟨S16x16, .f32⟩
  | 59 => ⟨S16x16, .f32⟩
  | 60 => ⟨S_, .f32⟩
  | 61 => ⟨S16x16, .f32⟩
  | 62 => ⟨S16x16, .f32⟩
  | 63 => ⟨S_, .f32⟩
  | 64 => ⟨S16x16, .f32⟩
  | 65 => ⟨S16x16, .f32⟩
  | 66 => ⟨S_, .f32⟩
  | 67 => ⟨S16x16, .f32⟩
  | 68 => ⟨S16x16, .f32⟩
  | 69 => ⟨S16x16x1, .f32⟩
  | 70 => ⟨S16x16x1, .f32⟩
  | 71 => ⟨S16x16x1, .f32⟩
  | 72 => ⟨S16x16x1, .f32⟩
  | 73 => ⟨S16x16x4, .f32⟩
  | 74 => ⟨S_, .f32⟩
  | 75 => ⟨S16x16, .f32⟩
  | 76 => ⟨S16x16, .f32⟩
  | 77 => ⟨S_, .f32⟩
  | 78 => ⟨S16x16, .f32⟩
  | 79 => ⟨S16x16, .f32⟩
  | 80 => ⟨S_, .f32⟩
  | 81 => ⟨S16x16, .f32⟩
  | 82 => ⟨S16x16, .f32⟩
  | 83 => ⟨S_, .f32⟩
  | 84 => ⟨S16x16, .f32⟩
  | 85 => ⟨S16x16, .f32⟩
  | 86 => ⟨S16x16x1, .f32⟩
  | 87 => ⟨S16x16x1, .f32⟩
  | 88 => ⟨S16x16x1, .f32⟩
  | 89 => ⟨S16x16x1, .f32⟩
  | 90 => ⟨S16x16x4, .f32⟩
  | 91 => ⟨S_, .f32⟩
  | 92 => ⟨S16x16, .f32⟩
  | 93 => ⟨S16x16, .f32⟩
  | 94 => ⟨S_, .f32⟩
  | 95 => ⟨S16x16, .f32⟩
  | 96 => ⟨S16x16, .f32⟩
  | 97 => ⟨S_, .f32⟩
  | 98 => ⟨S16x16, .f32⟩
  | 99 => ⟨S16x16, .f32⟩
  | 100 => ⟨S_, .f32⟩
  | 101 => ⟨S16x16, .f32⟩
  | 102 => ⟨S16x16, .f32⟩
  | 103 => ⟨S16x16x1, .f32⟩
  | 104 => ⟨S16x16x1, .f32⟩
  | 105 => ⟨S16x16x1, .f32⟩
  | 106 => ⟨S16x16x1, .f32⟩
  | 107 => ⟨S16x16x4, .f32⟩
  | 108 => ⟨S16x16x1x4, .f32⟩
  | 109 => ⟨S16x16x1x4, .f32⟩
  | 110 => ⟨S16x16x1x4, .f32⟩
  | 111 => ⟨S16x16x3x4, .f32⟩
  | 112 => ⟨S768x4, .f32⟩
  | 113 => ⟨S12x256, .f32⟩
  | 114 => ⟨S2x16x16x12, .f32⟩
  | 115 => ⟨S2x12x16x16, .f32⟩
  | 116 => ⟨S1x12x1x1, .f32⟩
  | 117 => ⟨S2x12x16x16, .f32⟩
  | 118 => ⟨S2x12x16x16, .f32⟩
  | 119 => ⟨S2x3x4x16x16, .f32⟩
  | 120 => ⟨S2x16x16x3x4, .f32⟩
  | 121 => ⟨S2x768x4, .f32⟩
  | 122 => ⟨S_, .i32⟩
  | 123 => ⟨S2x400, .i32⟩
  | 124 => ⟨S2x400, .i1⟩
  | 125 => ⟨S_, .i32⟩
  | 126 => ⟨S2x400, .i32⟩
  | 127 => ⟨S2x400, .i32⟩
  | _ => ⟨S2x256x64x64, .f32⟩

abbrev hbmTy0_4 (i : Nat) : BufTy := match i % 128 with
  | 0 => ⟨S2x400, .i32⟩
  | 1 => ⟨S2x400x1, .i32⟩
  | 2 => ⟨S2x400x4, .f32⟩
  | 3 => ⟨S2x768x4, .f32⟩
  | 4 => ⟨S_, .i32⟩
  | 5 => ⟨S2x400, .i32⟩
  | 6 => ⟨S2x400, .i1⟩
  | 7 => ⟨S_, .i32⟩
  | 8 => ⟨S2x400, .i32⟩
  | 9 => ⟨S2x400, .i32⟩
  | 10 => ⟨S2x400, .i32⟩
  | 11 => ⟨S2x400x1, .i32⟩
  | 12 => ⟨S2x400x4, .f32⟩
  | 13 => ⟨S6x400x4, .f32⟩
  | 14 => ⟨S6x400x4, .f32⟩
  | 15 => ⟨S6x400x1, .f32⟩
  | 16 => ⟨S6x400, .f32⟩
  | 17 => ⟨S_, .f32⟩
  | 18 => ⟨S6x400, .f32⟩
  | 19 => ⟨S6x400, .f32⟩
  | 20 => ⟨S6x400x1, .f32⟩
  | 21 => ⟨S6x400, .f32⟩
  | 22 => ⟨S_, .f32⟩
  | 23 => ⟨S6x400, .f32⟩
  | 24 => ⟨S6x400, .f32⟩
  | 25 => ⟨S6x400x1, .f32⟩
  | 26 => ⟨S6x400, .f32⟩
  | 27 => ⟨S6x400x1, .f32⟩
  | 28 => ⟨S6x400, .f32⟩
  | 29 => ⟨S6x400, .f32⟩
  | 30 => ⟨S6x400x1, .f32⟩
  | 31 => ⟨S6x400, .f32⟩
  | 32 => ⟨S6x400x1, .f32⟩
  | 33 => ⟨S6x400, .f32⟩
  | 34 => ⟨S6x400, .f32⟩
  | 35 => ⟨S6x400x1, .f32⟩
  | 36 => ⟨S6x400, .f32⟩
  | 37 => ⟨S_, .f32⟩
  | 38 => ⟨S6x400, .f32⟩
  | 39 => ⟨S6x400, .f32⟩
  | 40 => ⟨S6x400, .f32⟩
  | 41 => ⟨S6x400x1, .f32⟩
  | 42 => ⟨S6x400, .f32⟩
  | 43 => ⟨S_, .f32⟩
  | 44 => ⟨S6x400, .f32⟩
  | 45 => ⟨S6x400, .f32⟩
  | 46 => ⟨S6x400, .f32⟩
  | 47 => ⟨S6x400x1, .f32⟩
  | 48 => ⟨S6x400, .f32⟩
  | 49 => ⟨S6x400, .f32⟩
  | 50 => ⟨S6x400, .f32⟩
  | 51 => ⟨S6x400x1, .f32⟩
  | 52 => ⟨S6x400, .f32⟩
  | 53 => ⟨S6x400, .f32⟩
  | 54 => ⟨S6x400, .f32⟩
  | 55 => ⟨S6x400, .f32⟩
  | 56 => ⟨S6x400, .f32⟩
  | 57 => ⟨S6x400, .f32⟩
  | 58 => ⟨S6x400, .f32⟩
  | 59 => ⟨S_, .f32⟩
  | 60 => ⟨S6x400, .f32⟩
  | 61 => ⟨S6x400, .f32⟩
  | 62 => ⟨S6x400, .f32⟩
  | 63 => ⟨S_, .f32⟩
  | 64 => ⟨S6x400, .f32⟩
  | 65 => ⟨S6x400, .f32⟩
  | 66 => ⟨S6x400, .f32⟩
  | 67 => ⟨S_, .f32⟩
  | 68 => ⟨S6x400, .f32⟩
  | 69 => ⟨S6x400, .f32⟩
  | 70 => ⟨S6x400, .f32⟩
  | 71 => ⟨S_, .f32⟩
  | 72 => ⟨S6x400, .f32⟩
  | 73 => ⟨S6x400, .f32⟩
  | 74 => ⟨S6x400, .f32⟩
  | 75 => ⟨S6x400x1, .f32⟩
  | 76 => ⟨S6x400x1, .f32⟩
  | 77 => ⟨S6x400x1, .f32⟩
  | 78 => ⟨S6x400x1, .f32⟩
  | 79 => ⟨S6x400x4, .f32⟩
  | 80 => ⟨S_, .f32⟩
  | 81 => ⟨S6x400x4, .f32⟩
  | 82 => ⟨S6x400x4, .f32⟩
  | 83 => ⟨S_, .f32⟩
  | 84 => ⟨S6x400x4, .f32⟩
  | 85 => ⟨S6x400x4, .f32⟩
  | 86 => ⟨S6x400x1, .f32⟩
  | 87 => ⟨S6x400, .f32⟩
  | 88 => ⟨S6x400x1, .f32⟩
  | 89 => ⟨S6x400, .f32⟩
  | 90 => ⟨S6x400, .f32⟩
  | 91 => ⟨S6x400x1, .f32⟩
  | 92 => ⟨S6x400, .f32⟩
  | 93 => ⟨S6x400x1, .f32⟩
  | 94 => ⟨S6x400, .f32⟩
  | 95 => ⟨S6x400, .f32⟩
  | 96 => ⟨S6x400, .f32⟩
  | 97 => ⟨S6x400x1, .f32⟩
  | 98 => ⟨S6x400, .f32⟩
  | 99 => ⟨S6x400x1, .f32⟩
  | 100 => ⟨S6x400x1, .f32⟩
  | 101 => ⟨S6x400, .f32⟩
  | 102 => ⟨S6x1x400, .f32⟩
  | 103 => ⟨S6x400x400, .f32⟩
  | 104 => ⟨S6x400x400, .f32⟩
  | 105 => ⟨S6x400x400, .f32⟩
  | 106 => ⟨S6x400x1, .f32⟩
  | 107 => ⟨S6x400, .f32⟩
  | 108 => ⟨S6x400x1, .f32⟩
  | 109 => ⟨S6x400x1, .f32⟩
  | 110 => ⟨S6x400, .f32⟩
  | 111 => ⟨S6x1x400, .f32⟩
  | 112 => ⟨S6x400x400, .f32⟩
  | 113 => ⟨S6x400x400, .f32⟩
  | 114 => ⟨S6x400x400, .f32⟩
  | 115 => ⟨S6x400x1, .f32⟩
  | 116 => ⟨S6x400, .f32⟩
  | 117 => ⟨S6x400x1, .f32⟩
  | 118 => ⟨S6x400x1, .f32⟩
  | 119 => ⟨S6x400, .f32⟩
  | 120 => ⟨S6x1x400, .f32⟩
  | 121 => ⟨S6x400x400, .f32⟩
  | 122 => ⟨S6x400x400, .f32⟩
  | 123 => ⟨S6x400x400, .f32⟩
  | 124 => ⟨S6x400x1, .f32⟩
  | 125 => ⟨S6x400, .f32⟩
  | 126 => ⟨S6x400x1, .f32⟩
  | 127 => ⟨S6x400x1, .f32⟩
  | _ => ⟨S2x256x64x64, .f32⟩

abbrev hbmTy0_5 (i : Nat) : BufTy := match i % 128 with
  | 0 => ⟨S6x400, .f32⟩
  | 1 => ⟨S6x1x400, .f32⟩
  | 2 => ⟨S6x400x400, .f32⟩
  | 3 => ⟨S6x400x400, .f32⟩
  | 4 => ⟨S6x400x400, .f32⟩
  | 5 => ⟨S6x400x400, .f32⟩
  | 6 => ⟨S_, .f32⟩
  | 7 => ⟨S6x400x400, .f32⟩
  | 8 => ⟨S6x400x400, .f32⟩
  | 9 => ⟨S6x400x400, .f32⟩
  | 10 => ⟨S_, .f32⟩
  | 11 => ⟨S6x400x400, .f32⟩
  | 12 => ⟨S6x400x400, .f32⟩
  | 13 => ⟨S6x400x400, .f32⟩
  | 14 => ⟨S6x400x1, .f32⟩
  | 15 => ⟨S6x1x400, .f32⟩
  | 16 => ⟨S6x400x400, .f32⟩
  | 17 => ⟨S6x400x400, .f32⟩
  | 18 => ⟨S6x400x400, .f32⟩
  | 19 => ⟨S6x400x400, .f32⟩
  | 20 => ⟨S_, .f32⟩
  | 21 => ⟨S6x400x400, .f32⟩
  | 22 => ⟨S6x400x400, .f32⟩
  | 23 => ⟨S6x400x400, .f32⟩
  | 24 => ⟨S_, .i1⟩
  | 25 => ⟨S6x400, .i1⟩
  | 26 => ⟨S_, .i32⟩
  | 27 => ⟨S_, .i32⟩
  | 28 => ⟨S6x400x400, .f32⟩
  | 29 => ⟨S_, .i32⟩
  | 30 => ⟨S_, .i32⟩
  | 31 => ⟨S6x400, .i1⟩
  | 32 => ⟨S_, .i32⟩
  | 33 => ⟨S_, .i1⟩
  | 34 => ⟨S_, .i32⟩
  | 35 => ⟨S_, .i32⟩
  | 36 => ⟨S_, .i32⟩
  | 37 => ⟨S_, .i1⟩
  | 38 => ⟨S_, .i32⟩
  | 39 => ⟨S_, .i32⟩
  | 40 => ⟨S_, .i32⟩
  | 41 => ⟨S_, .i32⟩
  | 42 => ⟨S_, .i32⟩
  | 43 => ⟨S_, .i32⟩
  | 44 => ⟨S6x1x400, .f32⟩
  | 45 => ⟨S6x400, .f32⟩
  | 46 => ⟨S_, .i32⟩
  | 47 => ⟨S_, .i1⟩
  | 48 => ⟨S_, .i32⟩
  | 49 => ⟨S_, .i32⟩
  | 50 => ⟨S_, .i32⟩
  | 51 => ⟨S_, .i32⟩
  | 52 => ⟨S_, .i32⟩
  | 53 => ⟨S6x1, .i1⟩
  | 54 => ⟨S_, .f32⟩
  | 55 => ⟨S6x400, .f32⟩
  | 56 => ⟨S6x400, .i1⟩
  | 57 => ⟨S400, .i32⟩
  | 58 => ⟨S_, .i32⟩
  | 59 => ⟨S400, .i32⟩
  | 60 => ⟨S400, .i1⟩
  | 61 => ⟨S1x400, .i1⟩
  | 62 => ⟨S6x400, .i1⟩
  | 63 => ⟨S6x400, .i1⟩
  | 64 => ⟨S6x400, .i1⟩
  | 65 => ⟨S6x400, .i1⟩
  | 66 => ⟨S6x400, .i1⟩
  | 67 => ⟨S6x400, .i1⟩
  | 68 => ⟨S_, .i32⟩
  | 69 => ⟨S_, .i32⟩
  | 70 => ⟨S6x400, .f32⟩
  | 71 => ⟨S_, .f32⟩
  | 72 => ⟨S6x400, .f32⟩
  | 73 => ⟨S6x400, .f32⟩
  | 74 => ⟨S6x100, .f32⟩
  | 75 => ⟨S6x100, .i32⟩
  | 76 => ⟨S_, .i32⟩
  | 77 => ⟨S6x100, .i32⟩
  | 78 => ⟨S6x100, .i1⟩
  | 79 => ⟨S_, .i32⟩
  | 80 => ⟨S6x100, .i32⟩
  | 81 => ⟨S6x100, .i32⟩
  | 82 => ⟨S6x100, .i32⟩
  | 83 => ⟨S6x100x1, .i32⟩
  | 84 => ⟨S6x100x4, .f32⟩
  | 85 => ⟨S3x2x100x4, .f32⟩
  | 86 => ⟨S2x3x100x4, .f32⟩
  | 87 => ⟨S2x300x4, .f32⟩
  | _ => ⟨S2x256x64x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S2x256x64x64, .f32⟩

abbrev bufTy : (tb : Table) → Fin (tcTables nBuf tb) → BufTy
  | .hbm, ⟨i, _⟩ => hbmTy i
  | _, _ => ⟨S2x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_cst : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_v15 : Ref sig .tc := ⟨.hbm, 25, rfl⟩
abbrev main_call0_v16 : Ref sig .tc := ⟨.hbm, 26, rfl⟩
abbrev main_call0_v17 : Ref sig .tc := ⟨.hbm, 27, rfl⟩
abbrev main_call0_v18 : Ref sig .tc := ⟨.hbm, 28, rfl⟩
abbrev main_call0_v19 : Ref sig .tc := ⟨.hbm, 29, rfl⟩
abbrev main_call0_v20 : Ref sig .tc := ⟨.hbm, 30, rfl⟩
abbrev main_call0_v21 : Ref sig .tc := ⟨.hbm, 31, rfl⟩
abbrev main_call0_v22 : Ref sig .tc := ⟨.hbm, 32, rfl⟩
abbrev main_call0_v23 : Ref sig .tc := ⟨.hbm, 33, rfl⟩
abbrev main_call0_v24 : Ref sig .tc := ⟨.hbm, 34, rfl⟩
abbrev main_call0_v25 : Ref sig .tc := ⟨.hbm, 35, rfl⟩
abbrev main_call0_v26 : Ref sig .tc := ⟨.hbm, 36, rfl⟩
abbrev main_call0_v27 : Ref sig .tc := ⟨.hbm, 37, rfl⟩
abbrev main_call0_v28 : Ref sig .tc := ⟨.hbm, 38, rfl⟩
abbrev main_call0_v29 : Ref sig .tc := ⟨.hbm, 39, rfl⟩
abbrev main_call0_v30 : Ref sig .tc := ⟨.hbm, 40, rfl⟩
abbrev main_call0_v31 : Ref sig .tc := ⟨.hbm, 41, rfl⟩
abbrev main_call0_v32 : Ref sig .tc := ⟨.hbm, 42, rfl⟩
abbrev main_call0_v33 : Ref sig .tc := ⟨.hbm, 43, rfl⟩
abbrev main_call0_v34 : Ref sig .tc := ⟨.hbm, 44, rfl⟩
abbrev main_call0_v35 : Ref sig .tc := ⟨.hbm, 45, rfl⟩
abbrev main_call0_v36 : Ref sig .tc := ⟨.hbm, 46, rfl⟩
abbrev main_call0_v37 : Ref sig .tc := ⟨.hbm, 47, rfl⟩
abbrev main_call0_v38 : Ref sig .tc := ⟨.hbm, 48, rfl⟩
abbrev main_call0_v39 : Ref sig .tc := ⟨.hbm, 49, rfl⟩
abbrev main_call0_v40 : Ref sig .tc := ⟨.hbm, 50, rfl⟩
abbrev main_call0_v41 : Ref sig .tc := ⟨.hbm, 51, rfl⟩
abbrev main_call0_v42 : Ref sig .tc := ⟨.hbm, 52, rfl⟩
abbrev main_call0_v43 : Ref sig .tc := ⟨.hbm, 53, rfl⟩
abbrev main_call0_v44 : Ref sig .tc := ⟨.hbm, 54, rfl⟩
abbrev main_call0_v45 : Ref sig .tc := ⟨.hbm, 55, rfl⟩
abbrev main_call0_v46 : Ref sig .tc := ⟨.hbm, 56, rfl⟩
abbrev main_call0_v47 : Ref sig .tc := ⟨.hbm, 57, rfl⟩
abbrev main_call0_v48 : Ref sig .tc := ⟨.hbm, 58, rfl⟩
abbrev main_call0_v49 : Ref sig .tc := ⟨.hbm, 59, rfl⟩
abbrev main_call0_v50 : Ref sig .tc := ⟨.hbm, 60, rfl⟩
abbrev main_call0_v51 : Ref sig .tc := ⟨.hbm, 61, rfl⟩
abbrev main_call0_v52 : Ref sig .tc := ⟨.hbm, 62, rfl⟩
abbrev main_call0_v53 : Ref sig .tc := ⟨.hbm, 63, rfl⟩
abbrev main_call0_v54 : Ref sig .tc := ⟨.hbm, 64, rfl⟩
abbrev main_call0_v55 : Ref sig .tc := ⟨.hbm, 65, rfl⟩
abbrev main_call0_v56 : Ref sig .tc := ⟨.hbm, 66, rfl⟩
abbrev main_call0_cst_0 : Ref sig .tc := ⟨.hbm, 67, rfl⟩
abbrev main_call0_v57 : Ref sig .tc := ⟨.hbm, 68, rfl⟩
abbrev main_v0 : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_call1_v3 : Ref sig .tc := ⟨.hbm, 73, rfl⟩
abbrev main_call1_v4 : Ref sig .tc := ⟨.hbm, 74, rfl⟩
abbrev main_call1_v5 : Ref sig .tc := ⟨.hbm, 75, rfl⟩
abbrev main_call1_v6 : Ref sig .tc := ⟨.hbm, 76, rfl⟩
abbrev main_v1 : Ref sig .tc := ⟨.hbm, 77, rfl⟩
abbrev main_values : Ref sig .tc := ⟨.hbm, 78, rfl⟩
abbrev main_indices : Ref sig .tc := ⟨.hbm, 79, rfl⟩
abbrev main_call2_v0 : Ref sig .tc := ⟨.hbm, 80, rfl⟩
abbrev main_call2_cst : Ref sig .tc := ⟨.hbm, 81, rfl⟩
abbrev main_call2_v1 : Ref sig .tc := ⟨.hbm, 82, rfl⟩
abbrev main_call2_v2 : Ref sig .tc := ⟨.hbm, 83, rfl⟩
abbrev main_call2_cst_0 : Ref sig .tc := ⟨.hbm, 84, rfl⟩
abbrev main_call2_v3 : Ref sig .tc := ⟨.hbm, 85, rfl⟩
abbrev main_call2_v4 : Ref sig .tc := ⟨.hbm, 86, rfl⟩
abbrev main_call2_v5 : Ref sig .tc := ⟨.hbm, 87, rfl⟩
abbrev main_call2_v6 : Ref sig .tc := ⟨.hbm, 88, rfl⟩
abbrev main_call2_cst_1 : Ref sig .tc := ⟨.hbm, 89, rfl⟩
abbrev main_call2_v7 : Ref sig .tc := ⟨.hbm, 90, rfl⟩
abbrev main_call2_v8 : Ref sig .tc := ⟨.hbm, 91, rfl⟩
abbrev main_call2_cst_2 : Ref sig .tc := ⟨.hbm, 92, rfl⟩
abbrev main_call2_v9 : Ref sig .tc := ⟨.hbm, 93, rfl⟩
abbrev main_call2_v10 : Ref sig .tc := ⟨.hbm, 94, rfl⟩
abbrev main_call2_v11 : Ref sig .tc := ⟨.hbm, 95, rfl⟩
abbrev main_call2_v12 : Ref sig .tc := ⟨.hbm, 96, rfl⟩
abbrev main_call2_cst_3 : Ref sig .tc := ⟨.hbm, 97, rfl⟩
abbrev main_call2_v13 : Ref sig .tc := ⟨.hbm, 98, rfl⟩
abbrev main_call2_v14 : Ref sig .tc := ⟨.hbm, 99, rfl⟩
abbrev main_call2_cst_4 : Ref sig .tc := ⟨.hbm, 100, rfl⟩
abbrev main_call2_v15 : Ref sig .tc := ⟨.hbm, 101, rfl⟩
abbrev main_call2_v16 : Ref sig .tc := ⟨.hbm, 102, rfl⟩
abbrev main_call2_cst_5 : Ref sig .tc := ⟨.hbm, 103, rfl⟩
abbrev main_call2_v17 : Ref sig .tc := ⟨.hbm, 104, rfl⟩
abbrev main_call2_v18 : Ref sig .tc := ⟨.hbm, 105, rfl⟩
abbrev main_call2_cst_6 : Ref sig .tc := ⟨.hbm, 106, rfl⟩
abbrev main_call2_v19 : Ref sig .tc := ⟨.hbm, 107, rfl⟩
abbrev main_call2_v20 : Ref sig .tc := ⟨.hbm, 108, rfl⟩
abbrev main_call2_v21 : Ref sig .tc := ⟨.hbm, 109, rfl⟩
abbrev main_call2_v22 : Ref sig .tc := ⟨.hbm, 110, rfl⟩
abbrev main_call2_v23 : Ref sig .tc := ⟨.hbm, 111, rfl⟩
abbrev main_call2_v24 : Ref sig .tc := ⟨.hbm, 112, rfl⟩
abbrev main_call2_v25 : Ref sig .tc := ⟨.hbm, 113, rfl⟩
abbrev main_call2_cst_7 : Ref sig .tc := ⟨.hbm, 114, rfl⟩
abbrev main_call2_v26 : Ref sig .tc := ⟨.hbm, 115, rfl⟩
abbrev main_call2_v27 : Ref sig .tc := ⟨.hbm, 116, rfl⟩
abbrev main_call2_cst_8 : Ref sig .tc := ⟨.hbm, 117, rfl⟩
abbrev main_call2_v28 : Ref sig .tc := ⟨.hbm, 118, rfl⟩
abbrev main_call2_v29 : Ref sig .tc := ⟨.hbm, 119, rfl⟩
abbrev main_call2_cst_9 : Ref sig .tc := ⟨.hbm, 120, rfl⟩
abbrev main_call2_v30 : Ref sig .tc := ⟨.hbm, 121, rfl⟩
abbrev main_call2_v31 : Ref sig .tc := ⟨.hbm, 122, rfl⟩
abbrev main_call2_cst_10 : Ref sig .tc := ⟨.hbm, 123, rfl⟩
abbrev main_call2_v32 : Ref sig .tc := ⟨.hbm, 124, rfl⟩
abbrev main_call2_v33 : Ref sig .tc := ⟨.hbm, 125, rfl⟩
abbrev main_call2_v34 : Ref sig .tc := ⟨.hbm, 126, rfl⟩
abbrev main_call2_v35 : Ref sig .tc := ⟨.hbm, 127, rfl⟩
abbrev main_call2_v36 : Ref sig .tc := ⟨.hbm, 128, rfl⟩
abbrev main_call2_v37 : Ref sig .tc := ⟨.hbm, 129, rfl⟩
abbrev main_call2_v38 : Ref sig .tc := ⟨.hbm, 130, rfl⟩
abbrev main_call2_cst_11 : Ref sig .tc := ⟨.hbm, 131, rfl⟩
abbrev main_call2_v39 : Ref sig .tc := ⟨.hbm, 132, rfl⟩
abbrev main_call2_v40 : Ref sig .tc := ⟨.hbm, 133, rfl⟩
abbrev main_call2_cst_12 : Ref sig .tc := ⟨.hbm, 134, rfl⟩
abbrev main_call2_v41 : Ref sig .tc := ⟨.hbm, 135, rfl⟩
abbrev main_call2_v42 : Ref sig .tc := ⟨.hbm, 136, rfl⟩
abbrev main_call2_cst_13 : Ref sig .tc := ⟨.hbm, 137, rfl⟩
abbrev main_call2_v43 : Ref sig .tc := ⟨.hbm, 138, rfl⟩
abbrev main_call2_v44 : Ref sig .tc := ⟨.hbm, 139, rfl⟩
abbrev main_call2_cst_14 : Ref sig .tc := ⟨.hbm, 140, rfl⟩
abbrev main_call2_v45 : Ref sig .tc := ⟨.hbm, 141, rfl⟩
abbrev main_call2_v46 : Ref sig .tc := ⟨.hbm, 142, rfl⟩
abbrev main_call2_v47 : Ref sig .tc := ⟨.hbm, 143, rfl⟩
abbrev main_call2_v48 : Ref sig .tc := ⟨.hbm, 144, rfl⟩
abbrev main_call2_v49 : Ref sig .tc := ⟨.hbm, 145, rfl⟩
abbrev main_call2_v50 : Ref sig .tc := ⟨.hbm, 146, rfl⟩
abbrev main_call2_v51 : Ref sig .tc := ⟨.hbm, 147, rfl⟩
abbrev main_call2_v52 : Ref sig .tc := ⟨.hbm, 148, rfl⟩
abbrev main_call2_v53 : Ref sig .tc := ⟨.hbm, 149, rfl⟩
abbrev main_call2_v54 : Ref sig .tc := ⟨.hbm, 150, rfl⟩
abbrev main_call2_v55 : Ref sig .tc := ⟨.hbm, 151, rfl⟩
abbrev main_v2 : Ref sig .tc := ⟨.hbm, 152, rfl⟩
abbrev main_call3_v0 : Ref sig .tc := ⟨.hbm, 153, rfl⟩
abbrev main_call3_v1 : Ref sig .tc := ⟨.hbm, 154, rfl⟩
abbrev main_call3_v2 : Ref sig .tc := ⟨.hbm, 155, rfl⟩
abbrev main_call3_v3 : Ref sig .tc := ⟨.hbm, 156, rfl⟩
abbrev main_call3_v4 : Ref sig .tc := ⟨.hbm, 157, rfl⟩
abbrev main_call3_v5 : Ref sig .tc := ⟨.hbm, 158, rfl⟩
abbrev main_call3_v6 : Ref sig .tc := ⟨.hbm, 159, rfl⟩
abbrev main_call3_v7 : Ref sig .tc := ⟨.hbm, 160, rfl⟩
abbrev main_v3 : Ref sig .tc := ⟨.hbm, 161, rfl⟩
abbrev main_call4_c : Ref sig .tc := ⟨.hbm, 162, rfl⟩
abbrev main_call4_v0 : Ref sig .tc := ⟨.hbm, 163, rfl⟩
abbrev main_call4_v1 : Ref sig .tc := ⟨.hbm, 164, rfl⟩
abbrev main_call4_c_0 : Ref sig .tc := ⟨.hbm, 165, rfl⟩
abbrev main_call4_v2 : Ref sig .tc := ⟨.hbm, 166, rfl⟩
abbrev main_call4_v3 : Ref sig .tc := ⟨.hbm, 167, rfl⟩
abbrev main_call4_v4 : Ref sig .tc := ⟨.hbm, 168, rfl⟩
abbrev main_call4_v5 : Ref sig .tc := ⟨.hbm, 169, rfl⟩
abbrev main_v4 : Ref sig .tc := ⟨.hbm, 170, rfl⟩
abbrev main_v5 : Ref sig .tc := ⟨.hbm, 171, rfl⟩
abbrev main_call5_c : Ref sig .tc := ⟨.hbm, 172, rfl⟩
abbrev main_call5_v0 : Ref sig .tc := ⟨.hbm, 173, rfl⟩
abbrev main_call5_v1 : Ref sig .tc := ⟨.hbm, 174, rfl⟩
abbrev main_call5_c_0 : Ref sig .tc := ⟨.hbm, 175, rfl⟩
abbrev main_call5_v2 : Ref sig .tc := ⟨.hbm, 176, rfl⟩
abbrev main_call5_v3 : Ref sig .tc := ⟨.hbm, 177, rfl⟩
abbrev main_call5_v4 : Ref sig .tc := ⟨.hbm, 178, rfl⟩
abbrev main_call5_v5 : Ref sig .tc := ⟨.hbm, 179, rfl⟩
abbrev main_v6 : Ref sig .tc := ⟨.hbm, 180, rfl⟩
abbrev main_call6_cst : Ref sig .tc := ⟨.hbm, 181, rfl⟩
abbrev main_call6_v0 : Ref sig .tc := ⟨.hbm, 182, rfl⟩
abbrev main_call6_v1 : Ref sig .tc := ⟨.hbm, 183, rfl⟩
abbrev main_call6_v2 : Ref sig .tc := ⟨.hbm, 184, rfl⟩
abbrev main_call6_v3 : Ref sig .tc := ⟨.hbm, 185, rfl⟩
abbrev main_call6_v4 : Ref sig .tc := ⟨.hbm, 186, rfl⟩
abbrev main_call6_v5 : Ref sig .tc := ⟨.hbm, 187, rfl⟩
abbrev main_call6_v6 : Ref sig .tc := ⟨.hbm, 188, rfl⟩
abbrev main_call6_v7 : Ref sig .tc := ⟨.hbm, 189, rfl⟩
abbrev main_call6_v8 : Ref sig .tc := ⟨.hbm, 190, rfl⟩
abbrev main_call6_v9 : Ref sig .tc := ⟨.hbm, 191, rfl⟩
abbrev main_call6_v10 : Ref sig .tc := ⟨.hbm, 192, rfl⟩
abbrev main_call6_v11 : Ref sig .tc := ⟨.hbm, 193, rfl⟩
abbrev main_call6_v12 : Ref sig .tc := ⟨.hbm, 194, rfl⟩
abbrev main_call6_v13 : Ref sig .tc := ⟨.hbm, 195, rfl⟩
abbrev main_call6_v14 : Ref sig .tc := ⟨.hbm, 196, rfl⟩
abbrev main_call6_v15 : Ref sig .tc := ⟨.hbm, 197, rfl⟩
abbrev main_call6_v16 : Ref sig .tc := ⟨.hbm, 198, rfl⟩
abbrev main_call6_v17 : Ref sig .tc := ⟨.hbm, 199, rfl⟩
abbrev main_call6_v18 : Ref sig .tc := ⟨.hbm, 200, rfl⟩
abbrev main_call6_v19 : Ref sig .tc := ⟨.hbm, 201, rfl⟩
abbrev main_call6_v20 : Ref sig .tc := ⟨.hbm, 202, rfl⟩
abbrev main_call6_v21 : Ref sig .tc := ⟨.hbm, 203, rfl⟩
abbrev main_call6_v22 : Ref sig .tc := ⟨.hbm, 204, rfl⟩
abbrev main_call6_v23 : Ref sig .tc := ⟨.hbm, 205, rfl⟩
abbrev main_call6_v24 : Ref sig .tc := ⟨.hbm, 206, rfl⟩
abbrev main_call6_v25 : Ref sig .tc := ⟨.hbm, 207, rfl⟩
abbrev main_call6_v26 : Ref sig .tc := ⟨.hbm, 208, rfl⟩
abbrev main_call6_v27 : Ref sig .tc := ⟨.hbm, 209, rfl⟩
abbrev main_call6_v28 : Ref sig .tc := ⟨.hbm, 210, rfl⟩
abbrev main_call6_v29 : Ref sig .tc := ⟨.hbm, 211, rfl⟩
abbrev main_call6_v30 : Ref sig .tc := ⟨.hbm, 212, rfl⟩
abbrev main_call6_v31 : Ref sig .tc := ⟨.hbm, 213, rfl⟩
abbrev main_call6_v32 : Ref sig .tc := ⟨.hbm, 214, rfl⟩
abbrev main_call6_v33 : Ref sig .tc := ⟨.hbm, 215, rfl⟩
abbrev main_call6_v34 : Ref sig .tc := ⟨.hbm, 216, rfl⟩
abbrev main_call6_v35 : Ref sig .tc := ⟨.hbm, 217, rfl⟩
abbrev main_call6_v36 : Ref sig .tc := ⟨.hbm, 218, rfl⟩
abbrev main_call6_v37 : Ref sig .tc := ⟨.hbm, 219, rfl⟩
abbrev main_call6_v38 : Ref sig .tc := ⟨.hbm, 220, rfl⟩
abbrev main_call6_v39 : Ref sig .tc := ⟨.hbm, 221, rfl⟩
abbrev main_call6_v40 : Ref sig .tc := ⟨.hbm, 222, rfl⟩
abbrev main_call6_v41 : Ref sig .tc := ⟨.hbm, 223, rfl⟩
abbrev main_call6_v42 : Ref sig .tc := ⟨.hbm, 224, rfl⟩
abbrev main_call6_v43 : Ref sig .tc := ⟨.hbm, 225, rfl⟩
abbrev main_call6_v44 : Ref sig .tc := ⟨.hbm, 226, rfl⟩
abbrev main_call6_v45 : Ref sig .tc := ⟨.hbm, 227, rfl⟩
abbrev main_call6_v46 : Ref sig .tc := ⟨.hbm, 228, rfl⟩
abbrev main_call6_v47 : Ref sig .tc := ⟨.hbm, 229, rfl⟩
abbrev main_call6_v48 : Ref sig .tc := ⟨.hbm, 230, rfl⟩
abbrev main_call6_v49 : Ref sig .tc := ⟨.hbm, 231, rfl⟩
abbrev main_call6_v50 : Ref sig .tc := ⟨.hbm, 232, rfl⟩
abbrev main_call6_v51 : Ref sig .tc := ⟨.hbm, 233, rfl⟩
abbrev main_call6_v52 : Ref sig .tc := ⟨.hbm, 234, rfl⟩
abbrev main_call6_v53 : Ref sig .tc := ⟨.hbm, 235, rfl⟩
abbrev main_call6_v54 : Ref sig .tc := ⟨.hbm, 236, rfl⟩
abbrev main_call6_v55 : Ref sig .tc := ⟨.hbm, 237, rfl⟩
abbrev main_call6_v56 : Ref sig .tc := ⟨.hbm, 238, rfl⟩
abbrev main_call6_cst_0 : Ref sig .tc := ⟨.hbm, 239, rfl⟩
abbrev main_call6_v57 : Ref sig .tc := ⟨.hbm, 240, rfl⟩
abbrev main_v7 : Ref sig .tc := ⟨.hbm, 241, rfl⟩
abbrev main_call7_v0 : Ref sig .tc := ⟨.hbm, 242, rfl⟩
abbrev main_call7_v1 : Ref sig .tc := ⟨.hbm, 243, rfl⟩
abbrev main_call7_v2 : Ref sig .tc := ⟨.hbm, 244, rfl⟩
abbrev main_call7_v3 : Ref sig .tc := ⟨.hbm, 245, rfl⟩
abbrev main_call7_v4 : Ref sig .tc := ⟨.hbm, 246, rfl⟩
abbrev main_call7_v5 : Ref sig .tc := ⟨.hbm, 247, rfl⟩
abbrev main_call7_v6 : Ref sig .tc := ⟨.hbm, 248, rfl⟩
abbrev main_v8 : Ref sig .tc := ⟨.hbm, 249, rfl⟩
abbrev main_values_0 : Ref sig .tc := ⟨.hbm, 250, rfl⟩
abbrev main_indices_1 : Ref sig .tc := ⟨.hbm, 251, rfl⟩
abbrev main_call8_v0 : Ref sig .tc := ⟨.hbm, 252, rfl⟩
abbrev main_call8_cst : Ref sig .tc := ⟨.hbm, 253, rfl⟩
abbrev main_call8_v1 : Ref sig .tc := ⟨.hbm, 254, rfl⟩
abbrev main_call8_v2 : Ref sig .tc := ⟨.hbm, 255, rfl⟩
abbrev main_call8_cst_0 : Ref sig .tc := ⟨.hbm, 256, rfl⟩
abbrev main_call8_v3 : Ref sig .tc := ⟨.hbm, 257, rfl⟩
abbrev main_call8_v4 : Ref sig .tc := ⟨.hbm, 258, rfl⟩
abbrev main_call8_v5 : Ref sig .tc := ⟨.hbm, 259, rfl⟩
abbrev main_call8_v6 : Ref sig .tc := ⟨.hbm, 260, rfl⟩
abbrev main_call8_cst_1 : Ref sig .tc := ⟨.hbm, 261, rfl⟩
abbrev main_call8_v7 : Ref sig .tc := ⟨.hbm, 262, rfl⟩
abbrev main_call8_v8 : Ref sig .tc := ⟨.hbm, 263, rfl⟩
abbrev main_call8_cst_2 : Ref sig .tc := ⟨.hbm, 264, rfl⟩
abbrev main_call8_v9 : Ref sig .tc := ⟨.hbm, 265, rfl⟩
abbrev main_call8_v10 : Ref sig .tc := ⟨.hbm, 266, rfl⟩
abbrev main_call8_v11 : Ref sig .tc := ⟨.hbm, 267, rfl⟩
abbrev main_call8_v12 : Ref sig .tc := ⟨.hbm, 268, rfl⟩
abbrev main_call8_cst_3 : Ref sig .tc := ⟨.hbm, 269, rfl⟩
abbrev main_call8_v13 : Ref sig .tc := ⟨.hbm, 270, rfl⟩
abbrev main_call8_v14 : Ref sig .tc := ⟨.hbm, 271, rfl⟩
abbrev main_call8_cst_4 : Ref sig .tc := ⟨.hbm, 272, rfl⟩
abbrev main_call8_v15 : Ref sig .tc := ⟨.hbm, 273, rfl⟩
abbrev main_call8_v16 : Ref sig .tc := ⟨.hbm, 274, rfl⟩
abbrev main_call8_cst_5 : Ref sig .tc := ⟨.hbm, 275, rfl⟩
abbrev main_call8_v17 : Ref sig .tc := ⟨.hbm, 276, rfl⟩
abbrev main_call8_v18 : Ref sig .tc := ⟨.hbm, 277, rfl⟩
abbrev main_call8_cst_6 : Ref sig .tc := ⟨.hbm, 278, rfl⟩
abbrev main_call8_v19 : Ref sig .tc := ⟨.hbm, 279, rfl⟩
abbrev main_call8_v20 : Ref sig .tc := ⟨.hbm, 280, rfl⟩
abbrev main_call8_v21 : Ref sig .tc := ⟨.hbm, 281, rfl⟩
abbrev main_call8_v22 : Ref sig .tc := ⟨.hbm, 282, rfl⟩
abbrev main_call8_v23 : Ref sig .tc := ⟨.hbm, 283, rfl⟩
abbrev main_call8_v24 : Ref sig .tc := ⟨.hbm, 284, rfl⟩
abbrev main_call8_v25 : Ref sig .tc := ⟨.hbm, 285, rfl⟩
abbrev main_call8_cst_7 : Ref sig .tc := ⟨.hbm, 286, rfl⟩
abbrev main_call8_v26 : Ref sig .tc := ⟨.hbm, 287, rfl⟩
abbrev main_call8_v27 : Ref sig .tc := ⟨.hbm, 288, rfl⟩
abbrev main_call8_cst_8 : Ref sig .tc := ⟨.hbm, 289, rfl⟩
abbrev main_call8_v28 : Ref sig .tc := ⟨.hbm, 290, rfl⟩
abbrev main_call8_v29 : Ref sig .tc := ⟨.hbm, 291, rfl⟩
abbrev main_call8_cst_9 : Ref sig .tc := ⟨.hbm, 292, rfl⟩
abbrev main_call8_v30 : Ref sig .tc := ⟨.hbm, 293, rfl⟩
abbrev main_call8_v31 : Ref sig .tc := ⟨.hbm, 294, rfl⟩
abbrev main_call8_cst_10 : Ref sig .tc := ⟨.hbm, 295, rfl⟩
abbrev main_call8_v32 : Ref sig .tc := ⟨.hbm, 296, rfl⟩
abbrev main_call8_v33 : Ref sig .tc := ⟨.hbm, 297, rfl⟩
abbrev main_call8_v34 : Ref sig .tc := ⟨.hbm, 298, rfl⟩
abbrev main_call8_v35 : Ref sig .tc := ⟨.hbm, 299, rfl⟩
abbrev main_call8_v36 : Ref sig .tc := ⟨.hbm, 300, rfl⟩
abbrev main_call8_v37 : Ref sig .tc := ⟨.hbm, 301, rfl⟩
abbrev main_call8_v38 : Ref sig .tc := ⟨.hbm, 302, rfl⟩
abbrev main_call8_cst_11 : Ref sig .tc := ⟨.hbm, 303, rfl⟩
abbrev main_call8_v39 : Ref sig .tc := ⟨.hbm, 304, rfl⟩
abbrev main_call8_v40 : Ref sig .tc := ⟨.hbm, 305, rfl⟩
abbrev main_call8_cst_12 : Ref sig .tc := ⟨.hbm, 306, rfl⟩
abbrev main_call8_v41 : Ref sig .tc := ⟨.hbm, 307, rfl⟩
abbrev main_call8_v42 : Ref sig .tc := ⟨.hbm, 308, rfl⟩
abbrev main_call8_cst_13 : Ref sig .tc := ⟨.hbm, 309, rfl⟩
abbrev main_call8_v43 : Ref sig .tc := ⟨.hbm, 310, rfl⟩
abbrev main_call8_v44 : Ref sig .tc := ⟨.hbm, 311, rfl⟩
abbrev main_call8_cst_14 : Ref sig .tc := ⟨.hbm, 312, rfl⟩
abbrev main_call8_v45 : Ref sig .tc := ⟨.hbm, 313, rfl⟩
abbrev main_call8_v46 : Ref sig .tc := ⟨.hbm, 314, rfl⟩
abbrev main_call8_v47 : Ref sig .tc := ⟨.hbm, 315, rfl⟩
abbrev main_call8_v48 : Ref sig .tc := ⟨.hbm, 316, rfl⟩
abbrev main_call8_v49 : Ref sig .tc := ⟨.hbm, 317, rfl⟩
abbrev main_call8_v50 : Ref sig .tc := ⟨.hbm, 318, rfl⟩
abbrev main_call8_v51 : Ref sig .tc := ⟨.hbm, 319, rfl⟩
abbrev main_call8_v52 : Ref sig .tc := ⟨.hbm, 320, rfl⟩
abbrev main_call8_v53 : Ref sig .tc := ⟨.hbm, 321, rfl⟩
abbrev main_call8_v54 : Ref sig .tc := ⟨.hbm, 322, rfl⟩
abbrev main_call8_v55 : Ref sig .tc := ⟨.hbm, 323, rfl⟩
abbrev main_v9 : Ref sig .tc := ⟨.hbm, 324, rfl⟩
abbrev main_call9_v0 : Ref sig .tc := ⟨.hbm, 325, rfl⟩
abbrev main_call9_v1 : Ref sig .tc := ⟨.hbm, 326, rfl⟩
abbrev main_call9_v2 : Ref sig .tc := ⟨.hbm, 327, rfl⟩
abbrev main_call9_v3 : Ref sig .tc := ⟨.hbm, 328, rfl⟩
abbrev main_call9_v4 : Ref sig .tc := ⟨.hbm, 329, rfl⟩
abbrev main_call9_v5 : Ref sig .tc := ⟨.hbm, 330, rfl⟩
abbrev main_call9_v6 : Ref sig .tc := ⟨.hbm, 331, rfl⟩
abbrev main_call9_v7 : Ref sig .tc := ⟨.hbm, 332, rfl⟩
abbrev main_v10 : Ref sig .tc := ⟨.hbm, 333, rfl⟩
abbrev main_call10_c : Ref sig .tc := ⟨.hbm, 334, rfl⟩
abbrev main_call10_v0 : Ref sig .tc := ⟨.hbm, 335, rfl⟩
abbrev main_call10_v1 : Ref sig .tc := ⟨.hbm, 336, rfl⟩
abbrev main_call10_c_0 : Ref sig .tc := ⟨.hbm, 337, rfl⟩
abbrev main_call10_v2 : Ref sig .tc := ⟨.hbm, 338, rfl⟩
abbrev main_call10_v3 : Ref sig .tc := ⟨.hbm, 339, rfl⟩
abbrev main_call10_v4 : Ref sig .tc := ⟨.hbm, 340, rfl⟩
abbrev main_call10_v5 : Ref sig .tc := ⟨.hbm, 341, rfl⟩
abbrev main_v11 : Ref sig .tc := ⟨.hbm, 342, rfl⟩
abbrev main_v12 : Ref sig .tc := ⟨.hbm, 343, rfl⟩
abbrev main_call11_c : Ref sig .tc := ⟨.hbm, 344, rfl⟩
abbrev main_call11_v0 : Ref sig .tc := ⟨.hbm, 345, rfl⟩
abbrev main_call11_v1 : Ref sig .tc := ⟨.hbm, 346, rfl⟩
abbrev main_call11_c_0 : Ref sig .tc := ⟨.hbm, 347, rfl⟩
abbrev main_call11_v2 : Ref sig .tc := ⟨.hbm, 348, rfl⟩
abbrev main_call11_v3 : Ref sig .tc := ⟨.hbm, 349, rfl⟩
abbrev main_call11_v4 : Ref sig .tc := ⟨.hbm, 350, rfl⟩
abbrev main_call11_v5 : Ref sig .tc := ⟨.hbm, 351, rfl⟩
abbrev main_v13 : Ref sig .tc := ⟨.hbm, 352, rfl⟩
abbrev main_call12_cst : Ref sig .tc := ⟨.hbm, 353, rfl⟩
abbrev main_call12_v0 : Ref sig .tc := ⟨.hbm, 354, rfl⟩
abbrev main_call12_v1 : Ref sig .tc := ⟨.hbm, 355, rfl⟩
abbrev main_call12_v2 : Ref sig .tc := ⟨.hbm, 356, rfl⟩
abbrev main_call12_v3 : Ref sig .tc := ⟨.hbm, 357, rfl⟩
abbrev main_call12_v4 : Ref sig .tc := ⟨.hbm, 358, rfl⟩
abbrev main_call12_v5 : Ref sig .tc := ⟨.hbm, 359, rfl⟩
abbrev main_call12_v6 : Ref sig .tc := ⟨.hbm, 360, rfl⟩
abbrev main_call12_v7 : Ref sig .tc := ⟨.hbm, 361, rfl⟩
abbrev main_call12_v8 : Ref sig .tc := ⟨.hbm, 362, rfl⟩
abbrev main_call12_v9 : Ref sig .tc := ⟨.hbm, 363, rfl⟩
abbrev main_call12_v10 : Ref sig .tc := ⟨.hbm, 364, rfl⟩
abbrev main_call12_v11 : Ref sig .tc := ⟨.hbm, 365, rfl⟩
abbrev main_call12_v12 : Ref sig .tc := ⟨.hbm, 366, rfl⟩
abbrev main_call12_v13 : Ref sig .tc := ⟨.hbm, 367, rfl⟩
abbrev main_call12_v14 : Ref sig .tc := ⟨.hbm, 368, rfl⟩
abbrev main_call12_v15 : Ref sig .tc := ⟨.hbm, 369, rfl⟩
abbrev main_call12_v16 : Ref sig .tc := ⟨.hbm, 370, rfl⟩
abbrev main_call12_v17 : Ref sig .tc := ⟨.hbm, 371, rfl⟩
abbrev main_call12_v18 : Ref sig .tc := ⟨.hbm, 372, rfl⟩
abbrev main_call12_v19 : Ref sig .tc := ⟨.hbm, 373, rfl⟩
abbrev main_call12_v20 : Ref sig .tc := ⟨.hbm, 374, rfl⟩
abbrev main_call12_v21 : Ref sig .tc := ⟨.hbm, 375, rfl⟩
abbrev main_call12_v22 : Ref sig .tc := ⟨.hbm, 376, rfl⟩
abbrev main_call12_v23 : Ref sig .tc := ⟨.hbm, 377, rfl⟩
abbrev main_call12_v24 : Ref sig .tc := ⟨.hbm, 378, rfl⟩
abbrev main_call12_v25 : Ref sig .tc := ⟨.hbm, 379, rfl⟩
abbrev main_call12_v26 : Ref sig .tc := ⟨.hbm, 380, rfl⟩
abbrev main_call12_v27 : Ref sig .tc := ⟨.hbm, 381, rfl⟩
abbrev main_call12_v28 : Ref sig .tc := ⟨.hbm, 382, rfl⟩
abbrev main_call12_v29 : Ref sig .tc := ⟨.hbm, 383, rfl⟩
abbrev main_call12_v30 : Ref sig .tc := ⟨.hbm, 384, rfl⟩
abbrev main_call12_v31 : Ref sig .tc := ⟨.hbm, 385, rfl⟩
abbrev main_call12_v32 : Ref sig .tc := ⟨.hbm, 386, rfl⟩
abbrev main_call12_v33 : Ref sig .tc := ⟨.hbm, 387, rfl⟩
abbrev main_call12_v34 : Ref sig .tc := ⟨.hbm, 388, rfl⟩
abbrev main_call12_v35 : Ref sig .tc := ⟨.hbm, 389, rfl⟩
abbrev main_call12_v36 : Ref sig .tc := ⟨.hbm, 390, rfl⟩
abbrev main_call12_v37 : Ref sig .tc := ⟨.hbm, 391, rfl⟩
abbrev main_call12_v38 : Ref sig .tc := ⟨.hbm, 392, rfl⟩
abbrev main_call12_v39 : Ref sig .tc := ⟨.hbm, 393, rfl⟩
abbrev main_call12_v40 : Ref sig .tc := ⟨.hbm, 394, rfl⟩
abbrev main_call12_v41 : Ref sig .tc := ⟨.hbm, 395, rfl⟩
abbrev main_call12_v42 : Ref sig .tc := ⟨.hbm, 396, rfl⟩
abbrev main_call12_v43 : Ref sig .tc := ⟨.hbm, 397, rfl⟩
abbrev main_call12_v44 : Ref sig .tc := ⟨.hbm, 398, rfl⟩
abbrev main_call12_v45 : Ref sig .tc := ⟨.hbm, 399, rfl⟩
abbrev main_call12_v46 : Ref sig .tc := ⟨.hbm, 400, rfl⟩
abbrev main_call12_v47 : Ref sig .tc := ⟨.hbm, 401, rfl⟩
abbrev main_call12_v48 : Ref sig .tc := ⟨.hbm, 402, rfl⟩
abbrev main_call12_v49 : Ref sig .tc := ⟨.hbm, 403, rfl⟩
abbrev main_call12_v50 : Ref sig .tc := ⟨.hbm, 404, rfl⟩
abbrev main_call12_v51 : Ref sig .tc := ⟨.hbm, 405, rfl⟩
abbrev main_call12_v52 : Ref sig .tc := ⟨.hbm, 406, rfl⟩
abbrev main_call12_v53 : Ref sig .tc := ⟨.hbm, 407, rfl⟩
abbrev main_call12_v54 : Ref sig .tc := ⟨.hbm, 408, rfl⟩
abbrev main_call12_v55 : Ref sig .tc := ⟨.hbm, 409, rfl⟩
abbrev main_call12_v56 : Ref sig .tc := ⟨.hbm, 410, rfl⟩
abbrev main_call12_cst_0 : Ref sig .tc := ⟨.hbm, 411, rfl⟩
abbrev main_call12_v57 : Ref sig .tc := ⟨.hbm, 412, rfl⟩
abbrev main_v14 : Ref sig .tc := ⟨.hbm, 413, rfl⟩
abbrev main_call13_v0 : Ref sig .tc := ⟨.hbm, 414, rfl⟩
abbrev main_call13_v1 : Ref sig .tc := ⟨.hbm, 415, rfl⟩
abbrev main_call13_v2 : Ref sig .tc := ⟨.hbm, 416, rfl⟩
abbrev main_call13_v3 : Ref sig .tc := ⟨.hbm, 417, rfl⟩
abbrev main_call13_v4 : Ref sig .tc := ⟨.hbm, 418, rfl⟩
abbrev main_call13_v5 : Ref sig .tc := ⟨.hbm, 419, rfl⟩
abbrev main_call13_v6 : Ref sig .tc := ⟨.hbm, 420, rfl⟩
abbrev main_v15 : Ref sig .tc := ⟨.hbm, 421, rfl⟩
abbrev main_values_2 : Ref sig .tc := ⟨.hbm, 422, rfl⟩
abbrev main_indices_3 : Ref sig .tc := ⟨.hbm, 423, rfl⟩
abbrev main_call14_v0 : Ref sig .tc := ⟨.hbm, 424, rfl⟩
abbrev main_call14_cst : Ref sig .tc := ⟨.hbm, 425, rfl⟩
abbrev main_call14_v1 : Ref sig .tc := ⟨.hbm, 426, rfl⟩
abbrev main_call14_v2 : Ref sig .tc := ⟨.hbm, 427, rfl⟩
abbrev main_call14_cst_0 : Ref sig .tc := ⟨.hbm, 428, rfl⟩
abbrev main_call14_v3 : Ref sig .tc := ⟨.hbm, 429, rfl⟩
abbrev main_call14_v4 : Ref sig .tc := ⟨.hbm, 430, rfl⟩
abbrev main_call14_v5 : Ref sig .tc := ⟨.hbm, 431, rfl⟩
abbrev main_call14_v6 : Ref sig .tc := ⟨.hbm, 432, rfl⟩
abbrev main_call14_cst_1 : Ref sig .tc := ⟨.hbm, 433, rfl⟩
abbrev main_call14_v7 : Ref sig .tc := ⟨.hbm, 434, rfl⟩
abbrev main_call14_v8 : Ref sig .tc := ⟨.hbm, 435, rfl⟩
abbrev main_call14_cst_2 : Ref sig .tc := ⟨.hbm, 436, rfl⟩
abbrev main_call14_v9 : Ref sig .tc := ⟨.hbm, 437, rfl⟩
abbrev main_call14_v10 : Ref sig .tc := ⟨.hbm, 438, rfl⟩
abbrev main_call14_v11 : Ref sig .tc := ⟨.hbm, 439, rfl⟩
abbrev main_call14_v12 : Ref sig .tc := ⟨.hbm, 440, rfl⟩
abbrev main_call14_cst_3 : Ref sig .tc := ⟨.hbm, 441, rfl⟩
abbrev main_call14_v13 : Ref sig .tc := ⟨.hbm, 442, rfl⟩
abbrev main_call14_v14 : Ref sig .tc := ⟨.hbm, 443, rfl⟩
abbrev main_call14_cst_4 : Ref sig .tc := ⟨.hbm, 444, rfl⟩
abbrev main_call14_v15 : Ref sig .tc := ⟨.hbm, 445, rfl⟩
abbrev main_call14_v16 : Ref sig .tc := ⟨.hbm, 446, rfl⟩
abbrev main_call14_cst_5 : Ref sig .tc := ⟨.hbm, 447, rfl⟩
abbrev main_call14_v17 : Ref sig .tc := ⟨.hbm, 448, rfl⟩
abbrev main_call14_v18 : Ref sig .tc := ⟨.hbm, 449, rfl⟩
abbrev main_call14_cst_6 : Ref sig .tc := ⟨.hbm, 450, rfl⟩
abbrev main_call14_v19 : Ref sig .tc := ⟨.hbm, 451, rfl⟩
abbrev main_call14_v20 : Ref sig .tc := ⟨.hbm, 452, rfl⟩
abbrev main_call14_v21 : Ref sig .tc := ⟨.hbm, 453, rfl⟩
abbrev main_call14_v22 : Ref sig .tc := ⟨.hbm, 454, rfl⟩
abbrev main_call14_v23 : Ref sig .tc := ⟨.hbm, 455, rfl⟩
abbrev main_call14_v24 : Ref sig .tc := ⟨.hbm, 456, rfl⟩
abbrev main_call14_v25 : Ref sig .tc := ⟨.hbm, 457, rfl⟩
abbrev main_call14_cst_7 : Ref sig .tc := ⟨.hbm, 458, rfl⟩
abbrev main_call14_v26 : Ref sig .tc := ⟨.hbm, 459, rfl⟩
abbrev main_call14_v27 : Ref sig .tc := ⟨.hbm, 460, rfl⟩
abbrev main_call14_cst_8 : Ref sig .tc := ⟨.hbm, 461, rfl⟩
abbrev main_call14_v28 : Ref sig .tc := ⟨.hbm, 462, rfl⟩
abbrev main_call14_v29 : Ref sig .tc := ⟨.hbm, 463, rfl⟩
abbrev main_call14_cst_9 : Ref sig .tc := ⟨.hbm, 464, rfl⟩
abbrev main_call14_v30 : Ref sig .tc := ⟨.hbm, 465, rfl⟩
abbrev main_call14_v31 : Ref sig .tc := ⟨.hbm, 466, rfl⟩
abbrev main_call14_cst_10 : Ref sig .tc := ⟨.hbm, 467, rfl⟩
abbrev main_call14_v32 : Ref sig .tc := ⟨.hbm, 468, rfl⟩
abbrev main_call14_v33 : Ref sig .tc := ⟨.hbm, 469, rfl⟩
abbrev main_call14_v34 : Ref sig .tc := ⟨.hbm, 470, rfl⟩
abbrev main_call14_v35 : Ref sig .tc := ⟨.hbm, 471, rfl⟩
abbrev main_call14_v36 : Ref sig .tc := ⟨.hbm, 472, rfl⟩
abbrev main_call14_v37 : Ref sig .tc := ⟨.hbm, 473, rfl⟩
abbrev main_call14_v38 : Ref sig .tc := ⟨.hbm, 474, rfl⟩
abbrev main_call14_cst_11 : Ref sig .tc := ⟨.hbm, 475, rfl⟩
abbrev main_call14_v39 : Ref sig .tc := ⟨.hbm, 476, rfl⟩
abbrev main_call14_v40 : Ref sig .tc := ⟨.hbm, 477, rfl⟩
abbrev main_call14_cst_12 : Ref sig .tc := ⟨.hbm, 478, rfl⟩
abbrev main_call14_v41 : Ref sig .tc := ⟨.hbm, 479, rfl⟩
abbrev main_call14_v42 : Ref sig .tc := ⟨.hbm, 480, rfl⟩
abbrev main_call14_cst_13 : Ref sig .tc := ⟨.hbm, 481, rfl⟩
abbrev main_call14_v43 : Ref sig .tc := ⟨.hbm, 482, rfl⟩
abbrev main_call14_v44 : Ref sig .tc := ⟨.hbm, 483, rfl⟩
abbrev main_call14_cst_14 : Ref sig .tc := ⟨.hbm, 484, rfl⟩
abbrev main_call14_v45 : Ref sig .tc := ⟨.hbm, 485, rfl⟩
abbrev main_call14_v46 : Ref sig .tc := ⟨.hbm, 486, rfl⟩
abbrev main_call14_v47 : Ref sig .tc := ⟨.hbm, 487, rfl⟩
abbrev main_call14_v48 : Ref sig .tc := ⟨.hbm, 488, rfl⟩
abbrev main_call14_v49 : Ref sig .tc := ⟨.hbm, 489, rfl⟩
abbrev main_call14_v50 : Ref sig .tc := ⟨.hbm, 490, rfl⟩
abbrev main_call14_v51 : Ref sig .tc := ⟨.hbm, 491, rfl⟩
abbrev main_call14_v52 : Ref sig .tc := ⟨.hbm, 492, rfl⟩
abbrev main_call14_v53 : Ref sig .tc := ⟨.hbm, 493, rfl⟩
abbrev main_call14_v54 : Ref sig .tc := ⟨.hbm, 494, rfl⟩
abbrev main_call14_v55 : Ref sig .tc := ⟨.hbm, 495, rfl⟩
abbrev main_v16 : Ref sig .tc := ⟨.hbm, 496, rfl⟩
abbrev main_call15_v0 : Ref sig .tc := ⟨.hbm, 497, rfl⟩
abbrev main_call15_v1 : Ref sig .tc := ⟨.hbm, 498, rfl⟩
abbrev main_call15_v2 : Ref sig .tc := ⟨.hbm, 499, rfl⟩
abbrev main_call15_v3 : Ref sig .tc := ⟨.hbm, 500, rfl⟩
abbrev main_call15_v4 : Ref sig .tc := ⟨.hbm, 501, rfl⟩
abbrev main_call15_v5 : Ref sig .tc := ⟨.hbm, 502, rfl⟩
abbrev main_call15_v6 : Ref sig .tc := ⟨.hbm, 503, rfl⟩
abbrev main_call15_v7 : Ref sig .tc := ⟨.hbm, 504, rfl⟩
abbrev main_v17 : Ref sig .tc := ⟨.hbm, 505, rfl⟩
abbrev main_call16_c : Ref sig .tc := ⟨.hbm, 506, rfl⟩
abbrev main_call16_v0 : Ref sig .tc := ⟨.hbm, 507, rfl⟩
abbrev main_call16_v1 : Ref sig .tc := ⟨.hbm, 508, rfl⟩
abbrev main_call16_c_0 : Ref sig .tc := ⟨.hbm, 509, rfl⟩
abbrev main_call16_v2 : Ref sig .tc := ⟨.hbm, 510, rfl⟩
abbrev main_call16_v3 : Ref sig .tc := ⟨.hbm, 511, rfl⟩
abbrev main_call16_v4 : Ref sig .tc := ⟨.hbm, 512, rfl⟩
abbrev main_call16_v5 : Ref sig .tc := ⟨.hbm, 513, rfl⟩
abbrev main_v18 : Ref sig .tc := ⟨.hbm, 514, rfl⟩
abbrev main_v19 : Ref sig .tc := ⟨.hbm, 515, rfl⟩
abbrev main_call17_c : Ref sig .tc := ⟨.hbm, 516, rfl⟩
abbrev main_call17_v0 : Ref sig .tc := ⟨.hbm, 517, rfl⟩
abbrev main_call17_v1 : Ref sig .tc := ⟨.hbm, 518, rfl⟩
abbrev main_call17_c_0 : Ref sig .tc := ⟨.hbm, 519, rfl⟩
abbrev main_call17_v2 : Ref sig .tc := ⟨.hbm, 520, rfl⟩
abbrev main_call17_v3 : Ref sig .tc := ⟨.hbm, 521, rfl⟩
abbrev main_call17_v4 : Ref sig .tc := ⟨.hbm, 522, rfl⟩
abbrev main_call17_v5 : Ref sig .tc := ⟨.hbm, 523, rfl⟩
abbrev main_v20 : Ref sig .tc := ⟨.hbm, 524, rfl⟩
abbrev main_v21 : Ref sig .tc := ⟨.hbm, 525, rfl⟩
abbrev main_v22 : Ref sig .tc := ⟨.hbm, 526, rfl⟩
abbrev main_call18_v0 : Ref sig .tc := ⟨.hbm, 527, rfl⟩
abbrev main_call18_v1 : Ref sig .tc := ⟨.hbm, 528, rfl⟩
abbrev main_call18_cst : Ref sig .tc := ⟨.hbm, 529, rfl⟩
abbrev main_call18_v2 : Ref sig .tc := ⟨.hbm, 530, rfl⟩
abbrev main_call18_v3 : Ref sig .tc := ⟨.hbm, 531, rfl⟩
abbrev main_call18_v4 : Ref sig .tc := ⟨.hbm, 532, rfl⟩
abbrev main_call18_v5 : Ref sig .tc := ⟨.hbm, 533, rfl⟩
abbrev main_call18_cst_0 : Ref sig .tc := ⟨.hbm, 534, rfl⟩
abbrev main_call18_v6 : Ref sig .tc := ⟨.hbm, 535, rfl⟩
abbrev main_call18_v7 : Ref sig .tc := ⟨.hbm, 536, rfl⟩
abbrev main_call18_v8 : Ref sig .tc := ⟨.hbm, 537, rfl⟩
abbrev main_call18_v9 : Ref sig .tc := ⟨.hbm, 538, rfl⟩
abbrev main_call18_v10 : Ref sig .tc := ⟨.hbm, 539, rfl⟩
abbrev main_call18_v11 : Ref sig .tc := ⟨.hbm, 540, rfl⟩
abbrev main_call18_v12 : Ref sig .tc := ⟨.hbm, 541, rfl⟩
abbrev main_call18_v13 : Ref sig .tc := ⟨.hbm, 542, rfl⟩
abbrev main_call18_v14 : Ref sig .tc := ⟨.hbm, 543, rfl⟩
abbrev main_call18_v15 : Ref sig .tc := ⟨.hbm, 544, rfl⟩
abbrev main_call18_v16 : Ref sig .tc := ⟨.hbm, 545, rfl⟩
abbrev main_call18_v17 : Ref sig .tc := ⟨.hbm, 546, rfl⟩
abbrev main_call18_v18 : Ref sig .tc := ⟨.hbm, 547, rfl⟩
abbrev main_call18_v19 : Ref sig .tc := ⟨.hbm, 548, rfl⟩
abbrev main_call18_cst_1 : Ref sig .tc := ⟨.hbm, 549, rfl⟩
abbrev main_call18_v20 : Ref sig .tc := ⟨.hbm, 550, rfl⟩
abbrev main_call18_v21 : Ref sig .tc := ⟨.hbm, 551, rfl⟩
abbrev main_call18_v22 : Ref sig .tc := ⟨.hbm, 552, rfl⟩
abbrev main_call18_v23 : Ref sig .tc := ⟨.hbm, 553, rfl⟩
abbrev main_call18_v24 : Ref sig .tc := ⟨.hbm, 554, rfl⟩
abbrev main_call18_cst_2 : Ref sig .tc := ⟨.hbm, 555, rfl⟩
abbrev main_call18_v25 : Ref sig .tc := ⟨.hbm, 556, rfl⟩
abbrev main_call18_v26 : Ref sig .tc := ⟨.hbm, 557, rfl⟩
abbrev main_call18_v27 : Ref sig .tc := ⟨.hbm, 558, rfl⟩
abbrev main_call18_v28 : Ref sig .tc := ⟨.hbm, 559, rfl⟩
abbrev main_call18_v29 : Ref sig .tc := ⟨.hbm, 560, rfl⟩
abbrev main_call18_v30 : Ref sig .tc := ⟨.hbm, 561, rfl⟩
abbrev main_call18_v31 : Ref sig .tc := ⟨.hbm, 562, rfl⟩
abbrev main_call18_v32 : Ref sig .tc := ⟨.hbm, 563, rfl⟩
abbrev main_call18_v33 : Ref sig .tc := ⟨.hbm, 564, rfl⟩
abbrev main_call18_v34 : Ref sig .tc := ⟨.hbm, 565, rfl⟩
abbrev main_call18_v35 : Ref sig .tc := ⟨.hbm, 566, rfl⟩
abbrev main_call18_v36 : Ref sig .tc := ⟨.hbm, 567, rfl⟩
abbrev main_call18_v37 : Ref sig .tc := ⟨.hbm, 568, rfl⟩
abbrev main_call18_v38 : Ref sig .tc := ⟨.hbm, 569, rfl⟩
abbrev main_call18_v39 : Ref sig .tc := ⟨.hbm, 570, rfl⟩
abbrev main_call18_cst_3 : Ref sig .tc := ⟨.hbm, 571, rfl⟩
abbrev main_call18_v40 : Ref sig .tc := ⟨.hbm, 572, rfl⟩
abbrev main_call18_v41 : Ref sig .tc := ⟨.hbm, 573, rfl⟩
abbrev main_call18_v42 : Ref sig .tc := ⟨.hbm, 574, rfl⟩
abbrev main_call18_cst_4 : Ref sig .tc := ⟨.hbm, 575, rfl⟩
abbrev main_call18_v43 : Ref sig .tc := ⟨.hbm, 576, rfl⟩
abbrev main_call18_v44 : Ref sig .tc := ⟨.hbm, 577, rfl⟩
abbrev main_call18_v45 : Ref sig .tc := ⟨.hbm, 578, rfl⟩
abbrev main_call18_cst_5 : Ref sig .tc := ⟨.hbm, 579, rfl⟩
abbrev main_call18_v46 : Ref sig .tc := ⟨.hbm, 580, rfl⟩
abbrev main_call18_v47 : Ref sig .tc := ⟨.hbm, 581, rfl⟩
abbrev main_call18_v48 : Ref sig .tc := ⟨.hbm, 582, rfl⟩
abbrev main_call18_cst_6 : Ref sig .tc := ⟨.hbm, 583, rfl⟩
abbrev main_call18_v49 : Ref sig .tc := ⟨.hbm, 584, rfl⟩
abbrev main_call18_v50 : Ref sig .tc := ⟨.hbm, 585, rfl⟩
abbrev main_call18_v51 : Ref sig .tc := ⟨.hbm, 586, rfl⟩
abbrev main_call18_v52 : Ref sig .tc := ⟨.hbm, 587, rfl⟩
abbrev main_call18_v53 : Ref sig .tc := ⟨.hbm, 588, rfl⟩
abbrev main_call18_v54 : Ref sig .tc := ⟨.hbm, 589, rfl⟩
abbrev main_call18_v55 : Ref sig .tc := ⟨.hbm, 590, rfl⟩
abbrev main_call18_v56 : Ref sig .tc := ⟨.hbm, 591, rfl⟩
abbrev main_call18_cst_7 : Ref sig .tc := ⟨.hbm, 592, rfl⟩
abbrev main_call18_v57 : Ref sig .tc := ⟨.hbm, 593, rfl⟩
abbrev main_call18_v58 : Ref sig .tc := ⟨.hbm, 594, rfl⟩
abbrev main_call18_cst_8 : Ref sig .tc := ⟨.hbm, 595, rfl⟩
abbrev main_call18_v59 : Ref sig .tc := ⟨.hbm, 596, rfl⟩
abbrev main_v23 : Ref sig .tc := ⟨.hbm, 597, rfl⟩
abbrev main_call19_v0 : Ref sig .tc := ⟨.hbm, 598, rfl⟩
abbrev main_call19_v1 : Ref sig .tc := ⟨.hbm, 599, rfl⟩
abbrev main_call19_v2 : Ref sig .tc := ⟨.hbm, 600, rfl⟩
abbrev main_call19_v3 : Ref sig .tc := ⟨.hbm, 601, rfl⟩
abbrev main_call19_v4 : Ref sig .tc := ⟨.hbm, 602, rfl⟩
abbrev main_call19_v5 : Ref sig .tc := ⟨.hbm, 603, rfl⟩
abbrev main_call19_v6 : Ref sig .tc := ⟨.hbm, 604, rfl⟩
abbrev main_call19_v7 : Ref sig .tc := ⟨.hbm, 605, rfl⟩
abbrev main_call19_v8 : Ref sig .tc := ⟨.hbm, 606, rfl⟩
abbrev main_call19_v9 : Ref sig .tc := ⟨.hbm, 607, rfl⟩
abbrev main_call19_v10 : Ref sig .tc := ⟨.hbm, 608, rfl⟩
abbrev main_call19_v11 : Ref sig .tc := ⟨.hbm, 609, rfl⟩
abbrev main_call19_v12 : Ref sig .tc := ⟨.hbm, 610, rfl⟩
abbrev main_call19_v13 : Ref sig .tc := ⟨.hbm, 611, rfl⟩
abbrev main_call19_v14 : Ref sig .tc := ⟨.hbm, 612, rfl⟩
abbrev main_call19_v15 : Ref sig .tc := ⟨.hbm, 613, rfl⟩
abbrev main_call19_v16 : Ref sig .tc := ⟨.hbm, 614, rfl⟩
abbrev main_call19_v17 : Ref sig .tc := ⟨.hbm, 615, rfl⟩
abbrev main_call19_v18 : Ref sig .tc := ⟨.hbm, 616, rfl⟩
abbrev main_call19_v19 : Ref sig .tc := ⟨.hbm, 617, rfl⟩
abbrev main_call19_v20 : Ref sig .tc := ⟨.hbm, 618, rfl⟩
abbrev main_call19_v21 : Ref sig .tc := ⟨.hbm, 619, rfl⟩
abbrev main_call19_v22 : Ref sig .tc := ⟨.hbm, 620, rfl⟩
abbrev main_call19_v23 : Ref sig .tc := ⟨.hbm, 621, rfl⟩
abbrev main_call19_v24 : Ref sig .tc := ⟨.hbm, 622, rfl⟩
abbrev main_call19_v25 : Ref sig .tc := ⟨.hbm, 623, rfl⟩
abbrev main_call19_v26 : Ref sig .tc := ⟨.hbm, 624, rfl⟩
abbrev main_call19_v27 : Ref sig .tc := ⟨.hbm, 625, rfl⟩
abbrev main_call19_v28 : Ref sig .tc := ⟨.hbm, 626, rfl⟩
abbrev main_call19_v29 : Ref sig .tc := ⟨.hbm, 627, rfl⟩
abbrev main_call19_v30 : Ref sig .tc := ⟨.hbm, 628, rfl⟩
abbrev main_call19_v31 : Ref sig .tc := ⟨.hbm, 629, rfl⟩
abbrev main_call19_v32 : Ref sig .tc := ⟨.hbm, 630, rfl⟩
abbrev main_call19_v33 : Ref sig .tc := ⟨.hbm, 631, rfl⟩
abbrev main_call19_v34 : Ref sig .tc := ⟨.hbm, 632, rfl⟩
abbrev main_call19_v35 : Ref sig .tc := ⟨.hbm, 633, rfl⟩
abbrev main_call19_v36 : Ref sig .tc := ⟨.hbm, 634, rfl⟩
abbrev main_call19_v37 : Ref sig .tc := ⟨.hbm, 635, rfl⟩
abbrev main_call19_v38 : Ref sig .tc := ⟨.hbm, 636, rfl⟩
abbrev main_call19_v39 : Ref sig .tc := ⟨.hbm, 637, rfl⟩
abbrev main_call19_v40 : Ref sig .tc := ⟨.hbm, 638, rfl⟩
abbrev main_call19_v41 : Ref sig .tc := ⟨.hbm, 639, rfl⟩
abbrev main_call19_v42 : Ref sig .tc := ⟨.hbm, 640, rfl⟩
abbrev main_call19_v43 : Ref sig .tc := ⟨.hbm, 641, rfl⟩
abbrev main_call19_v44 : Ref sig .tc := ⟨.hbm, 642, rfl⟩
abbrev main_call19_v45 : Ref sig .tc := ⟨.hbm, 643, rfl⟩
abbrev main_call19_v46 : Ref sig .tc := ⟨.hbm, 644, rfl⟩
abbrev main_call19_v47 : Ref sig .tc := ⟨.hbm, 645, rfl⟩
abbrev main_call19_cst : Ref sig .tc := ⟨.hbm, 646, rfl⟩
abbrev main_call19_v48 : Ref sig .tc := ⟨.hbm, 647, rfl⟩
abbrev main_call19_v49 : Ref sig .tc := ⟨.hbm, 648, rfl⟩
abbrev main_call19_v50 : Ref sig .tc := ⟨.hbm, 649, rfl⟩
abbrev main_call19_cst_0 : Ref sig .tc := ⟨.hbm, 650, rfl⟩
abbrev main_call19_v51 : Ref sig .tc := ⟨.hbm, 651, rfl⟩
abbrev main_call19_v52 : Ref sig .tc := ⟨.hbm, 652, rfl⟩
abbrev main_call19_v53 : Ref sig .tc := ⟨.hbm, 653, rfl⟩
abbrev main_call19_v54 : Ref sig .tc := ⟨.hbm, 654, rfl⟩
abbrev main_call19_v55 : Ref sig .tc := ⟨.hbm, 655, rfl⟩
abbrev main_call19_v56 : Ref sig .tc := ⟨.hbm, 656, rfl⟩
abbrev main_call19_v57 : Ref sig .tc := ⟨.hbm, 657, rfl⟩
abbrev main_call19_v58 : Ref sig .tc := ⟨.hbm, 658, rfl⟩
abbrev main_call19_v59 : Ref sig .tc := ⟨.hbm, 659, rfl⟩
abbrev main_call19_cst_1 : Ref sig .tc := ⟨.hbm, 660, rfl⟩
abbrev main_call19_v60 : Ref sig .tc := ⟨.hbm, 661, rfl⟩
abbrev main_call19_v61 : Ref sig .tc := ⟨.hbm, 662, rfl⟩
abbrev main_v24 : Ref sig .tc := ⟨.hbm, 663, rfl⟩
abbrev main_c : Ref sig .tc := ⟨.hbm, 664, rfl⟩
abbrev main_v25 : Ref sig .tc := ⟨.hbm, 665, rfl⟩
abbrev main_c_4 : Ref sig .tc := ⟨.hbm, 666, rfl⟩
abbrev main_c_5 : Ref sig .tc := ⟨.hbm, 667, rfl⟩
abbrev main_v26_0 : Ref sig .tc := ⟨.hbm, 668, rfl⟩
abbrev main_v26_1 : Ref sig .tc := ⟨.hbm, 669, rfl⟩
abbrev main_v26_2 : Ref sig .tc := ⟨.hbm, 670, rfl⟩
abbrev main_v26_3 : Ref sig .tc := ⟨.hbm, 671, rfl⟩
abbrev main_while0c_c_9 : Ref sig .tc := ⟨.hbm, 672, rfl⟩
abbrev main_while0c_v29 : Ref sig .tc := ⟨.hbm, 673, rfl⟩
abbrev main_while0b_c_9 : Ref sig .tc := ⟨.hbm, 674, rfl⟩
abbrev main_while0b_v29 : Ref sig .tc := ⟨.hbm, 675, rfl⟩
abbrev main_while0b_call20_c : Ref sig .tc := ⟨.hbm, 676, rfl⟩
abbrev main_while0b_call20_v0 : Ref sig .tc := ⟨.hbm, 677, rfl⟩
abbrev main_while0b_call20_v1 : Ref sig .tc := ⟨.hbm, 678, rfl⟩
abbrev main_while0b_call20_c_0 : Ref sig .tc := ⟨.hbm, 679, rfl⟩
abbrev main_while0b_call20_v2 : Ref sig .tc := ⟨.hbm, 680, rfl⟩
abbrev main_while0b_call20_v3 : Ref sig .tc := ⟨.hbm, 681, rfl⟩
abbrev main_while0b_call20_c_1 : Ref sig .tc := ⟨.hbm, 682, rfl⟩
abbrev main_while0b_call20_c_2 : Ref sig .tc := ⟨.hbm, 683, rfl⟩
abbrev main_while0b_call20_v4 : Ref sig .tc := ⟨.hbm, 684, rfl⟩
abbrev main_while0b_v30 : Ref sig .tc := ⟨.hbm, 685, rfl⟩
abbrev main_while0b_call21_c : Ref sig .tc := ⟨.hbm, 686, rfl⟩
abbrev main_while0b_call21_v0 : Ref sig .tc := ⟨.hbm, 687, rfl⟩
abbrev main_while0b_call21_v1 : Ref sig .tc := ⟨.hbm, 688, rfl⟩
abbrev main_while0b_call21_c_0 : Ref sig .tc := ⟨.hbm, 689, rfl⟩
abbrev main_while0b_call21_v2 : Ref sig .tc := ⟨.hbm, 690, rfl⟩
abbrev main_while0b_call21_v3 : Ref sig .tc := ⟨.hbm, 691, rfl⟩
abbrev main_while0b_call21_c_1 : Ref sig .tc := ⟨.hbm, 692, rfl⟩
abbrev main_while0b_v31 : Ref sig .tc := ⟨.hbm, 693, rfl⟩
abbrev main_while0b_cst : Ref sig .tc := ⟨.hbm, 694, rfl⟩
abbrev main_while0b_v32 : Ref sig .tc := ⟨.hbm, 695, rfl⟩
abbrev main_while0b_v33 : Ref sig .tc := ⟨.hbm, 696, rfl⟩
abbrev main_while0b_v34 : Ref sig .tc := ⟨.hbm, 697, rfl⟩
abbrev main_while0b_v35 : Ref sig .tc := ⟨.hbm, 698, rfl⟩
abbrev main_while0b_v36 : Ref sig .tc := ⟨.hbm, 699, rfl⟩
abbrev main_while0b_v37 : Ref sig .tc := ⟨.hbm, 700, rfl⟩
abbrev main_while0b_v38 : Ref sig .tc := ⟨.hbm, 701, rfl⟩
abbrev main_while0b_v39 : Ref sig .tc := ⟨.hbm, 702, rfl⟩
abbrev main_while0b_v40 : Ref sig .tc := ⟨.hbm, 703, rfl⟩
abbrev main_while0b_v41 : Ref sig .tc := ⟨.hbm, 704, rfl⟩
abbrev main_while0b_v42 : Ref sig .tc := ⟨.hbm, 705, rfl⟩
abbrev main_while0b_v43 : Ref sig .tc := ⟨.hbm, 706, rfl⟩
abbrev main_while0b_v44 : Ref sig .tc := ⟨.hbm, 707, rfl⟩
abbrev main_while0b_c_10 : Ref sig .tc := ⟨.hbm, 708, rfl⟩
abbrev main_while0b_v45 : Ref sig .tc := ⟨.hbm, 709, rfl⟩
abbrev main_v27 : Ref sig .tc := ⟨.hbm, 710, rfl⟩
abbrev main_call22_cst : Ref sig .tc := ⟨.hbm, 711, rfl⟩
abbrev main_call22_v0 : Ref sig .tc := ⟨.hbm, 712, rfl⟩
abbrev main_call22_v1 : Ref sig .tc := ⟨.hbm, 713, rfl⟩
abbrev main_call22_values : Ref sig .tc := ⟨.hbm, 714, rfl⟩
abbrev main_call22_indices : Ref sig .tc := ⟨.hbm, 715, rfl⟩
abbrev main_call22_call0_c : Ref sig .tc := ⟨.hbm, 716, rfl⟩
abbrev main_call22_call0_v0 : Ref sig .tc := ⟨.hbm, 717, rfl⟩
abbrev main_call22_call0_v1 : Ref sig .tc := ⟨.hbm, 718, rfl⟩
abbrev main_call22_call0_c_0 : Ref sig .tc := ⟨.hbm, 719, rfl⟩
abbrev main_call22_call0_v2 : Ref sig .tc := ⟨.hbm, 720, rfl⟩
abbrev main_call22_call0_v3 : Ref sig .tc := ⟨.hbm, 721, rfl⟩
abbrev main_call22_call0_v4 : Ref sig .tc := ⟨.hbm, 722, rfl⟩
abbrev main_call22_call0_v5 : Ref sig .tc := ⟨.hbm, 723, rfl⟩
abbrev main_call22_v2 : Ref sig .tc := ⟨.hbm, 724, rfl⟩
abbrev main_call22_v3 : Ref sig .tc := ⟨.hbm, 725, rfl⟩
abbrev main_call22_v4 : Ref sig .tc := ⟨.hbm, 726, rfl⟩
abbrev main_v28 : Ref sig .tc := ⟨.hbm, 727, rfl⟩

abbrev nD : Nat := 1
abbrev τ : Topo := Topo.v7x

variable {F : FTy → Type} [FloatOps F]

abbrev main_while0_count : Scf.Loop 32 := ⟨0#32, 400#32, 1#32⟩
-- ==== Proof.RefRun.lean ====
/- The reference's run: which buffers its stretches of host operations leave as they were, and its frame. -/
module

public import proofs.«01_k».proof.Defs
public import proofs.«01_k».proof.Proof.Gen.ReferenceIdeal
public import proofs.«01_k».proof.Proof.Gen.ReferenceIdeal.Run

@[expose] public section

noncomputable section

namespace Cert.RefRun

open Idealize.ShloMosaic Idealize.ShloMosaic.StableHlo Idealize.SL.Sem Idealize.ShloMosaic.TcCoe
open Cert.ReferenceIdeal Cert.ReferenceIdeal.Gen Cert.ReferenceIdeal.Value

variable {F : FTy → Type} [FloatOps F]

/-- The loop's trips leave a buffer that neither the condition nor the body writes. -/
theorem atTrip_keep (r : Ref sig .tc) (W : Dev nD → Valuation τ sig (Elt F))
    (hc : r ∉ condOps_W) (h0 : r ∉ while0Ops0_W) (h1 : r ∉ while0Ops0_1_W) (h2 : r ∉ while0Ops0_2_W) (h3 : r ∉ while0Ops0_3_W)
    (c : Dev nD) : ∀ k, atTrip condOps bodyI W k c (Proc.devRef .tc r) = W c (Proc.devRef .tc r)
  | 0 => rfl
  | k + 1 => by
    rw [atTrip_succ]
    simp only [afterL_cons, afterL_nil]
    rw [after_of_writes_sub _ _ while0Ops0_3_writes h3, after_of_writes_sub _ _ while0Ops0_2_writes h2,
      after_of_writes_sub _ _ while0Ops0_1_writes h1, after_of_writes_sub _ _ while0Ops0_writes h0,
      after_of_writes_sub _ _ condOps_writes hc, atTrip_keep r W hc h0 h1 h2 h3 c k]

/-- Everything the stretches of host operations before the loop write. -/
abbrev preW : List (Ref sig .tc) :=
  hostOps0_W ++ hostOps0_1_W ++ hostOps0_2_W ++ hostOps0_3_W ++ hostOps0_4_W ++ hostOps0_5_W ++ hostOps0_6_W ++ hostOps0_7_W
  ++ hostOps0_8_W ++ hostOps0_9_W ++ hostOps0_10_W ++ hostOps0_11_W ++ hostOps0_12_W ++ hostOps0_13_W ++ hostOps0_14_W ++ hostOps0_15_W
  ++ hostOps0_16_W ++ hostOps0_17_W ++ hostOps0_18_W ++ hostOps0_19_W ++ hostOps0_20_W ++ hostOps0_21_W ++ hostOps0_22_W ++ hostOps0_23_W
  ++ hostOps0_24_W ++ hostOps0_25_W ++ hostOps0_26_W ++ hostOps0_27_W

/-- A buffer that no operation before the loop writes holds its launch contents at the loop. -/
theorem entry_keep (r : Ref sig .tc) (h : r ∉ preW) (m : (ℓ : Loc nD τ sig) → Buf (Elt F) ℓ) (c : Dev nD) :
    entryContents preI m c (Proc.devRef .tc r) = launchContents m c (Proc.devRef .tc r) := by
  simp only [preW, List.mem_append, not_or] at h
  simp only [entryContents, afterL_cons, afterL_nil]
  obtain ⟨⟨⟨⟨⟨⟨⟨⟨⟨⟨⟨⟨⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩, h16⟩, h17⟩, h18⟩, h19⟩, h20⟩, h21⟩, h22⟩, h23⟩, h24⟩, h25⟩, h26⟩, h27⟩ := h
  rw [after_of_writes_sub _ _ hostOps0_27_writes h27, after_of_writes_sub _ _ hostOps0_26_writes h26,
    after_of_writes_sub _ _ hostOps0_25_writes h25, after_of_writes_sub _ _ hostOps0_24_writes h24,
    after_of_writes_sub _ _ hostOps0_23_writes h23, after_of_writes_sub _ _ hostOps0_22_writes h22,
    after_of_writes_sub _ _ hostOps0_21_writes h21, after_of_writes_sub _ _ hostOps0_20_writes h20,
    after_of_writes_sub _ _ hostOps0_19_writes h19, after_of_writes_sub _ _ hostOps0_18_writes h18,
    after_of_writes_sub _ _ hostOps0_17_writes h17, after_of_writes_sub _ _ hostOps0_16_writes h16,
    after_of_writes_sub _ _ hostOps0_15_writes h15, after_of_writes_sub _ _ hostOps0_14_writes h14,
    after_of_writes_sub _ _ hostOps0_13_writes h13, after_of_writes_sub _ _ hostOps0_12_writes h12,
    after_of_writes_sub _ _ hostOps0_11_writes h11, after_of_writes_sub _ _ hostOps0_10_writes h10,
    after_of_writes_sub _ _ hostOps0_9_writes h9, after_of_writes_sub _ _ hostOps0_8_writes h8,
    after_of_writes_sub _ _ hostOps0_7_writes h7, after_of_writes_sub _ _ hostOps0_6_writes h6,
    after_of_writes_sub _ _ hostOps0_5_writes h5, after_of_writes_sub _ _ hostOps0_4_writes h4,
    after_of_writes_sub _ _ hostOps0_3_writes h3, after_of_writes_sub _ _ hostOps0_2_writes h2,
    after_of_writes_sub _ _ hostOps0_1_writes h1, after_of_writes_sub _ _ hostOps0_writes h0]

/-- What the stretch joining the three levels' scores writes. -/
abbrev hostOps0_28_W : List (Ref sig .tc) := [main_v27]
/-- It writes nothing else. -/
theorem hostOps0_28_writes : (hostOps0_28 : List (HloOp τ sig (Elt F))).Forall fun op => op.writes ⊆ (hostOps0_28_W.map (Proc.devRef (τ := τ) .tc)).toFinset :=
  StableHlo.forall_writes_sub_of_map rfl

/-- What the last stretch writes. -/
abbrev hostOps0_29_W : List (Ref sig .tc) := [main_call22_cst, main_call22_v0, main_call22_v1, main_call22_values, main_call22_indices, main_call22_call0_c, main_call22_call0_v0, main_call22_call0_v1, main_call22_call0_c_0, main_call22_call0_v2, main_call22_call0_v3, main_call22_call0_v4, main_call22_call0_v5, main_call22_v2, main_call22_v3, main_call22_v4, main_v28]
/-- It writes nothing else. -/
theorem hostOps0_29_writes : (hostOps0_29 : List (HloOp τ sig (Elt F))).Forall fun op => op.writes ⊆ (hostOps0_29_W.map (Proc.devRef (τ := τ) .tc)).toFinset :=
  StableHlo.forall_writes_sub_of_map rfl

/-- A buffer that no operation of the program writes ends as launched. -/
theorem final_keep (r : Ref sig .tc) (h : r ∉ preW)
    (hc : r ∉ condOps_W) (h0 : r ∉ while0Ops0_W) (h1 : r ∉ while0Ops0_1_W) (h2 : r ∉ while0Ops0_2_W) (h3 : r ∉ while0Ops0_3_W)
    (h28 : r ∉ hostOps0_28_W) (h29 : r ∉ hostOps0_29_W)
    (m : (ℓ : Loc nD τ sig) → Buf (Elt F) ℓ) (c : Dev nD) :
    finalContents condOps preI bodyI postI 400 m c (Proc.devRef .tc r) = launchContents m c (Proc.devRef .tc r) := by
  simp only [finalContents, afterL_cons, afterL_nil]
  rw [after_of_writes_sub _ _ hostOps0_29_writes h29, after_of_writes_sub _ _ hostOps0_28_writes h28,
    after_of_writes_sub _ _ condOps_writes hc, atTrip_keep r _ hc h0 h1 h2 h3 c 400, entry_keep r h m c]

set_option maxRecDepth 100000 in
/-- The reference runs, and its arguments end unchanged. -/
theorem run_args (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v28) = finalContents condOps preI bodyI postI 400 m c (Proc.devRef .tc main_v28)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine (θ_run _ _ _).mono (fun r h c => ?_) (run_fold m ρ)
  refine ⟨h c main_v28 (by decide), ?_, ?_, ?_, ?_, ?_, ?_, ?_, ?_, ?_⟩
  all_goals
    refine (h c _ (by decide)).trans ((final_keep _ ?_ ?_ ?_ ?_ ?_ ?_ ?_ ?_ m c).trans rfl) <;> decide +kernel

/-- The reference's frame. -/
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run _ _ _).mono (fun r h => ⟨fun c => (h c).2, sem_eq_zero_of_no_sems (by decide) r.2⟩) (run_args m ρ)

end Cert.RefRun

end
-- ==== Proof.Level.lean ====
/- One level of the kernel as vector operations, the number `M` of lanes of its flattened map left open: the three
   levels' bodies are these expressions at three sizes and three sets of constants. -/
module

public import Idealize.ShloMosaic.Lib.Pointwise
public import Idealize.ShloMosaic.Lib.MatmulPlain
public import Idealize.ShloMosaic.Lib.Exec

@[expose] public section

noncomputable section

namespace Cert.Level

open Idealize.ShloMosaic

/-- The shape of an `n`-by-`m` matrix. -/
abbrev Mat (n m : ℕ) : Shape := ⟨2, ![n, m]⟩

/-- What the shapes of a level with `M` lanes satisfy. -/
class Fits (M : ℕ) : Prop where
  bc256 : (Mat 256 1).Broadcasts (Mat 256 M)
  bc3 : (Mat 3 1).Broadcasts (Mat 3 M)
  bc12 : (Mat 12 1).Broadcasts (Mat 12 M)
  bcM : (Mat 1 400).Broadcasts (Mat M 400)
  lane : (Mat 3 M).Iotas .tc 32 [1]
  rowi : (Mat 3 M).Iotas .tc 32 [0]
  col : (Mat M 400).Iotas .tc 32 [0]
  cast3 : (Mat 3 M).ShapeCasts ⟨3, ![1, 3, M]⟩
  red3 : (⟨3, ![1, 3, M]⟩ : Shape).Reduces [1, 2] ⟨1, ![1]⟩

/-- A level's scalars: the map's padded and own width as words and in numbers, its stride, the half extents of its
    three anchors, and what stands for `−∞`. -/
structure Consts where
  wp : BitVec 32
  w : BitVec 32
  invW : BitVec 32
  wF : BitVec 32
  stride : BitVec 32
  h1 : BitVec 32
  h2 : BitVec 32
  h3 : BitVec 32

variable {M : ℕ} [Fits M] (K : Consts)

/-! ## The two convolutions -/

/-- One shift's product. -/
def tap (w : FVec Ideal (Mat 256 256) .f32) (x : FVec Ideal (Mat 256 M) .f32) : FVec Ideal (Mat 256 M) .f32 :=
  matmul (DotDims.plain 256 256 M) none w x (constant (Mat 256 M) .f32 0x00000000#32)

/-- The nine shifts' sum. -/
def taps (w : Fin 9 → FVec Ideal (Mat 256 256) .f32) (x : Fin 9 → FVec Ideal (Mat 256 M) .f32) : FVec Ideal (Mat 256 M) .f32 :=
  addf (addf (addf (addf (addf (addf (addf (addf (tap (w 0) (x 0)) (tap (w 1) (x 1))) (tap (w 2) (x 2))) (tap (w 3) (x 3)))
    (tap (w 4) (x 4))) (tap (w 5) (x 5))) (tap (w 6) (x 6))) (tap (w 7) (x 7))) (tap (w 8) (x 8))

/-- Bias and the larger of that and zero. -/
def stem (acc : FVec Ideal (Mat 256 M) .f32) (b : FVec Ideal (Mat 256 1) .f32) : FVec Ideal (Mat 256 M) .f32 :=
  maximumf (addf acc (broadcastTo (Mat 256 M) b Fits.bc256)) (broadcast (Mat 256 M) (Scalar.ofBits .f32 0x00000000#32))

/-- A 1x1 convolution with bias: the scores. -/
def logits (o : FVec Ideal (Mat 3 256) .f32) (s : FVec Ideal (Mat 256 M) .f32) (b : FVec Ideal (Mat 3 1) .f32) :
    FVec Ideal (Mat 3 M) .f32 :=
  addf (matmul (DotDims.plain 3 256 M) none o s (constant (Mat 3 M) .f32 0x00000000#32)) (broadcastTo (Mat 3 M) b Fits.bc3)

/-- A 1x1 convolution with bias: the offsets. -/
def deltas (o : FVec Ideal (Mat 12 256) .f32) (s : FVec Ideal (Mat 256 M) .f32) (b : FVec Ideal (Mat 12 1) .f32) :
    FVec Ideal (Mat 12 M) .f32 :=
  addf (matmul (DotDims.plain 12 256 M) none o s (constant (Mat 12 M) .f32 0x00000000#32)) (broadcastTo (Mat 12 M) b Fits.bc12)

/-! ## The keys -/

/-- The number of a lane. -/
def lane : IVec (Mat 3 M) 32 := iota .tc (Mat 3 M) 32 [1] Fits.lane

/-- Whether the quotient of lane and width must be stepped down (never, as lanes are not negative). -/
def fix : IVec (Mat 3 M) 1 :=
  andi
    (cmpi .ne
      (subi (extui 32 (cmpi .sgt lane (broadcast (Mat 3 M) 0#32)) (by decide))
        (extui 32 (cmpi .slt lane (broadcast (Mat 3 M) 0#32)) (by decide)))
      (broadcast (Mat 3 M)
        (Scalar.subi (Scalar.extui (Scalar.cmpi .sgt K.wp 0#32)) (Scalar.extui (Scalar.cmpi .slt K.wp 0#32)))))
    (cmpi .ne (remsi lane (broadcast (Mat 3 M) K.wp)) (broadcast (Mat 3 M) 0#32))

/-- A lane's row of the map. -/
def rowOf : IVec (Mat 3 M) 32 :=
  select (fix K) (subi (divsi lane (broadcast (Mat 3 M) K.wp)) (broadcast (Mat 3 M) 1#32)) (divsi lane (broadcast (Mat 3 M) K.wp))

/-- A lane's column of the padded map. -/
def colOf : IVec (Mat 3 M) 32 := subi lane (muli (rowOf K) (broadcast (Mat 3 M) K.wp))

/-- A cell's key: its place among the unpadded map's anchors, as a number. -/
def keys : FVec Ideal (Mat 3 M) .f32 :=
  sitofp .f32 (addi (muli (addi (muli (rowOf K) (broadcast (Mat 3 M) K.w)) (colOf K)) (broadcast (Mat 3 M) 3#32))
    (iota .tc (Mat 3 M) 32 [0] Fits.rowi))

/-! ## The extraction -/

/-- The scores, the border's columns masked. -/
def start (neg : Ideal .f32) (lt : FVec Ideal (Mat 3 M) .f32) : FVec Ideal (Mat 3 M) .f32 :=
  select (cmpi .slt (colOf K) (broadcast (Mat 3 M) K.w)) lt (broadcast (Mat 3 M) neg)

/-- The greatest entry of a table. -/
def top (v : FVec Ideal (Mat 3 M) .f32) : Ideal .f32 :=
  extractAt ![0, 0, 0] (shapeCast ⟨3, ![1, 1, 1]⟩
    (multiReduction .maximumf [1, 2] ⟨1, ![1]⟩ (shapeCast ⟨3, ![1, 3, M]⟩ v Fits.cast3) 0xFF800000#32 Fits.red3 (.inl rfl) rfl)
    (by decide)) (by decide)

/-- The least entry of a table. -/
def bottom (v : FVec Ideal (Mat 3 M) .f32) : Ideal .f32 :=
  extractAt ![0, 0, 0] (shapeCast ⟨3, ![1, 1, 1]⟩
    (multiReduction .minimumf [1, 2] ⟨1, ![1]⟩ (shapeCast ⟨3, ![1, 3, M]⟩ v Fits.cast3) 0x7F800000#32 Fits.red3 (.inl rfl) rfl)
    (by decide)) (by decide)

/-- The least key among the cells that hold the greatest entry. -/
def pick (v : FVec Ideal (Mat 3 M) .f32) : Ideal .f32 :=
  bottom (select (cmpf .oeq v (broadcast (Mat 3 M) (top v))) (keys K) (broadcast (Mat 3 M) (Scalar.ofBits .f32 0x4BE4E1C0#32)))

/-- The table with the picked key's cells masked. -/
def drop (neg : Ideal .f32) (v : FVec Ideal (Mat 3 M) .f32) : FVec Ideal (Mat 3 M) .f32 :=
  select (cmpf .oeq (keys K) (broadcast (Mat 3 M) (pick K v))) (broadcast (Mat 3 M) neg) v

/-- The list of picked keys with the step's own put in. -/
def put (j : ℕ) (v : FVec Ideal (Mat 3 M) .f32) (l : FVec Ideal (Mat 400 1) .f32) : FVec Ideal (Mat 400 1) .f32 :=
  select (cmpi .eq (iota .tc (Mat 400 1) 32 [0] (by decide)) (broadcast (Mat 400 1) (Scf.iv 0#32 1#32 j)))
    (broadcast (Mat 400 1) (pick K v)) l

/-- The picked keys in the order of the steps. -/
def picked (n : ℕ) (neg : Ideal .f32) (lt : FVec Ideal (Mat 3 M) .f32) : FVec Ideal (Mat 400 1) .f32 :=
  (Scf.fold (n := n) (fun j (acc : FVec Ideal (Mat 3 M) .f32 × FVec Ideal (Mat 400 1) .f32) =>
    (drop K neg acc.1, put K j acc.1 acc.2))
    (start K neg lt, broadcast (Mat 400 1) (Scalar.ofBits .f32 0x00000000#32))).2

/-! ## The boxes -/

/-- A list of 400 numbers. -/
abbrev Row : Type := FVec Ideal (Mat 1 400) .f32

/-- One number 400 times. -/
def rep (b : BitVec 32) : Row := broadcast (Mat 1 400) (Scalar.ofBits .f32 b)

/-- The keys as a row. -/
def keyRow (l : FVec Ideal (Mat 400 1) .f32) : Row := transpose (Mat 1 400) [1, 0] l (by decide)

/-- The place in the map. -/
def loc (k : Row) : Row := floor (mulf (addf k (rep 0x3F000000#32)) (rep 0x3EAAAAAB#32))

/-- Which anchor of the place. -/
def anc (k : Row) : Row := subf k (mulf (rep 0x40400000#32) (loc k))

/-- The place's row. -/
def locY (k : Row) : Row := floor (mulf (loc k) (rep K.invW))

/-- The centre across. -/
def cenX (k : Row) : Row :=
  mulf (addf (subf (loc k) (mulf (rep K.wF) (locY K k))) (rep 0x3F000000#32)) (rep K.stride)

/-- The centre down. -/
def cenY (k : Row) : Row := mulf (addf (locY K k) (rep 0x3F000000#32)) (rep K.stride)

/-- By the anchor, one of three rows. -/
def byAnc (k a b c : Row) : Row :=
  select (cmpf .oeq (anc k) (rep 0x00000000#32)) a (select (cmpf .oeq (anc k) (rep 0x3F800000#32)) b c)

/-- The anchors' corners. -/
def ancX1 (k : Row) : Row := byAnc k (subf (cenX K k) (rep K.h1)) (subf (cenX K k) (rep K.h2)) (subf (cenX K k) (rep K.h3))
@[inherit_doc ancX1] def ancY1 (k : Row) : Row := byAnc k (subf (cenY K k) (rep K.h3)) (subf (cenY K k) (rep K.h2)) (subf (cenY K k) (rep K.h1))
@[inherit_doc ancX1] def ancX2 (k : Row) : Row := byAnc k (addf (cenX K k) (rep K.h1)) (addf (cenX K k) (rep K.h2)) (addf (cenX K k) (rep K.h3))
@[inherit_doc ancX1] def ancY2 (k : Row) : Row := byAnc k (addf (cenY K k) (rep K.h3)) (addf (cenY K k) (rep K.h2)) (addf (cenY K k) (rep K.h1))

/-- The lane of the padded map that a place has. -/
def lanes (k : Row) : Row := addf (loc k) (mulf (rep 0x40000000#32) (locY K k))

/-- The offsets of the picked places, read by a product with zeros and ones. -/
def gather (dt : FVec Ideal (Mat 12 M) .f32) (l : Row) : FVec Ideal (Mat 12 400) .f32 :=
  matmul (DotDims.plain 12 M 400) (some .fp32) dt
    (sitofp .f32 (extui 32 (cmpf .oeq (sitofp .f32 (iota .tc (Mat M 400) 32 [0] Fits.col)) (broadcastTo (Mat M 400) l Fits.bcM)) (by decide)))
    (constant (Mat 12 400) .f32 0x00000000#32)

/-- One row of the gathered offsets. -/
def offs (g : FVec Ideal (Mat 12 400) .f32) (r : ℕ) (h : (Mat 12 400).Slices ![r, 0] (Mat 1 400)) : Row :=
  extractStridedSlice (Mat 1 400) ![r, 0] g h

/-- The four offsets of the picked anchors. -/
def del0 (g : FVec Ideal (Mat 12 400) .f32) (k : Row) : Row := byAnc k (offs g 0 (by decide)) (offs g 4 (by decide)) (offs g 8 (by decide))
@[inherit_doc del0] def del1 (g : FVec Ideal (Mat 12 400) .f32) (k : Row) : Row := byAnc k (offs g 1 (by decide)) (offs g 5 (by decide)) (offs g 9 (by decide))
@[inherit_doc del0] def del2 (g : FVec Ideal (Mat 12 400) .f32) (k : Row) : Row := byAnc k (offs g 2 (by decide)) (offs g 6 (by decide)) (offs g 10 (by decide))
@[inherit_doc del0] def del3 (g : FVec Ideal (Mat 12 400) .f32) (k : Row) : Row := byAnc k (offs g 3 (by decide)) (offs g 7 (by decide)) (offs g 11 (by decide))

/-- The centre of a box from an anchor's two ends and an offset. -/
def boxC (a b d : Row) : Row := addf (mulf d (subf b a)) (addf a (mulf (rep 0x3F000000#32) (subf b a)))

/-- The extent of a box. -/
def boxS (a b d : Row) : Row := mulf (exp (minimumf d (rep 0x405542D7#32))) (subf b a)

/-- Cut off at the image's border. -/
def clip (v : Row) : Row := minimumf (rep 0x44000000#32) (maximumf (rep 0x00000000#32) v)

/-- Four rows make four rows. -/
theorem cat4 : Shape.Concatenates [Mat 1 400, Mat 1 400, Mat 1 400, Mat 1 400] (Mat 4 400) 0 := by decide

/-- The boxes, a row per corner. -/
def boxes (x1 y1 x2 y2 d0 d1 d2 d3 : Row) : FVec Ideal (Mat 4 400) .f32 :=
  concatenate (Mat 4 400) 0
    [⟨Mat 1 400, clip (subf (boxC x1 x2 d0) (mulf (rep 0x3F000000#32) (boxS x1 x2 d2)))⟩,
     ⟨Mat 1 400, clip (subf (boxC y1 y2 d1) (mulf (rep 0x3F000000#32) (boxS y1 y2 d3)))⟩,
     ⟨Mat 1 400, clip (addf (boxC x1 x2 d0) (mulf (rep 0x3F000000#32) (boxS x1 x2 d2)))⟩,
     ⟨Mat 1 400, clip (addf (boxC y1 y2 d1) (mulf (rep 0x3F000000#32) (boxS y1 y2 d3)))⟩] cat4

/-- The boxes of the picked keys. -/
def level4 (dt : FVec Ideal (Mat 12 M) .f32) (k : Row) : FVec Ideal (Mat 4 400) .f32 :=
  boxes (ancX1 K k) (ancY1 K k) (ancX2 K k) (ancY2 K k) (del0 (gather dt (lanes K k)) k) (del1 (gather dt (lanes K k)) k)
    (del2 (gather dt (lanes K k)) k) (del3 (gather dt (lanes K k)) k)

/-! ## The overlaps -/

/-- A corner's coordinate along the rows, and along the columns. -/
def down (b : FVec Ideal (Mat 4 400) .f32) (r : ℕ) (h : (Mat 400 4).Slices ![0, r] (Mat 400 1)) : FVec Ideal (Mat 400 1) .f32 :=
  extractStridedSlice (Mat 400 1) ![0, r] (transpose (Mat 400 4) [1, 0] b (by decide)) h
/-- One coordinate of all boxes, as a row. -/
def across (b : FVec Ideal (Mat 4 400) .f32) (r : ℕ) (h : (Mat 4 400).Slices ![r, 0] (Mat 1 400)) : Row :=
  extractStridedSlice (Mat 1 400) ![r, 0] b h

/-- A column, and a row, as a square. -/
def sqD (v : FVec Ideal (Mat 400 1) .f32) : FVec Ideal (Mat 400 400) .f32 := broadcastTo (Mat 400 400) v (by decide)
/-- A row, in every row of a square. -/
def sqA (v : Row) : FVec Ideal (Mat 400 400) .f32 := broadcastTo (Mat 400 400) v (by decide)

/-- One number as a square. -/
def repS (b : BitVec 32) : FVec Ideal (Mat 400 400) .f32 := broadcast (Mat 400 400) (Scalar.ofBits .f32 b)

/-- The common area of every two boxes. -/
def inter (b : FVec Ideal (Mat 4 400) .f32) : FVec Ideal (Mat 400 400) .f32 :=
  mulf
    (maximumf (repS 0x00000000#32) (subf (minimumf (sqD (down b 2 (by decide))) (sqA (across b 2 (by decide))))
      (maximumf (sqD (down b 0 (by decide))) (sqA (across b 0 (by decide))))))
    (maximumf (repS 0x00000000#32) (subf (minimumf (sqD (down b 3 (by decide))) (sqA (across b 3 (by decide))))
      (maximumf (sqD (down b 1 (by decide))) (sqA (across b 1 (by decide))))))

/-- The area covered by every two boxes. -/
def union (b : FVec Ideal (Mat 4 400) .f32) : FVec Ideal (Mat 400 400) .f32 :=
  subf
    (addf
      (sqD (mulf (subf (down b 2 (by decide)) (down b 0 (by decide))) (subf (down b 3 (by decide)) (down b 1 (by decide)))))
      (sqA (mulf (subf (across b 2 (by decide)) (across b 0 (by decide))) (subf (across b 3 (by decide)) (across b 1 (by decide))))))
    (inter b)

/-- The overlap of every two boxes. -/
def iou (b : FVec Ideal (Mat 4 400) .f32) : FVec Ideal (Mat 400 400) .f32 :=
  divf (inter b) (maximumf (repS 0x322BCC77#32) (union b))

/-! ## The suppression and the result -/

/-- The lane number of a row of 400. -/
def ln : IVec (Mat 1 400) 32 := iota .tc (Mat 1 400) 32 [1] (by decide)

/-- The sum of a row. -/
def total (v : Row) : Ideal .f32 :=
  extractAt ![0, 0, 0] (shapeCast ⟨3, ![1, 1, 1]⟩
    (multiReduction .add [1, 2] ⟨1, ![1]⟩ (shapeCast ⟨3, ![1, 1, 400]⟩ v (by decide)) 0x00000000#32 (by decide) (.inl rfl) rfl)
    (by decide)) (by decide)

/-- One step of the suppression, by the row of overlaps of its own box. -/
def suppress (j : ℕ) (keep row : Row) : Row :=
  mulf keep (subf (rep 0x3F800000#32)
    (mulf (sitofp .f32 (extui 32 (andi (cmpf .ogt row (rep 0x3F333333#32)) (cmpi .sgt ln (broadcast (Mat 1 400) (Scf.iv 0#32 1#32 j)))) (by decide)))
      (broadcast (Mat 1 400) (Scalar.minimumf
        (total (mulf keep (sitofp .f32 (extui 32 (cmpi .eq ln (broadcast (Mat 1 400) (Scf.iv 0#32 1#32 j))) (by decide)))))
        (Scalar.ofBits .f32 0x3F800000#32)))))

/-- Ones on and above the diagonal. -/
def tri : FVec Ideal (Mat 400 400) .f32 :=
  sitofp .f32 (extui 32 (cmpi .sle (iota .tc (Mat 400 400) 32 [0] (by decide)) (iota .tc (Mat 400 400) 32 [1] (by decide))) (by decide))

/-- A row's running sum. -/
def run (v : Row) : Row := matmul (DotDims.plain 1 400 400) (some .fp32) v tri (constant (Mat 1 400) .f32 0x00000000#32)

/-- The boxes' ranks. -/
def ranks (keep : Row) : Row :=
  addf (mulf keep (subf (run keep) (rep 0x3F800000#32)))
    (mulf (subf (rep 0x3F800000#32) keep)
      (subf (addf (broadcast (Mat 1 400) (total keep)) (run (subf (rep 0x3F800000#32) keep))) (rep 0x3F800000#32)))

/-- The first hundred boxes by rank. -/
def result (keep : Row) (b : FVec Ideal (Mat 4 400) .f32) : FVec Ideal (Mat 100 4) .f32 :=
  matmul (DotDims.plain 100 400 4) (some .fp32)
    (sitofp .f32 (extui 32 (cmpf .oeq
      (broadcastTo (Mat 100 400) (sitofp .f32 (iota .tc (Mat 100 1) 32 [0] (by decide)) : FVec Ideal (Mat 100 1) .f32) (by decide))
      (broadcastTo (Mat 100 400) (ranks keep) (by decide))) (by decide)))
    (transpose (Mat 400 4) [1, 0] b (by decide)) (constant (Mat 100 4) .f32 0x00000000#32)

end Cert.Level

end
-- ==== Proof.Loads.lean ====
/- What a level's loads read: shifted windows of the flattened map, one slab of the stacked weights, whole blocks, one row
   of the overlaps. -/
module

public import proofs.«01_k».proof.Proof.Level
public import Idealize.ShloMosaic.Lib.VecWindow

@[expose] public section

noncomputable section

namespace Cert.Level

open Idealize.ShloMosaic

/-- Two matrices with the same entries are the same. -/
theorem ext2 {α : Type} {n m : ℕ} {f g : (Mat n m).Idx → α} (h : ∀ a b, f (ix2 a b) = g (ix2 a b)) : f = g :=
  funext fun i => by
    obtain ⟨a, b, rfl⟩ : ∃ (a : Fin n) (b : Fin m), i = ix2 a b := ⟨i 0, i 1, eq_ix2 i⟩
    exact h a b

/-- A box of one sheet read as a matrix. -/
theorem sheet {α : Type} {n m : ℕ} (y : (⟨3, ![1, n, m]⟩ : Shape).Idx → α) (h : (⟨3, ![1, n, m]⟩ : Shape).ShapeCasts (Mat n m))
    (a : Fin n) (b : Fin m) : shapeCast (Mat n m) y h (ix2 a b) = y (ix3 0 a b) := by
  show y (Shape.reshapeEquiv h (ix2 a b)) = _
  congr 1
  refine Shape.reshapeEquiv_eq_of_rowMajor h ?_
  rw [rowMajor_val3 _ (n * m) m rfl rfl, rowMajor_val2 _ m rfl]
  show 0 * _ + a.val * m + b.val = a.val * m + b.val
  omega

/-- A matrix read as a box of one sheet. -/
theorem asSheet {α : Type} {n m : ℕ} (y : (Mat n m).Idx → α) (h : (Mat n m).ShapeCasts ⟨3, ![1, n, m]⟩)
    (z : Fin 1) (a : Fin n) (b : Fin m) : shapeCast ⟨3, ![1, n, m]⟩ y h (ix3 z a b) = y (ix2 a b) := by
  show y (Shape.reshapeEquiv h (ix3 z a b)) = _
  congr 1
  refine Shape.reshapeEquiv_eq_of_rowMajor h ?_
  rw [rowMajor_val3 _ (n * m) m rfl rfl, rowMajor_val2 _ m rfl]
  show a.val * m + b.val = z.val * _ + a.val * m + b.val
  have : z.val = 0 := by omega
  rw [this]; omega

/-- The flattened map from a shift on. -/
def shift {M N : ℕ} (x : FVec Ideal ⟨3, ![1, 256, N]⟩ .f32) (off : ℕ) (h : off + M ≤ N) : FVec Ideal (Mat 256 M) .f32 :=
  fun i => x (ix3 0 (i 0) ⟨off + (i 1).val, by have : (i 1).val < M := (i 1).isLt; omega⟩)

/-- One slab of the stacked weights. -/
def slab (w : FVec Ideal ⟨3, ![9, 256, 256]⟩ .f32) (t : Fin 9) : FVec Ideal (Mat 256 256) .f32 :=
  fun i => w (ix3 t (i 0) (i 1))

variable {sig : RefSig} {κ : Kind} {sp : Space}

/-- A window of one sheet of a box, loaded and read as a matrix. -/
theorem load_window {A n N m t off : ℕ} (v : View sig κ sp ⟨3, ![A, n, N]⟩ .f32) (f : v.ty.Contents (Elt Ideal))
    (inb : ∀ a, (![t, 0, off] : Fin 3 → ℕ) a + (⟨3, ![1, n, m]⟩ : Shape).size a ≤ (⟨3, ![A, n, N]⟩ : Shape).size a)
    (h : (⟨3, ![1, n, m]⟩ : Shape).ShapeCasts (Mat n m)) (ht : t < A) (ho : off + m ≤ N) (a : Fin n) (b : Fin m) :
    shapeCast (Mat n m) (v.readAt (Elt Ideal) (Rect.unit (s := ⟨3, ![A, n, N]⟩) ![t, 0, off] (⟨3, ![1, n, m]⟩ : Shape).size inb).toLoadRect f) h (ix2 a b)
      = v.read (Elt Ideal) f (ix3 ⟨t, ht⟩ a ⟨off + b.val, by omega⟩) := by
  rw [sheet]
  show v.read (Elt Ideal) f _ = _
  congr 1
  funext k
  apply Fin.ext
  fin_cases k
  · show t + 1 * 0 = t; omega
  · show 0 + 1 * a.val = a.val; omega
  · show off + 1 * b.val = off + b.val; omega

/-- A load of all rows from a column on, at an index. -/
theorem load_shift {N M off : ℕ} (v : View sig κ sp ⟨3, ![1, 256, N]⟩ .f32) (f : v.ty.Contents (Elt Ideal))
    (inb : ∀ a, (![0, 0, off] : Fin 3 → ℕ) a + (⟨3, ![1, 256, M]⟩ : Shape).size a ≤ (⟨3, ![1, 256, N]⟩ : Shape).size a)
    (h : (⟨3, ![1, 256, M]⟩ : Shape).ShapeCasts (Mat 256 M)) (ho : off + M ≤ N) :
    shapeCast (Mat 256 M) (v.readAt (Elt Ideal) (Rect.unit (s := ⟨3, ![1, 256, N]⟩) ![0, 0, off] (⟨3, ![1, 256, M]⟩ : Shape).size inb).toLoadRect f) h
      = shift (v.read (Elt Ideal) f) off ho :=
  ext2 fun a b => by rw [load_window v f inb h Nat.one_pos ho]; rfl

/-- A load of one of the nine slabs, at an index. -/
theorem load_slab {t : ℕ} (ht : t < 9) (v : View sig κ sp ⟨3, ![9, 256, 256]⟩ .f32) (f : v.ty.Contents (Elt Ideal))
    (inb : ∀ a, (![t, 0, 0] : Fin 3 → ℕ) a + (⟨3, ![1, 256, 256]⟩ : Shape).size a ≤ (⟨3, ![9, 256, 256]⟩ : Shape).size a)
    (h : (⟨3, ![1, 256, 256]⟩ : Shape).ShapeCasts (Mat 256 256)) :
    shapeCast (Mat 256 256) (v.readAt (Elt Ideal) (Rect.unit (s := ⟨3, ![9, 256, 256]⟩) ![t, 0, 0] (⟨3, ![1, 256, 256]⟩ : Shape).size inb).toLoadRect f) h
      = slab (v.read (Elt Ideal) f) ⟨t, ht⟩ :=
  ext2 fun a b => by
    rw [load_window v f inb h ht (by decide)]
    show v.read (Elt Ideal) f _ = v.read (Elt Ideal) f _
    congr 1
    funext k
    apply Fin.ext
    fin_cases k
    · rfl
    · rfl
    · show 0 + b.val = b.val; omega

/-- A whole block, loaded and reshaped to its own shape. -/
theorem load_block {s : Shape} {off : Fin s.rank → ℕ} (v : View sig κ sp s .f32) (f : v.ty.Contents (Elt Ideal))
    (inb : ∀ a, off a + s.size a ≤ s.size a) (h : s.ShapeCasts s) :
    shapeCast s (v.readAt (Elt Ideal) (Rect.unit off s.size inb).toLoadRect f) h = v.read (Elt Ideal) f := by
  exact (shapeCast_id _ h).trans (View.readAt_full v f inb)

/-- The row of a square. -/
def sqRow (m : FVec Ideal (Mat 400 400) .f32) (j : ℕ) : Row := fun i => if h : j < 400 then m (ix2 ⟨j, h⟩ (i 1)) else m (ix2 0 (i 1))

/-- A row of a square, loaded. -/
theorem load_row {j : ℕ} (hj : j < 400) {off : Fin 2 → ℕ} (hoff : off = ![j, 0]) (v : View sig κ sp (Mat 400 400) .f32) (f : v.ty.Contents (Elt Ideal))
    (inb : ∀ a, off a + (Mat 1 400).size a ≤ (Mat 400 400).size a) :
    v.readAt (Elt Ideal) (Rect.unit (s := Mat 400 400) off (Mat 1 400).size inb).toLoadRect f = sqRow (v.read (Elt Ideal) f) j := by
  subst hoff
  funext i
  unfold sqRow
  rw [dif_pos hj]
  show v.read (Elt Ideal) f _ = v.read (Elt Ideal) f _
  congr 1
  funext k
  apply Fin.ext
  fin_cases k
  · show j + 1 * (i 0).val = j
    have : (i 0).val < 1 := (i 0).isLt
    omega
  · show 0 + 1 * (i 1).val = (i 1).val; omega

/-- The suppression's state before step `j`. -/
def kept (m : FVec Ideal (Mat 400 400) .f32) : ℕ → Row
  | 0 => rep 0x3F800000#32
  | j + 1 => suppress j (kept m j) (sqRow m j)

/-- Three zeros. -/
theorem zero3 : (![0, 0, 0] : Fin 3 → ℕ) = fun _ => 0 := by decide

variable {M N : ℕ} [Fits M] (K : Consts) (Wp : ℕ) (hN : 2 * Wp + 2 + M ≤ N)

/-- Where shift `t` starts in the flattened map. -/
def off (t : Fin 9) : ℕ := t.val / 3 * Wp + t.val % 3

include hN in
/-- A shift stays inside the padded map. -/
theorem off_le (t : Fin 9) : off Wp t + M ≤ N := by
  have h1 : t.val / 3 * Wp ≤ 2 * Wp := Nat.mul_le_mul_right _ (by omega)
  have : t.val % 3 ≤ 2 := by omega
  unfold off; omega

/-- The hidden map, the scores, the offsets and the boxes of a level, from the blocks it is given, and its result. -/
def hidden (x : FVec Ideal ⟨3, ![1, 256, N]⟩ .f32) (w : FVec Ideal ⟨3, ![9, 256, 256]⟩ .f32) (b : FVec Ideal (Mat 256 1) .f32) :
    FVec Ideal (Mat 256 M) .f32 :=
  stem (taps (slab w) fun t => shift x (off Wp t) (off_le Wp hN t)) b

/-- The boxes of a level, of the rows of scores and offsets. -/
def bx (n : ℕ) (neg : Ideal .f32) (lt : FVec Ideal (Mat 3 M) .f32) (dt : FVec Ideal (Mat 12 M) .f32) : FVec Ideal (Mat 4 400) .f32 :=
  level4 K dt (keyRow (picked K n neg lt))

/-- The hundred boxes a level gives. -/
def best100 (b : FVec Ideal (Mat 4 400) .f32) : FVec Ideal (Mat 100 4) .f32 := result (kept (iou b) 400) b

end Cert.Level

end
-- ==== Proof.Region0.lean ====
/- What the body of level 0's call leaves in its output block: the level's expressions (Level.lean) of the blocks it is given. -/
module

public import proofs.«01_k».proof.Proof.Loads
public import proofs.«01_k».proof.Proof.Gen.KernelIdeal.Frame

@[expose] public section

noncomputable section

namespace Cert.KernelIdeal.Region0

open Idealize.ShloMosaic Cert.KernelIdeal.Gen Cert.KernelIdeal Cert.Level

/-- The level's shapes. -/
instance fits : Fits 4224 where
  bc256 := by decide
  bc3 := by decide
  bc12 := by decide
  bcM := by decide
  lane := by decide
  rowi := by decide
  col := by decide
  cast3 := by decide
  red3 := by decide

/-- The level's scalars. -/
def K : Consts where
  wp := 66#32
  w := 64#32
  invW := 0x3C800000#32
  wF := 0x42800000#32
  stride := 0x41000000#32
  h1 := 0x423504F3#32
  h2 := 0x42000000#32
  h3 := 0x41B504F3#32

/-- The number that stands for `−∞`. -/
def neg : Ideal .f32 := Named.named κ "masked_off" 0xF149F2CA#32

open kernelRun0_A.sl

variable (c : Dev nD) (arg1 : Memref sig .tc .vmem S1x256x4422 .f32) (harg1 : arg1.IsWhole)
  (arg2 : Memref sig .tc .vmem S9x256x256 .f32) (harg2 : arg2.IsWhole) (arg3 : Memref sig .tc .vmem S256x1 .f32) (harg3 : arg3.IsWhole)
  (arg4 : Memref sig .tc .vmem S3x256 .f32) (harg4 : arg4.IsWhole) (arg5 : Memref sig .tc .vmem S3x1 .f32) (harg5 : arg5.IsWhole)
  (arg6 : Memref sig .tc .vmem S12x256 .f32) (harg6 : arg6.IsWhole) (arg7 : Memref sig .tc .vmem S12x1 .f32) (harg7 : arg7.IsWhole)
  (x0 : FVec Ideal S1x256x4422 .f32) (x1 : FVec Ideal S9x256x256 .f32) (x2 : FVec Ideal S256x1 .f32) (x3 : FVec Ideal S3x256 .f32)
  (x4 : FVec Ideal S3x1 .f32) (x5 : FVec Ideal S12x256 .f32) (x6 : FVec Ideal S12x1 .f32)

/-- The windows lie in the flattened map. -/
theorem hN : 2 * 66 + 2 + 4224 ≤ 4422 := by decide

/-- The run's nine windows and slabs are the level's. -/
theorem taps_eq : v52 (F := Ideal) c arg1 harg1 arg2 harg2 x0 x1
    = taps (slab x1) fun t => shift x0 (off 66 t) (off_le 66 hN t) := by
  have hx := harg1.read_unread (Val := Elt Ideal) x0
  have hw := harg2.read_unread (Val := Elt Ideal) x1
  have ex : ∀ (o : ℕ) (inb) (h) (ho : o + 4224 ≤ 4422), shapeCast S256x4224 (View.readAt (Elt Ideal) arg1.view
      (Rect.unit (s := S1x256x4422) ![0, 0, o] S1x256x4224.size inb).toLoadRect (harg1.unread x0)) h = shift x0 o ho :=
    fun o inb h ho => (load_shift arg1.view _ inb h ho).trans (by rw [hx])
  have ew : ∀ (t : ℕ) (inb) (h) (ht : t < 9), shapeCast S256x256 (View.readAt (Elt Ideal) arg2.view
      (Rect.unit (s := S9x256x256) ![t, 0, 0] S1x256x256.size inb).toLoadRect (harg2.unread x1)) h = slab x1 ⟨t, ht⟩ :=
    fun t inb h ht => (load_slab ht arg2.view _ inb h).trans (by rw [hw])
  show addf (addf (addf (addf (addf (addf (addf (addf
    (tap (v1 c arg2 harg2 x1) (v3 c arg1 harg1 x0)) (tap (v6 c arg2 harg2 x1) (v8 c arg1 harg1 x0)))
    (tap (v12 c arg2 harg2 x1) (v14 c arg1 harg1 x0))) (tap (v18 c arg2 harg2 x1) (v20 c arg1 harg1 x0)))
    (tap (v24 c arg2 harg2 x1) (v26 c arg1 harg1 x0))) (tap (v30 c arg2 harg2 x1) (v32 c arg1 harg1 x0)))
    (tap (v36 c arg2 harg2 x1) (v38 c arg1 harg1 x0))) (tap (v42 c arg2 harg2 x1) (v44 c arg1 harg1 x0)))
    (tap (v48 c arg2 harg2 x1) (v50 c arg1 harg1 x0)) = _
  unfold v1 v3 v6 v8 v12 v14 v18 v20 v24 v26 v30 v32 v36 v38 v42 v44 v48 v50
  rw [ew 0 _ _ (by decide), ew 1 _ _ (by decide), ew 2 _ _ (by decide), ew 3 _ _ (by decide), ew 4 _ _ (by decide),
    ew 5 _ _ (by decide), ew 6 _ _ (by decide), ew 7 _ _ (by decide), ew 8 _ _ (by decide),
    ex 0 _ _ (by decide), ex 1 _ _ (by decide), ex 2 _ _ (by decide), ex 66 _ _ (by decide), ex 67 _ _ (by decide), ex 68 _ _ (by decide), ex 132 _ _ (by decide), ex 133 _ _ (by decide), ex 134 _ _ (by decide)]
  rfl

/-- The hidden map the run computes. -/
theorem hidden_eq : v58 (F := Ideal) c arg1 harg1 arg2 harg2 arg3 harg3 x0 x1 x2 = hidden 66 hN x0 x1 x2 := by
  have e : v54 (F := Ideal) c arg3 harg3 x2 = x2 :=
    (load_block arg3.view _ _ _).trans (harg3.read_unread (Val := Elt Ideal) x2)
  show stem (v52 c arg1 harg1 arg2 harg2 x0 x1) (v54 c arg3 harg3 x2) = _
  rw [e, taps_eq]; rfl

/-- The scores the run computes. -/
theorem logits_eq : v65 (F := Ideal) c arg1 harg1 arg2 harg2 arg3 harg3 arg4 harg4 arg5 harg5 x0 x1 x2 x3 x4
    = logits x3 (hidden 66 hN x0 x1 x2) x4 := by
  have e : v60 (F := Ideal) c arg4 harg4 x3 = x3 :=
    (load_block arg4.view _ _ _).trans (harg4.read_unread (Val := Elt Ideal) x3)
  have e' : v63 (F := Ideal) c arg5 harg5 x4 = x4 :=
    (load_block arg5.view _ _ _).trans (harg5.read_unread (Val := Elt Ideal) x4)
  show logits (v60 c arg4 harg4 x3) (v58 c arg1 harg1 arg2 harg2 arg3 harg3 x0 x1 x2) (v63 c arg5 harg5 x4) = _
  rw [e, e', hidden_eq]

/-- The offsets the run computes. -/
theorem deltas_eq : v72 (F := Ideal) c arg1 harg1 arg2 harg2 arg3 harg3 arg6 harg6 arg7 harg7 x0 x1 x2 x5 x6
    = deltas x5 (hidden 66 hN x0 x1 x2) x6 := by
  have e : v67 (F := Ideal) c arg6 harg6 x5 = x5 :=
    (load_block arg6.view _ _ _).trans (harg6.read_unread (Val := Elt Ideal) x5)
  have e' : v70 (F := Ideal) c arg7 harg7 x6 = x6 :=
    (load_block arg7.view _ _ _).trans (harg7.read_unread (Val := Elt Ideal) x6)
  show deltas (v67 c arg6 harg6 x5) (v58 c arg1 harg1 arg2 harg2 arg3 harg3 x0 x1 x2) (v70 c arg7 harg7 x6) = _
  rw [e, e', hidden_eq]

/-- The boxes the run computes. -/
theorem boxes_eq : v284 (F := Ideal) c arg1 harg1 arg2 harg2 arg3 harg3 arg4 harg4 arg5 harg5 arg6 harg6 arg7 harg7 x0 x1 x2 x3 x4 x5 x6
    = bx K k0_t1_loop.trips neg (logits x3 (hidden 66 hN x0 x1 x2) x4) (deltas x5 (hidden 66 hN x0 x1 x2) x6) := by
  rw [← logits_eq c arg1 harg1 arg2 harg2 arg3 harg3 arg4 harg4 arg5 harg5, ← deltas_eq c arg1 harg1 arg2 harg2 arg3 harg3 arg6 harg6 arg7 harg7]
  rfl

/-- What the suppression carries before trip `n`. -/
theorem kept_eq (i : grid0.Coords) (arg8 : Memref sig .tc .vmem S1x100x4 .f32) (harg8 : arg8.IsWhole) (arg9 : Memref sig .tc .vmem S400x400 .f32)
    (harg9 : arg9.IsWhole) (X : BufTy.Contents (Elt Ideal) arg9.view.ty) : ∀ n, n ≤ 400 →
    st_k0_t2 (F := Ideal) Variants.none c none i arg1 harg1 arg2 harg2 arg3 harg3 arg4 harg4 arg5 harg5 arg6 harg6 arg7 harg7 arg8 harg8 arg9 harg9 X k0_pay61 n
      = kept (arg9.view.read (Elt Ideal) X) n
  | 0, _ => by rw [st_k0_t2_zero]; rfl
  | n + 1, h => by
    have hn : n < k0_t2_loop.trips := by
      have : k0_t2_loop.trips = 400 := by decide
      omega
    rw [st_k0_t2_succ Variants.none c none i arg1 harg1 arg2 harg2 arg3 harg3 arg4 harg4 arg5 harg5 arg6 harg6 arg7 harg7 arg8 harg8 arg9 harg9 X k0_pay61 ⟨n, hn⟩,
      kept_eq i arg8 harg8 arg9 harg9 X n (by omega)]
    unfold tripR_k0_t2 trip_k0_t2
    dsimp only
    rw [load_row (j := n) (by omega) (k0_off1_eq ⟨n, hn⟩) arg9.view X]
    rfl

/-- What the level's body leaves in its output block. -/
theorem out_eq (i : grid0.Coords) (arg8 : Memref sig .tc .vmem S1x100x4 .f32) (harg8 : arg8.IsWhole) (arg9 : Memref sig .tc .vmem S400x400 .f32)
    (harg9 : arg9.IsWhole) (r : Fin 100) (k : Fin 4) :
    out0_A_7 (F := Ideal) c i arg1 harg1 arg2 harg2 arg3 harg3 arg4 harg4 arg5 harg5 arg6 harg6 arg7 harg7 arg8 harg8 arg9 harg9 x0 x1 x2 x3 x4 x5 x6 (ix3 0 r k)
      = best100 (bx K k0_t1_loop.trips neg (logits x3 (hidden 66 hN x0 x1 x2) x4) (deltas x5 (hidden 66 hN x0 x1 x2) x6)) (ix2 r k) := by
  unfold out0_A_7
  rw [View.read_writes_eq_canon _ _ _ (cover0_A_7 (F := Ideal) c i arg1 harg1 arg2 harg2 arg3 harg3 arg4 harg4 arg5 harg5 arg6 harg6 arg7 harg7 arg8 harg8 arg9 harg9 x0 x1 x2 x3 x4 x5 x6)]
  unfold kernelRun0_A
  dsimp only
  rw [View.canon_unit_zero (S := S1x100x4) zero3]
  unfold k0_pay1
  refine (asSheet _ _ _ _ _).trans ?_
  refine congrFun ?_ (ix2 r k)
  unfold r_6
  have e := kept_eq c arg1 harg1 arg2 harg2 arg3 harg3 arg4 harg4 arg5 harg5 arg6 harg6 arg7 harg7 i arg8 harg8 arg9 harg9
    (arg9.view.writes (Elt Ideal) arg9.view.junk (HS0_1 c arg1 harg1 arg2 harg2 arg3 harg3 arg4 harg4 arg5 harg5 arg6 harg6 arg7 harg7 x0 x1 x2 x3 x4 x5 x6)) 400 le_rfl
  have e' : arg9.view.read (Elt Ideal) (arg9.view.writes (Elt Ideal) arg9.view.junk (HS0_1 c arg1 harg1 arg2 harg2 arg3 harg3 arg4 harg4 arg5 harg5 arg6 harg6 arg7 harg7 x0 x1 x2 x3 x4 x5 x6))
      = iou (v284 c arg1 harg1 arg2 harg2 arg3 harg3 arg4 harg4 arg5 harg5 arg6 harg6 arg7 harg7 x0 x1 x2 x3 x4 x5 x6) := by
    unfold HS0_1
    rw [View.read_writes_full]
    exact shapeCast_id _ _
  rw [e'] at e
  have ht : Scf.trips k0_t2_loop.lb k0_t2_loop.ub k0_t2_loop.st = 400 := by decide
  rw [ht, e, ← boxes_eq c arg1 harg1 arg2 harg2 arg3 harg3 arg4 harg4 arg5 harg5 arg6 harg6 arg7 harg7]
  rfl

end Cert.KernelIdeal.Region0

end
-- ==== Proof.Region1.lean ====
/- What the body of level 1's call leaves in its output block: the level's expressions (Level.lean) of the blocks it is given. -/
module

public import proofs.«01_k».proof.Proof.Loads
public import proofs.«01_k».proof.Proof.Gen.KernelIdeal.Frame

@[expose] public section

noncomputable section

namespace Cert.KernelIdeal.Region1

open Idealize.ShloMosaic Cert.KernelIdeal.Gen Cert.KernelIdeal Cert.Level

/-- The level's shapes. -/
instance fits : Fits 1088 where
  bc256 := by decide
  bc3 := by decide
  bc12 := by decide
  bcM := by decide
  lane := by decide
  rowi := by decide
  col := by decide
  cast3 := by decide
  red3 := by decide

/-- The level's scalars. -/
def K : Consts where
  wp := 34#32
  w := 32#32
  invW := 0x3D000000#32
  wF := 0x42000000#32
  stride := 0x41800000#32
  h1 := 0x42B504F3#32
  h2 := 0x42800000#32
  h3 := 0x423504F3#32

/-- The number that stands for `−∞`. -/
def neg : Ideal .f32 := Named.named κ "masked_off" 0xF149F2CA#32

open kernelRun1_A.sl

variable (c : Dev nD) (arg1 : Memref sig .tc .vmem S1x256x1190 .f32) (harg1 : arg1.IsWhole)
  (arg2 : Memref sig .tc .vmem S9x256x256 .f32) (harg2 : arg2.IsWhole) (arg3 : Memref sig .tc .vmem S256x1 .f32) (harg3 : arg3.IsWhole)
  (arg4 : Memref sig .tc .vmem S3x256 .f32) (harg4 : arg4.IsWhole) (arg5 : Memref sig .tc .vmem S3x1 .f32) (harg5 : arg5.IsWhole)
  (arg6 : Memref sig .tc .vmem S12x256 .f32) (harg6 : arg6.IsWhole) (arg7 : Memref sig .tc .vmem S12x1 .f32) (harg7 : arg7.IsWhole)
  (x0 : FVec Ideal S1x256x1190 .f32) (x1 : FVec Ideal S9x256x256 .f32) (x2 : FVec Ideal S256x1 .f32) (x3 : FVec Ideal S3x256 .f32)
  (x4 : FVec Ideal S3x1 .f32) (x5 : FVec Ideal S12x256 .f32) (x6 : FVec Ideal S12x1 .f32)

/-- The windows lie in the flattened map. -/
theorem hN : 2 * 34 + 2 + 1088 ≤ 1190 := by decide

/-- The run's nine windows and slabs are the level's. -/
theorem taps_eq : v52 (F := Ideal) c arg1 harg1 arg2 harg2 x0 x1
    = taps (slab x1) fun t => shift x0 (off 34 t) (off_le 34 hN t) := by
  have hx := harg1.read_unread (Val := Elt Ideal) x0
  have hw := harg2.read_unread (Val := Elt Ideal) x1
  have ex : ∀ (o : ℕ) (inb) (h) (ho : o + 1088 ≤ 1190), shapeCast S256x1088 (View.readAt (Elt Ideal) arg1.view
      (Rect.unit (s := S1x256x1190) ![0, 0, o] S1x256x1088.size inb).toLoadRect (harg1.unread x0)) h = shift x0 o ho :=
    fun o inb h ho => (load_shift arg1.view _ inb h ho).trans (by rw [hx])
  have ew : ∀ (t : ℕ) (inb) (h) (ht : t < 9), shapeCast S256x256 (View.readAt (Elt Ideal) arg2.view
      (Rect.unit (s := S9x256x256) ![t, 0, 0] S1x256x256.size inb).toLoadRect (harg2.unread x1)) h = slab x1 ⟨t, ht⟩ :=
    fun t inb h ht => (load_slab ht arg2.view _ inb h).trans (by rw [hw])
  show addf (addf (addf (addf (addf (addf (addf (addf
    (tap (v1 c arg2 harg2 x1) (v3 c arg1 harg1 x0)) (tap (v6 c arg2 harg2 x1) (v8 c arg1 harg1 x0)))
    (tap (v12 c arg2 harg2 x1) (v14 c arg1 harg1 x0))) (tap (v18 c arg2 harg2 x1) (v20 c arg1 harg1 x0)))
    (tap (v24 c arg2 harg2 x1) (v26 c arg1 harg1 x0))) (tap (v30 c arg2 harg2 x1) (v32 c arg1 harg1 x0)))
    (tap (v36 c arg2 harg2 x1) (v38 c arg1 harg1 x0))) (tap (v42 c arg2 harg2 x1) (v44 c arg1 harg1 x0)))
    (tap (v48 c arg2 harg2 x1) (v50 c arg1 harg1 x0)) = _
  unfold v1 v3 v6 v8 v12 v14 v18 v20 v24 v26 v30 v32 v36 v38 v42 v44 v48 v50
  rw [ew 0 _ _ (by decide), ew 1 _ _ (by decide), ew 2 _ _ (by decide), ew 3 _ _ (by decide), ew 4 _ _ (by decide),
    ew 5 _ _ (by decide), ew 6 _ _ (by decide), ew 7 _ _ (by decide), ew 8 _ _ (by decide),
    ex 0 _ _ (by decide), ex 1 _ _ (by decide), ex 2 _ _ (by decide), ex 34 _ _ (by decide), ex 35 _ _ (by decide), ex 36 _ _ (by decide), ex 68 _ _ (by decide), ex 69 _ _ (by decide), ex 70 _ _ (by decide)]
  rfl

/-- The hidden map the run computes. -/
theorem hidden_eq : v58 (F := Ideal) c arg1 harg1 arg2 harg2 arg3 harg3 x0 x1 x2 = hidden 34 hN x0 x1 x2 := by
  have e : v54 (F := Ideal) c arg3 harg3 x2 = x2 :=
    (load_block arg3.view _ _ _).trans (harg3.read_unread (Val := Elt Ideal) x2)
  show stem (v52 c arg1 harg1 arg2 harg2 x0 x1) (v54 c arg3 harg3 x2) = _
  rw [e, taps_eq]; rfl

/-- The scores the run computes. -/
theorem logits_eq : v65 (F := Ideal) c arg1 harg1 arg2 harg2 arg3 harg3 arg4 harg4 arg5 harg5 x0 x1 x2 x3 x4
    = logits x3 (hidden 34 hN x0 x1 x2) x4 := by
  have e : v60 (F := Ideal) c arg4 harg4 x3 = x3 :=
    (load_block arg4.view _ _ _).trans (harg4.read_unread (Val := Elt Ideal) x3)
  have e' : v63 (F := Ideal) c arg5 harg5 x4 = x4 :=
    (load_block arg5.view _ _ _).trans (harg5.read_unread (Val := Elt Ideal) x4)
  show logits (v60 c arg4 harg4 x3) (v58 c arg1 harg1 arg2 harg2 arg3 harg3 x0 x1 x2) (v63 c arg5 harg5 x4) = _
  rw [e, e', hidden_eq]

/-- The offsets the run computes. -/
theorem deltas_eq : v72 (F := Ideal) c arg1 harg1 arg2 harg2 arg3 harg3 arg6 harg6 arg7 harg7 x0 x1 x2 x5 x6
    = deltas x5 (hidden 34 hN x0 x1 x2) x6 := by
  have e : v67 (F := Ideal) c arg6 harg6 x5 = x5 :=
    (load_block arg6.view _ _ _).trans (harg6.read_unread (Val := Elt Ideal) x5)
  have e' : v70 (F := Ideal) c arg7 harg7 x6 = x6 :=
    (load_block arg7.view _ _ _).trans (harg7.read_unread (Val := Elt Ideal) x6)
  show deltas (v67 c arg6 harg6 x5) (v58 c arg1 harg1 arg2 harg2 arg3 harg3 x0 x1 x2) (v70 c arg7 harg7 x6) = _
  rw [e, e', hidden_eq]

/-- The boxes the run computes. -/
theorem boxes_eq : v284 (F := Ideal) c arg1 harg1 arg2 harg2 arg3 harg3 arg4 harg4 arg5 harg5 arg6 harg6 arg7 harg7 x0 x1 x2 x3 x4 x5 x6
    = bx K k1_t1_loop.trips neg (logits x3 (hidden 34 hN x0 x1 x2) x4) (deltas x5 (hidden 34 hN x0 x1 x2) x6) := by
  rw [← logits_eq c arg1 harg1 arg2 harg2 arg3 harg3 arg4 harg4 arg5 harg5, ← deltas_eq c arg1 harg1 arg2 harg2 arg3 harg3 arg6 harg6 arg7 harg7]
  rfl

/-- What the suppression carries before trip `n`. -/
theorem kept_eq (i : grid1.Coords) (arg8 : Memref sig .tc .vmem S1x100x4 .f32) (harg8 : arg8.IsWhole) (arg9 : Memref sig .tc .vmem S400x400 .f32)
    (harg9 : arg9.IsWhole) (X : BufTy.Contents (Elt Ideal) arg9.view.ty) : ∀ n, n ≤ 400 →
    st_k1_t2 (F := Ideal) Variants.none c none i arg1 harg1 arg2 harg2 arg3 harg3 arg4 harg4 arg5 harg5 arg6 harg6 arg7 harg7 arg8 harg8 arg9 harg9 X k1_pay61 n
      = kept (arg9.view.read (Elt Ideal) X) n
  | 0, _ => by rw [st_k1_t2_zero]; rfl
  | n + 1, h => by
    have hn : n < k1_t2_loop.trips := by
      have : k1_t2_loop.trips = 400 := by decide
      omega
    rw [st_k1_t2_succ Variants.none c none i arg1 harg1 arg2 harg2 arg3 harg3 arg4 harg4 arg5 harg5 arg6 harg6 arg7 harg7 arg8 harg8 arg9 harg9 X k1_pay61 ⟨n, hn⟩,
      kept_eq i arg8 harg8 arg9 harg9 X n (by omega)]
    unfold tripR_k1_t2 trip_k1_t2
    dsimp only
    rw [load_row (j := n) (by omega) (k1_off1_eq ⟨n, hn⟩) arg9.view X]
    rfl

/-- What the level's body leaves in its output block. -/
theorem out_eq (i : grid1.Coords) (arg8 : Memref sig .tc .vmem S1x100x4 .f32) (harg8 : arg8.IsWhole) (arg9 : Memref sig .tc .vmem S400x400 .f32)
    (harg9 : arg9.IsWhole) (r : Fin 100) (k : Fin 4) :
    out1_A_7 (F := Ideal) c i arg1 harg1 arg2 harg2 arg3 harg3 arg4 harg4 arg5 harg5 arg6 harg6 arg7 harg7 arg8 harg8 arg9 harg9 x0 x1 x2 x3 x4 x5 x6 (ix3 0 r k)
      = best100 (bx K k1_t1_loop.trips neg (logits x3 (hidden 34 hN x0 x1 x2) x4) (deltas x5 (hidden 34 hN x0 x1 x2) x6)) (ix2 r k) := by
  unfold out1_A_7
  rw [View.read_writes_eq_canon _ _ _ (cover1_A_7 (F := Ideal) c i arg1 harg1 arg2 harg2 arg3 harg3 arg4 harg4 arg5 harg5 arg6 harg6 arg7 harg7 arg8 harg8 arg9 harg9 x0 x1 x2 x3 x4 x5 x6)]
  unfold kernelRun1_A
  dsimp only
  rw [View.canon_unit_zero (S := S1x100x4) zero3]
  unfold k1_pay1
  refine (asSheet _ _ _ _ _).trans ?_
  refine congrFun ?_ (ix2 r k)
  unfold r_6
  have e := kept_eq c arg1 harg1 arg2 harg2 arg3 harg3 arg4 harg4 arg5 harg5 arg6 harg6 arg7 harg7 i arg8 harg8 arg9 harg9
    (arg9.view.writes (Elt Ideal) arg9.view.junk (HS0_1 c arg1 harg1 arg2 harg2 arg3 harg3 arg4 harg4 arg5 harg5 arg6 harg6 arg7 harg7 x0 x1 x2 x3 x4 x5 x6)) 400 le_rfl
  have e' : arg9.view.read (Elt Ideal) (arg9.view.writes (Elt Ideal) arg9.view.junk (HS0_1 c arg1 harg1 arg2 harg2 arg3 harg3 arg4 harg4 arg5 harg5 arg6 harg6 arg7 harg7 x0 x1 x2 x3 x4 x5 x6))
      = iou (v284 c arg1 harg1 arg2 harg2 arg3 harg3 arg4 harg4 arg5 harg5 arg6 harg6 arg7 harg7 x0 x1 x2 x3 x4 x5 x6) := by
    unfold HS0_1
    rw [View.read_writes_full]
    exact shapeCast_id _ _
  rw [e'] at e
  have ht : Scf.trips k1_t2_loop.lb k1_t2_loop.ub k1_t2_loop.st = 400 := by decide
  rw [ht, e, ← boxes_eq c arg1 harg1 arg2 harg2 arg3 harg3 arg4 harg4 arg5 harg5 arg6 harg6 arg7 harg7]
  rfl

end Cert.KernelIdeal.Region1

end
-- ==== Proof.Region2.lean ====
/- What the body of level 2's call leaves in its output block: the level's expressions (Level.lean) of the blocks it is given. -/
module

public import proofs.«01_k».proof.Proof.Loads
public import proofs.«01_k».proof.Proof.Gen.KernelIdeal.Frame

@[expose] public section

noncomputable section

namespace Cert.KernelIdeal.Region2

open Idealize.ShloMosaic Cert.KernelIdeal.Gen Cert.KernelIdeal Cert.Level

/-- The level's shapes. -/
instance fits : Fits 288 where
  bc256 := by decide
  bc3 := by decide
  bc12 := by decide
  bcM := by decide
  lane := by decide
  rowi := by decide
  col := by decide
  cast3 := by decide
  red3 := by decide

/-- The level's scalars. -/
def K : Consts where
  wp := 18#32
  w := 16#32
  invW := 0x3D800000#32
  wF := 0x41800000#32
  stride := 0x42000000#32
  h1 := 0x433504F3#32
  h2 := 0x43000000#32
  h3 := 0x42B504F3#32

/-- The number that stands for `−∞`. -/
def neg : Ideal .f32 := Named.named κ "masked_off" 0xF149F2CA#32

open kernelRun2_A.sl

variable (c : Dev nD) (arg1 : Memref sig .tc .vmem S1x256x342 .f32) (harg1 : arg1.IsWhole)
  (arg2 : Memref sig .tc .vmem S9x256x256 .f32) (harg2 : arg2.IsWhole) (arg3 : Memref sig .tc .vmem S256x1 .f32) (harg3 : arg3.IsWhole)
  (arg4 : Memref sig .tc .vmem S3x256 .f32) (harg4 : arg4.IsWhole) (arg5 : Memref sig .tc .vmem S3x1 .f32) (harg5 : arg5.IsWhole)
  (arg6 : Memref sig .tc .vmem S12x256 .f32) (harg6 : arg6.IsWhole) (arg7 : Memref sig .tc .vmem S12x1 .f32) (harg7 : arg7.IsWhole)
  (x0 : FVec Ideal S1x256x342 .f32) (x1 : FVec Ideal S9x256x256 .f32) (x2 : FVec Ideal S256x1 .f32) (x3 : FVec Ideal S3x256 .f32)
  (x4 : FVec Ideal S3x1 .f32) (x5 : FVec Ideal S12x256 .f32) (x6 : FVec Ideal S12x1 .f32)

/-- The windows lie in the flattened map. -/
theorem hN : 2 * 18 + 2 + 288 ≤ 342 := by decide

/-- The run's nine windows and slabs are the level's. -/
theorem taps_eq : v52 (F := Ideal) c arg1 harg1 arg2 harg2 x0 x1
    = taps (slab x1) fun t => shift x0 (off 18 t) (off_le 18 hN t) := by
  have hx := harg1.read_unread (Val := Elt Ideal) x0
  have hw := harg2.read_unread (Val := Elt Ideal) x1
  have ex : ∀ (o : ℕ) (inb) (h) (ho : o + 288 ≤ 342), shapeCast S256x288 (View.readAt (Elt Ideal) arg1.view
      (Rect.unit (s := S1x256x342) ![0, 0, o] S1x256x288.size inb).toLoadRect (harg1.unread x0)) h = shift x0 o ho :=
    fun o inb h ho => (load_shift arg1.view _ inb h ho).trans (by rw [hx])
  have ew : ∀ (t : ℕ) (inb) (h) (ht : t < 9), shapeCast S256x256 (View.readAt (Elt Ideal) arg2.view
      (Rect.unit (s := S9x256x256) ![t, 0, 0] S1x256x256.size inb).toLoadRect (harg2.unread x1)) h = slab x1 ⟨t, ht⟩ :=
    fun t inb h ht => (load_slab ht arg2.view _ inb h).trans (by rw [hw])
  show addf (addf (addf (addf (addf (addf (addf (addf
    (tap (v1 c arg2 harg2 x1) (v3 c arg1 harg1 x0)) (tap (v6 c arg2 harg2 x1) (v8 c arg1 harg1 x0)))
    (tap (v12 c arg2 harg2 x1) (v14 c arg1 harg1 x0))) (tap (v18 c arg2 harg2 x1) (v20 c arg1 harg1 x0)))
    (tap (v24 c arg2 harg2 x1) (v26 c arg1 harg1 x0))) (tap (v30 c arg2 harg2 x1) (v32 c arg1 harg1 x0)))
    (tap (v36 c arg2 harg2 x1) (v38 c arg1 harg1 x0))) (tap (v42 c arg2 harg2 x1) (v44 c arg1 harg1 x0)))
    (tap (v48 c arg2 harg2 x1) (v50 c arg1 harg1 x0)) = _
  unfold v1 v3 v6 v8 v12 v14 v18 v20 v24 v26 v30 v32 v36 v38 v42 v44 v48 v50
  rw [ew 0 _ _ (by decide), ew 1 _ _ (by decide), ew 2 _ _ (by decide), ew 3 _ _ (by decide), ew 4 _ _ (by decide),
    ew 5 _ _ (by decide), ew 6 _ _ (by decide), ew 7 _ _ (by decide), ew 8 _ _ (by decide),
    ex 0 _ _ (by decide), ex 1 _ _ (by decide), ex 2 _ _ (by decide), ex 18 _ _ (by decide), ex 19 _ _ (by decide), ex 20 _ _ (by decide), ex 36 _ _ (by decide), ex 37 _ _ (by decide), ex 38 _ _ (by decide)]
  rfl

/-- The hidden map the run computes. -/
theorem hidden_eq : v58 (F := Ideal) c arg1 harg1 arg2 harg2 arg3 harg3 x0 x1 x2 = hidden 18 hN x0 x1 x2 := by
  have e : v54 (F := Ideal) c arg3 harg3 x2 = x2 :=
    (load_block arg3.view _ _ _).trans (harg3.read_unread (Val := Elt Ideal) x2)
  show stem (v52 c arg1 harg1 arg2 harg2 x0 x1) (v54 c arg3 harg3 x2) = _
  rw [e, taps_eq]; rfl

/-- The scores the run computes. -/
theorem logits_eq : v65 (F := Ideal) c arg1 harg1 arg2 harg2 arg3 harg3 arg4 harg4 arg5 harg5 x0 x1 x2 x3 x4
    = logits x3 (hidden 18 hN x0 x1 x2) x4 := by
  have e : v60 (F := Ideal) c arg4 harg4 x3 = x3 :=
    (load_block arg4.view _ _ _).trans (harg4.read_unread (Val := Elt Ideal) x3)
  have e' : v63 (F := Ideal) c arg5 harg5 x4 = x4 :=
    (load_block arg5.view _ _ _).trans (harg5.read_unread (Val := Elt Ideal) x4)
  show logits (v60 c arg4 harg4 x3) (v58 c arg1 harg1 arg2 harg2 arg3 harg3 x0 x1 x2) (v63 c arg5 harg5 x4) = _
  rw [e, e', hidden_eq]

/-- The offsets the run computes. -/
theorem deltas_eq : v72 (F := Ideal) c arg1 harg1 arg2 harg2 arg3 harg3 arg6 harg6 arg7 harg7 x0 x1 x2 x5 x6
    = deltas x5 (hidden 18 hN x0 x1 x2) x6 := by
  have e : v67 (F := Ideal) c arg6 harg6 x5 = x5 :=
    (load_block arg6.view _ _ _).trans (harg6.read_unread (Val := Elt Ideal) x5)
  have e' : v70 (F := Ideal) c arg7 harg7 x6 = x6 :=
    (load_block arg7.view _ _ _).trans (harg7.read_unread (Val := Elt Ideal) x6)
  show deltas (v67 c arg6 harg6 x5) (v58 c arg1 harg1 arg2 harg2 arg3 harg3 x0 x1 x2) (v70 c arg7 harg7 x6) = _
  rw [e, e', hidden_eq]

/-- The boxes the run computes. -/
theorem boxes_eq : v284 (F := Ideal) c arg1 harg1 arg2 harg2 arg3 harg3 arg4 harg4 arg5 harg5 arg6 harg6 arg7 harg7 x0 x1 x2 x3 x4 x5 x6
    = bx K k2_t1_loop.trips neg (logits x3 (hidden 18 hN x0 x1 x2) x4) (deltas x5 (hidden 18 hN x0 x1 x2) x6) := by
  rw [← logits_eq c arg1 harg1 arg2 harg2 arg3 harg3 arg4 harg4 arg5 harg5, ← deltas_eq c arg1 harg1 arg2 harg2 arg3 harg3 arg6 harg6 arg7 harg7]
  rfl

/-- What the suppression carries before trip `n`. -/
theorem kept_eq (i : grid2.Coords) (arg8 : Memref sig .tc .vmem S1x100x4 .f32) (harg8 : arg8.IsWhole) (arg9 : Memref sig .tc .vmem S400x400 .f32)
    (harg9 : arg9.IsWhole) (X : BufTy.Contents (Elt Ideal) arg9.view.ty) : ∀ n, n ≤ 400 →
    st_k2_t2 (F := Ideal) Variants.none c none i arg1 harg1 arg2 harg2 arg3 harg3 arg4 harg4 arg5 harg5 arg6 harg6 arg7 harg7 arg8 harg8 arg9 harg9 X k2_pay61 n
      = kept (arg9.view.read (Elt Ideal) X) n
  | 0, _ => by rw [st_k2_t2_zero]; rfl
  | n + 1, h => by
    have hn : n < k2_t2_loop.trips := by
      have : k2_t2_loop.trips = 400 := by decide
      omega
    rw [st_k2_t2_succ Variants.none c none i arg1 harg1 arg2 harg2 arg3 harg3 arg4 harg4 arg5 harg5 arg6 harg6 arg7 harg7 arg8 harg8 arg9 harg9 X k2_pay61 ⟨n, hn⟩,
      kept_eq i arg8 harg8 arg9 harg9 X n (by omega)]
    unfold tripR_k2_t2 trip_k2_t2
    dsimp only
    rw [load_row (j := n) (by omega) (k2_off1_eq ⟨n, hn⟩) arg9.view X]
    rfl

/-- What the level's body leaves in its output block. -/
theorem out_eq (i : grid2.Coords) (arg8 : Memref sig .tc .vmem S1x100x4 .f32) (harg8 : arg8.IsWhole) (arg9 : Memref sig .tc .vmem S400x400 .f32)
    (harg9 : arg9.IsWhole) (r : Fin 100) (k : Fin 4) :
    out2_A_7 (F := Ideal) c i arg1 harg1 arg2 harg2 arg3 harg3 arg4 harg4 arg5 harg5 arg6 harg6 arg7 harg7 arg8 harg8 arg9 harg9 x0 x1 x2 x3 x4 x5 x6 (ix3 0 r k)
      = best100 (bx K k2_t1_loop.trips neg (logits x3 (hidden 18 hN x0 x1 x2) x4) (deltas x5 (hidden 18 hN x0 x1 x2) x6)) (ix2 r k) := by
  unfold out2_A_7
  rw [View.read_writes_eq_canon _ _ _ (cover2_A_7 (F := Ideal) c i arg1 harg1 arg2 harg2 arg3 harg3 arg4 harg4 arg5 harg5 arg6 harg6 arg7 harg7 arg8 harg8 arg9 harg9 x0 x1 x2 x3 x4 x5 x6)]
  unfold kernelRun2_A
  dsimp only
  rw [View.canon_unit_zero (S := S1x100x4) zero3]
  unfold k2_pay1
  refine (asSheet _ _ _ _ _).trans ?_
  refine congrFun ?_ (ix2 r k)
  unfold r_6
  have e := kept_eq c arg1 harg1 arg2 harg2 arg3 harg3 arg4 harg4 arg5 harg5 arg6 harg6 arg7 harg7 i arg8 harg8 arg9 harg9
    (arg9.view.writes (Elt Ideal) arg9.view.junk (HS0_1 c arg1 harg1 arg2 harg2 arg3 harg3 arg4 harg4 arg5 harg5 arg6 harg6 arg7 harg7 x0 x1 x2 x3 x4 x5 x6)) 400 le_rfl
  have e' : arg9.view.read (Elt Ideal) (arg9.view.writes (Elt Ideal) arg9.view.junk (HS0_1 c arg1 harg1 arg2 harg2 arg3 harg3 arg4 harg4 arg5 harg5 arg6 harg6 arg7 harg7 x0 x1 x2 x3 x4 x5 x6))
      = iou (v284 c arg1 harg1 arg2 harg2 arg3 harg3 arg4 harg4 arg5 harg5 arg6 harg6 arg7 harg7 x0 x1 x2 x3 x4 x5 x6) := by
    unfold HS0_1
    rw [View.read_writes_full]
    exact shapeCast_id _ _
  rw [e'] at e
  have ht : Scf.trips k2_t2_loop.lb k2_t2_loop.ub k2_t2_loop.st = 400 := by decide
  rw [ht, e, ← boxes_eq c arg1 harg1 arg2 harg2 arg3 harg3 arg4 harg4 arg5 harg5 arg6 harg6 arg7 harg7]
  rfl

end Cert.KernelIdeal.Region2

end
-- ==== Proof.Arrays.lean ====
/- What the three calls' result arrays hold after the run, at an index, of the arrays the calls find. -/
module

public import proofs.«01_k».proof.Proof.Region0
public import proofs.«01_k».proof.Proof.Region1
public import proofs.«01_k».proof.Proof.Region2
public import Idealize.ShloMosaic.Lib.Pipeline.Value

@[expose] public section

noncomputable section

namespace Cert.KernelIdeal

open Idealize.ShloMosaic Idealize.ShloMosaic.TcCoe Cert.KernelIdeal.Gen Cert.Level
open Idealize.ShloMosaic.Pipeline (Dat Cfg Window)

/-! ## The first call -/

namespace Region0

/-- The windows' block indices: the point's number along the batch, nothing else moves. -/
theorem index_facts : ∀ t : Fin cfg0.N,
    (win0_7.index t 0 = t.val ∧ win0_7.index t 1 = 0 ∧ win0_7.index t 2 = 0)
    ∧ (win0_0.index t 0 = t.val ∧ win0_0.index t 1 = 0 ∧ win0_0.index t 2 = 0)
    ∧ (∀ a, win0_1.index t a = 0) ∧ (∀ a, win0_2.index t a = 0) ∧ (∀ a, win0_3.index t a = 0)
    ∧ (∀ a, win0_4.index t a = 0) ∧ (∀ a, win0_5.index t a = 0) ∧ (∀ a, win0_6.index t a = 0) := by decide +kernel

variable (V : (c : Dev nD) → (b : Ref sig .tc) → Buf (Elt Ideal) ((c : Thread nD τ).loc b)) (c : Dev nD)

/-- Where an element of the result's block sits in the array. -/
theorem emb_out (t : Fin cfg0.N) (z : Fin 1) (r : Fin 100) (k : Fin 4) (n : Fin 2) (hn : n.val = t.val) :
    ((cfg0.win 7).blk t).view.emb (ix3 z r k : S1x100x4.Idx) = (ix3 n r k : S2x100x4.Idx) := by
  obtain ⟨h0, h1, h2⟩ := (index_facts t).1
  have e0 := win0_7.rect_emb_val t (ix3 z r k : S1x100x4.Idx) 0
  have e1 := win0_7.rect_emb_val t (ix3 z r k : S1x100x4.Idx) 1
  have e2 := win0_7.rect_emb_val t (ix3 z r k : S1x100x4.Idx) 2
  rw [h0] at e0; rw [h1] at e1; rw [h2] at e2
  have hz : z.val = 0 := by omega
  funext a
  apply Fin.ext
  fin_cases a
  · refine e0.trans ?_
    show t.val * 1 + z.val = n.val
    omega
  · refine e1.trans ?_
    show 0 * _ + r.val = r.val
    omega
  · refine e2.trans ?_
    show 0 * _ + k.val = k.val
    omega

/-- Two points' blocks of the result share no element. -/
theorem disjoint_out (t t' : Fin cfg0.N) (h : t ≠ t') :
    Disjoint ((cfg0.win 7).blk t).view.set ((cfg0.win 7).blk t').view.set := by
  refine Finset.disjoint_left.2 fun i hi hi' => h (Fin.ext ?_)
  obtain ⟨y, rfl⟩ := View.exists_emb_of_mem_set _ hi
  obtain ⟨y', e⟩ := View.exists_emb_of_mem_set _ hi'
  obtain ⟨z, r, k, rfl⟩ : ∃ (z : Fin 1) (r : Fin 100) (k : Fin 4), y = (ix3 z r k : S1x100x4.Idx) := ⟨y 0, y 1, y 2, eq_ix3 y⟩
  obtain ⟨z', r', k', rfl⟩ : ∃ (z : Fin 1) (r : Fin 100) (k : Fin 4), y' = (ix3 z r k : S1x100x4.Idx) := ⟨y' 0, y' 1, y' 2, eq_ix3 y'⟩
  rw [emb_out t' z' r' k' ⟨t'.val, t'.isLt.trans_eq N_0⟩ rfl, emb_out t z r k ⟨t.val, t.isLt.trans_eq N_0⟩ rfl] at e
  exact (congrArg (fun i : S2x100x4.Idx => (i 0).val) e).symm

/-- The block of the padded map. -/
theorem block0 (t : Fin cfg0.N) (n : Fin 2) (hn : n.val = t.val) (a : Fin 256) (p : Fin 4422) :
    iblk0 V c 0 t (ix3 0 a p : S1x256x4422.Idx) = V c main_v34 (ix3 n a p : S2x256x4422.Idx) := by
  obtain ⟨h0, h1, h2⟩ := (index_facts t).2.1
  show V c main_v34 ((win0_0.rect t).emb (ix3 0 a p : S1x256x4422.Idx)) = _
  congr 1
  have e0 := win0_0.rect_emb_val t (ix3 0 a p : S1x256x4422.Idx) 0
  have e1 := win0_0.rect_emb_val t (ix3 0 a p : S1x256x4422.Idx) 1
  have e2 := win0_0.rect_emb_val t (ix3 0 a p : S1x256x4422.Idx) 2
  rw [h0] at e0; rw [h1] at e1; rw [h2] at e2
  funext b
  apply Fin.ext
  fin_cases b
  · refine e0.trans ?_
    show t.val * 1 + 0 = n.val
    omega
  · refine e1.trans ?_
    show 0 * _ + a.val = a.val
    omega
  · refine e2.trans ?_
    show 0 * _ + p.val = p.val
    omega

/-- The blocks of the weights and biases are their arrays. -/
theorem block1 (t : Fin cfg0.N) : iblk0 V c 1 t = (V c main_v27 : S9x256x256.Idx → EReal) :=
  funext fun i => congrArg (V c main_v27) (funext fun a => Fin.ext (win0_1.rect_emb_val_of_index_zero t a ((index_facts t).2.2.1 a) i))
@[inherit_doc block1] theorem block2 (t : Fin cfg0.N) : iblk0 V c 2 t = (V c main_v28 : S256x1.Idx → EReal) :=
  funext fun i => congrArg (V c main_v28) (funext fun a => Fin.ext (win0_2.rect_emb_val_of_index_zero t a ((index_facts t).2.2.2.1 a) i))
@[inherit_doc block1] theorem block3 (t : Fin cfg0.N) : iblk0 V c 3 t = (V c main_v29 : S3x256.Idx → EReal) :=
  funext fun i => congrArg (V c main_v29) (funext fun a => Fin.ext (win0_3.rect_emb_val_of_index_zero t a ((index_facts t).2.2.2.2.1 a) i))
@[inherit_doc block1] theorem block4 (t : Fin cfg0.N) : iblk0 V c 4 t = (V c main_v30 : S3x1.Idx → EReal) :=
  funext fun i => congrArg (V c main_v30) (funext fun a => Fin.ext (win0_4.rect_emb_val_of_index_zero t a ((index_facts t).2.2.2.2.2.1 a) i))
@[inherit_doc block1] theorem block5 (t : Fin cfg0.N) : iblk0 V c 5 t = (V c main_v31 : S12x256.Idx → EReal) :=
  funext fun i => congrArg (V c main_v31) (funext fun a => Fin.ext (win0_5.rect_emb_val_of_index_zero t a ((index_facts t).2.2.2.2.2.2.1 a) i))
@[inherit_doc block1] theorem block6 (t : Fin cfg0.N) : iblk0 V c 6 t = (V c main_v32 : S12x1.Idx → EReal) :=
  funext fun i => congrArg (V c main_v32) (funext fun a => Fin.ext (win0_6.rect_emb_val_of_index_zero t a ((index_facts t).2.2.2.2.2.2.2 a) i))

/-- The result's array after the run: each image's block is the level's result on the image's map. -/
theorem out_at (n : Fin 2) (r : Fin 100) (k : Fin 4) : ∃ x0 : FVec Ideal S1x256x4422 .f32,
    (∀ a p, x0 (ix3 0 a p) = V c main_v34 (ix3 n a p : S2x256x4422.Idx)) ∧
    (dat0 V c).arrAt 7 cfg0.N (ix3 n r k : S2x100x4.Idx)
      = best100 (bx K k0_t1_loop.trips neg (logits (V c main_v29) (hidden 66 hN x0 (V c main_v27) (V c main_v28)) (V c main_v30))
          (deltas (V c main_v31) (hidden 66 hN x0 (V c main_v27) (V c main_v28)) (V c main_v32))) (ix2 r k) := by
  let t : Fin cfg0.N := ⟨n.val, n.isLt.trans_eq N_0.symm⟩
  refine ⟨iblk0 V c 0 t, fun a p => block0 V c t n rfl a p, ?_⟩
  have h := (dat0 V c).arrAt_emb_eq_flushed 7 (fun t t' _ _ h => disjoint_out t t' h) t (flush0_7 t) (ix3 0 r k : S1x100x4.Idx)
  rw [emb_out t 0 r k n rfl] at h
  refine h.trans ?_
  show (dat0 V c).after 7 t (ix3 0 r k : S1x100x4.Idx) = _
  rw [after0_7]
  unfold outsAt0
  rw [out_eq, block1, block2, block3, block4, block5, block6]

end Region0

/-! ## The second call -/

namespace Region1

/-- The windows' block indices: the point's number along the batch, nothing else moves. -/
theorem index_facts : ∀ t : Fin cfg1.N,
    (win1_7.index t 0 = t.val ∧ win1_7.index t 1 = 0 ∧ win1_7.index t 2 = 0)
    ∧ (win1_0.index t 0 = t.val ∧ win1_0.index t 1 = 0 ∧ win1_0.index t 2 = 0)
    ∧ (∀ a, win1_1.index t a = 0) ∧ (∀ a, win1_2.index t a = 0) ∧ (∀ a, win1_3.index t a = 0)
    ∧ (∀ a, win1_4.index t a = 0) ∧ (∀ a, win1_5.index t a = 0) ∧ (∀ a, win1_6.index t a = 0) := by decide +kernel

variable (V : (c : Dev nD) → (b : Ref sig .tc) → Buf (Elt Ideal) ((c : Thread nD τ).loc b)) (c : Dev nD)

/-- Where an element of the result's block sits in the array. -/
theorem emb_out (t : Fin cfg1.N) (z : Fin 1) (r : Fin 100) (k : Fin 4) (n : Fin 2) (hn : n.val = t.val) :
    ((cfg1.win 7).blk t).view.emb (ix3 z r k : S1x100x4.Idx) = (ix3 n r k : S2x100x4.Idx) := by
  obtain ⟨h0, h1, h2⟩ := (index_facts t).1
  have e0 := win1_7.rect_emb_val t (ix3 z r k : S1x100x4.Idx) 0
  have e1 := win1_7.rect_emb_val t (ix3 z r k : S1x100x4.Idx) 1
  have e2 := win1_7.rect_emb_val t (ix3 z r k : S1x100x4.Idx) 2
  rw [h0] at e0; rw [h1] at e1; rw [h2] at e2
  have hz : z.val = 0 := by omega
  funext a
  apply Fin.ext
  fin_cases a
  · refine e0.trans ?_
    show t.val * 1 + z.val = n.val
    omega
  · refine e1.trans ?_
    show 0 * _ + r.val = r.val
    omega
  · refine e2.trans ?_
    show 0 * _ + k.val = k.val
    omega

/-- Two points' blocks of the result share no element. -/
theorem disjoint_out (t t' : Fin cfg1.N) (h : t ≠ t') :
    Disjoint ((cfg1.win 7).blk t).view.set ((cfg1.win 7).blk t').view.set := by
  refine Finset.disjoint_left.2 fun i hi hi' => h (Fin.ext ?_)
  obtain ⟨y, rfl⟩ := View.exists_emb_of_mem_set _ hi
  obtain ⟨y', e⟩ := View.exists_emb_of_mem_set _ hi'
  obtain ⟨z, r, k, rfl⟩ : ∃ (z : Fin 1) (r : Fin 100) (k : Fin 4), y = (ix3 z r k : S1x100x4.Idx) := ⟨y 0, y 1, y 2, eq_ix3 y⟩
  obtain ⟨z', r', k', rfl⟩ : ∃ (z : Fin 1) (r : Fin 100) (k : Fin 4), y' = (ix3 z r k : S1x100x4.Idx) := ⟨y' 0, y' 1, y' 2, eq_ix3 y'⟩
  rw [emb_out t' z' r' k' ⟨t'.val, t'.isLt.trans_eq N_1⟩ rfl, emb_out t z r k ⟨t.val, t.isLt.trans_eq N_1⟩ rfl] at e
  exact (congrArg (fun i : S2x100x4.Idx => (i 0).val) e).symm

/-- The block of the padded map. -/
theorem block0 (t : Fin cfg1.N) (n : Fin 2) (hn : n.val = t.val) (a : Fin 256) (p : Fin 1190) :
    iblk1 V c 0 t (ix3 0 a p : S1x256x1190.Idx) = V c main_v37 (ix3 n a p : S2x256x1190.Idx) := by
  obtain ⟨h0, h1, h2⟩ := (index_facts t).2.1
  show V c main_v37 ((win1_0.rect t).emb (ix3 0 a p : S1x256x1190.Idx)) = _
  congr 1
  have e0 := win1_0.rect_emb_val t (ix3 0 a p : S1x256x1190.Idx) 0
  have e1 := win1_0.rect_emb_val t (ix3 0 a p : S1x256x1190.Idx) 1
  have e2 := win1_0.rect_emb_val t (ix3 0 a p : S1x256x1190.Idx) 2
  rw [h0] at e0; rw [h1] at e1; rw [h2] at e2
  funext b
  apply Fin.ext
  fin_cases b
  · refine e0.trans ?_
    show t.val * 1 + 0 = n.val
    omega
  · refine e1.trans ?_
    show 0 * _ + a.val = a.val
    omega
  · refine e2.trans ?_
    show 0 * _ + p.val = p.val
    omega

/-- The blocks of the weights and biases are their arrays. -/
theorem block1 (t : Fin cfg1.N) : iblk1 V c 1 t = (V c main_v27 : S9x256x256.Idx → EReal) :=
  funext fun i => congrArg (V c main_v27) (funext fun a => Fin.ext (win1_1.rect_emb_val_of_index_zero t a ((index_facts t).2.2.1 a) i))
@[inherit_doc block1] theorem block2 (t : Fin cfg1.N) : iblk1 V c 2 t = (V c main_v28 : S256x1.Idx → EReal) :=
  funext fun i => congrArg (V c main_v28) (funext fun a => Fin.ext (win1_2.rect_emb_val_of_index_zero t a ((index_facts t).2.2.2.1 a) i))
@[inherit_doc block1] theorem block3 (t : Fin cfg1.N) : iblk1 V c 3 t = (V c main_v29 : S3x256.Idx → EReal) :=
  funext fun i => congrArg (V c main_v29) (funext fun a => Fin.ext (win1_3.rect_emb_val_of_index_zero t a ((index_facts t).2.2.2.2.1 a) i))
@[inherit_doc block1] theorem block4 (t : Fin cfg1.N) : iblk1 V c 4 t = (V c main_v30 : S3x1.Idx → EReal) :=
  funext fun i => congrArg (V c main_v30) (funext fun a => Fin.ext (win1_4.rect_emb_val_of_index_zero t a ((index_facts t).2.2.2.2.2.1 a) i))
@[inherit_doc block1] theorem block5 (t : Fin cfg1.N) : iblk1 V c 5 t = (V c main_v31 : S12x256.Idx → EReal) :=
  funext fun i => congrArg (V c main_v31) (funext fun a => Fin.ext (win1_5.rect_emb_val_of_index_zero t a ((index_facts t).2.2.2.2.2.2.1 a) i))
@[inherit_doc block1] theorem block6 (t : Fin cfg1.N) : iblk1 V c 6 t = (V c main_v32 : S12x1.Idx → EReal) :=
  funext fun i => congrArg (V c main_v32) (funext fun a => Fin.ext (win1_6.rect_emb_val_of_index_zero t a ((index_facts t).2.2.2.2.2.2.2 a) i))

/-- The result's array after the run: each image's block is the level's result on the image's map. -/
theorem out_at (n : Fin 2) (r : Fin 100) (k : Fin 4) : ∃ x0 : FVec Ideal S1x256x1190 .f32,
    (∀ a p, x0 (ix3 0 a p) = V c main_v37 (ix3 n a p : S2x256x1190.Idx)) ∧
    (dat1 V c).arrAt 7 cfg1.N (ix3 n r k : S2x100x4.Idx)
      = best100 (bx K k1_t1_loop.trips neg (logits (V c main_v29) (hidden 34 hN x0 (V c main_v27) (V c main_v28)) (V c main_v30))
          (deltas (V c main_v31) (hidden 34 hN x0 (V c main_v27) (V c main_v28)) (V c main_v32))) (ix2 r k) := by
  let t : Fin cfg1.N := ⟨n.val, n.isLt.trans_eq N_1.symm⟩
  refine ⟨iblk1 V c 0 t, fun a p => block0 V c t n rfl a p, ?_⟩
  have h := (dat1 V c).arrAt_emb_eq_flushed 7 (fun t t' _ _ h => disjoint_out t t' h) t (flush1_7 t) (ix3 0 r k : S1x100x4.Idx)
  rw [emb_out t 0 r k n rfl] at h
  refine h.trans ?_
  show (dat1 V c).after 7 t (ix3 0 r k : S1x100x4.Idx) = _
  rw [after1_7]
  unfold outsAt1
  rw [out_eq, block1, block2, block3, block4, block5, block6]

end Region1

/-! ## The third call -/

namespace Region2

/-- The windows' block indices: the point's number along the batch, nothing else moves. -/
theorem index_facts : ∀ t : Fin cfg2.N,
    (win2_7.index t 0 = t.val ∧ win2_7.index t 1 = 0 ∧ win2_7.index t 2 = 0)
    ∧ (win2_0.index t 0 = t.val ∧ win2_0.index t 1 = 0 ∧ win2_0.index t 2 = 0)
    ∧ (∀ a, win2_1.index t a = 0) ∧ (∀ a, win2_2.index t a = 0) ∧ (∀ a, win2_3.index t a = 0)
    ∧ (∀ a, win2_4.index t a = 0) ∧ (∀ a, win2_5.index t a = 0) ∧ (∀ a, win2_6.index t a = 0) := by decide +kernel

variable (V : (c : Dev nD) → (b : Ref sig .tc) → Buf (Elt Ideal) ((c : Thread nD τ).loc b)) (c : Dev nD)

/-- Where an element of the result's block sits in the array. -/
theorem emb_out (t : Fin cfg2.N) (z : Fin 1) (r : Fin 100) (k : Fin 4) (n : Fin 2) (hn : n.val = t.val) :
    ((cfg2.win 7).blk t).view.emb (ix3 z r k : S1x100x4.Idx) = (ix3 n r k : S2x100x4.Idx) := by
  obtain ⟨h0, h1, h2⟩ := (index_facts t).1
  have e0 := win2_7.rect_emb_val t (ix3 z r k : S1x100x4.Idx) 0
  have e1 := win2_7.rect_emb_val t (ix3 z r k : S1x100x4.Idx) 1
  have e2 := win2_7.rect_emb_val t (ix3 z r k : S1x100x4.Idx) 2
  rw [h0] at e0; rw [h1] at e1; rw [h2] at e2
  have hz : z.val = 0 := by omega
  funext a
  apply Fin.ext
  fin_cases a
  · refine e0.trans ?_
    show t.val * 1 + z.val = n.val
    omega
  · refine e1.trans ?_
    show 0 * _ + r.val = r.val
    omega
  · refine e2.trans ?_
    show 0 * _ + k.val = k.val
    omega

/-- Two points' blocks of the result share no element. -/
theorem disjoint_out (t t' : Fin cfg2.N) (h : t ≠ t') :
    Disjoint ((cfg2.win 7).blk t).view.set ((cfg2.win 7).blk t').view.set := by
  refine Finset.disjoint_left.2 fun i hi hi' => h (Fin.ext ?_)
  obtain ⟨y, rfl⟩ := View.exists_emb_of_mem_set _ hi
  obtain ⟨y', e⟩ := View.exists_emb_of_mem_set _ hi'
  obtain ⟨z, r, k, rfl⟩ : ∃ (z : Fin 1) (r : Fin 100) (k : Fin 4), y = (ix3 z r k : S1x100x4.Idx) := ⟨y 0, y 1, y 2, eq_ix3 y⟩
  obtain ⟨z', r', k', rfl⟩ : ∃ (z : Fin 1) (r : Fin 100) (k : Fin 4), y' = (ix3 z r k : S1x100x4.Idx) := ⟨y' 0, y' 1, y' 2, eq_ix3 y'⟩
  rw [emb_out t' z' r' k' ⟨t'.val, t'.isLt.trans_eq N_2⟩ rfl, emb_out t z r k ⟨t.val, t.isLt.trans_eq N_2⟩ rfl] at e
  exact (congrArg (fun i : S2x100x4.Idx => (i 0).val) e).symm

/-- The block of the padded map. -/
theorem block0 (t : Fin cfg2.N) (n : Fin 2) (hn : n.val = t.val) (a : Fin 256) (p : Fin 342) :
    iblk2 V c 0 t (ix3 0 a p : S1x256x342.Idx) = V c main_v40 (ix3 n a p : S2x256x342.Idx) := by
  obtain ⟨h0, h1, h2⟩ := (index_facts t).2.1
  show V c main_v40 ((win2_0.rect t).emb (ix3 0 a p : S1x256x342.Idx)) = _
  congr 1
  have e0 := win2_0.rect_emb_val t (ix3 0 a p : S1x256x342.Idx) 0
  have e1 := win2_0.rect_emb_val t (ix3 0 a p : S1x256x342.Idx) 1
  have e2 := win2_0.rect_emb_val t (ix3 0 a p : S1x256x342.Idx) 2
  rw [h0] at e0; rw [h1] at e1; rw [h2] at e2
  funext b
  apply Fin.ext
  fin_cases b
  · refine e0.trans ?_
    show t.val * 1 + 0 = n.val
    omega
  · refine e1.trans ?_
    show 0 * _ + a.val = a.val
    omega
  · refine e2.trans ?_
    show 0 * _ + p.val = p.val
    omega

/-- The blocks of the weights and biases are their arrays. -/
theorem block1 (t : Fin cfg2.N) : iblk2 V c 1 t = (V c main_v27 : S9x256x256.Idx → EReal) :=
  funext fun i => congrArg (V c main_v27) (funext fun a => Fin.ext (win2_1.rect_emb_val_of_index_zero t a ((index_facts t).2.2.1 a) i))
@[inherit_doc block1] theorem block2 (t : Fin cfg2.N) : iblk2 V c 2 t = (V c main_v28 : S256x1.Idx → EReal) :=
  funext fun i => congrArg (V c main_v28) (funext fun a => Fin.ext (win2_2.rect_emb_val_of_index_zero t a ((index_facts t).2.2.2.1 a) i))
@[inherit_doc block1] theorem block3 (t : Fin cfg2.N) : iblk2 V c 3 t = (V c main_v29 : S3x256.Idx → EReal) :=
  funext fun i => congrArg (V c main_v29) (funext fun a => Fin.ext (win2_3.rect_emb_val_of_index_zero t a ((index_facts t).2.2.2.2.1 a) i))
@[inherit_doc block1] theorem block4 (t : Fin cfg2.N) : iblk2 V c 4 t = (V c main_v30 : S3x1.Idx → EReal) :=
  funext fun i => congrArg (V c main_v30) (funext fun a => Fin.ext (win2_4.rect_emb_val_of_index_zero t a ((index_facts t).2.2.2.2.2.1 a) i))
@[inherit_doc block1] theorem block5 (t : Fin cfg2.N) : iblk2 V c 5 t = (V c main_v31 : S12x256.Idx → EReal) :=
  funext fun i => congrArg (V c main_v31) (funext fun a => Fin.ext (win2_5.rect_emb_val_of_index_zero t a ((index_facts t).2.2.2.2.2.2.1 a) i))
@[inherit_doc block1] theorem block6 (t : Fin cfg2.N) : iblk2 V c 6 t = (V c main_v32 : S12x1.Idx → EReal) :=
  funext fun i => congrArg (V c main_v32) (funext fun a => Fin.ext (win2_6.rect_emb_val_of_index_zero t a ((index_facts t).2.2.2.2.2.2.2 a) i))

/-- The result's array after the run: each image's block is the level's result on the image's map. -/
theorem out_at (n : Fin 2) (r : Fin 100) (k : Fin 4) : ∃ x0 : FVec Ideal S1x256x342 .f32,
    (∀ a p, x0 (ix3 0 a p) = V c main_v40 (ix3 n a p : S2x256x342.Idx)) ∧
    (dat2 V c).arrAt 7 cfg2.N (ix3 n r k : S2x100x4.Idx)
      = best100 (bx K k2_t1_loop.trips neg (logits (V c main_v29) (hidden 18 hN x0 (V c main_v27) (V c main_v28)) (V c main_v30))
          (deltas (V c main_v31) (hidden 18 hN x0 (V c main_v27) (V c main_v28)) (V c main_v32))) (ix2 r k) := by
  let t : Fin cfg2.N := ⟨n.val, n.isLt.trans_eq N_2.symm⟩
  refine ⟨iblk2 V c 0 t, fun a p => block0 V c t n rfl a p, ?_⟩
  have h := (dat2 V c).arrAt_emb_eq_flushed 7 (fun t t' _ _ h => disjoint_out t t' h) t (flush2_7 t) (ix3 0 r k : S1x100x4.Idx)
  rw [emb_out t 0 r k n rfl] at h
  refine h.trans ?_
  show (dat2 V c).after 7 t (ix3 0 r k : S1x100x4.Idx) = _
  rw [after2_7]
  unfold outsAt2
  rw [out_eq, block1, block2, block3, block4, block5, block6]

end Region2

end Cert.KernelIdeal

end
-- ==== Proof.Order.lean ====
/- The order in which a descending stable sort leaves a row of extended reals, and what its positions say about maxima. -/
module

public import Idealize.ShloMosaic.Lib.SortPrefix
public import Idealize.ShloMosaic.PureOps.Ideal
public import Mathlib.Data.EReal.Basic

@[expose] public section

noncomputable section

namespace Cert.Order

open Idealize.ShloMosaic

/-- Position `a` comes before position `b`: a greater entry, or an equal one further left. -/
def before {n : ℕ} (L : Fin n → EReal) (a b : Fin n) : Bool :=
  decide (L b < L a) || (decide (L a = L b) && decide (a < b))

/-- `before` is a strict total order of the positions. -/
theorem before_total {n : ℕ} (L : Fin n → EReal) : StrictTotalBefore (before L) :=
  StrictTotalBefore.of_key_then_position (fun a b => decide (b < a)) L (by simp)
    (fun a b c h h' => by simp only [decide_eq_true_eq] at *; exact h'.trans h)
    (fun a b => by simp only [decide_eq_true_eq]; rcases lt_trichotomy b a with h | h | h <;> simp [h])

/-- What comes before what, written out. -/
theorem before_iff {n : ℕ} (L : Fin n → EReal) (a b : Fin n) :
    before L a b = true ↔ L b < L a ∨ (L a = L b ∧ a < b) := by
  simp [before]

/-- On a list of increasing positions, two comparators that agree on the later position against the earlier one sort alike. -/
theorem stableSort_eq {n : ℕ} (R B : Fin n → Fin n → Bool) (h : ∀ a b, a < b → R b a = B b a) :
    ∀ l : List (Fin n), l.Pairwise (· < ·) → stableSort R l = stableSort B l
  | [], _ => rfl
  | a :: l, hl => by
    obtain ⟨ha, hl⟩ := List.pairwise_cons.mp hl
    show insertBefore R a (stableSort R l) = insertBefore B a (stableSort B l)
    rw [stableSort_eq R B h l hl]
    exact insertBefore_congr R B a _ fun b hb => h a b (ha b ((perm_stableSort B l).mem_iff.mp hb))

/-- So the positions of the two sorts agree. -/
theorem sortedFrom_eq {n : ℕ} (R B : Fin n → Fin n → Bool) (h : ∀ a b, a < b → R b a = B b a) :
    sortedFrom R = sortedFrom B := by
  have hl : (List.finRange n).Pairwise (· < ·) := List.pairwise_lt_finRange n
  have e : sortPositions n R = sortPositions n B := stableSort_eq R B h _ hl
  funext k
  unfold sortedFrom
  exact List.getElem_of_eq e _

/-- The positions of `L`'s entries in descending order, equal ones from left to right. -/
def best {n : ℕ} (L : Fin n → EReal) : Fin n → Fin n := sortedFrom (before L)

/-- A stable sort that compares the entries alone leaves the same positions. -/
theorem sortedFrom_gt {n : ℕ} (L : Fin n → EReal) (R : Fin n → Fin n → Bool) (hR : ∀ a b, R a b = decide (L b < L a)) :
    sortedFrom R = best L := by
  refine sortedFrom_eq R (before L) fun a b hab => ?_
  rw [hR]
  simp [before, not_lt.mpr hab.le]

/-- No entry comes twice. -/
theorem best_injective {n : ℕ} (L : Fin n → EReal) : Function.Injective (best L) := sortedFrom_injective _

/-- Every entry comes. -/
theorem best_surjective {n : ℕ} (L : Fin n → EReal) : Function.Surjective (best L) := sortedFrom_surjective _

/-- An earlier position of the order comes before a later one. -/
theorem best_lt {n : ℕ} (L : Fin n → EReal) {i j : Fin n} (h : i < j) : before L (best L i) (best L j) = true := by
  have hB := before_total L
  have hno : before L (best L j) (best L i) = false :=
    sortedFrom_noInversion (before L) (before L) (fun a b hab => hB.asymm a b hab) (fun _ _ h => h) hB.negTrans i j h
  rcases hB.total (best L i) (best L j) (fun e => h.ne (best_injective L e)) with h' | h'
  · exact h'
  · rw [hno] at h'; exact absurd h' (by decide)

/-- Among the positions that are none of the first `j`, position `best L j` has the greatest entry, and is the first of those
    with that entry. -/
theorem best_max {n : ℕ} (L : Fin n → EReal) (j p : Fin n) (hp : ∀ i, i < j → best L i ≠ p) :
    p = best L j ∨ L p < L (best L j) ∨ (L (best L j) = L p ∧ best L j < p) := by
  obtain ⟨i, rfl⟩ := best_surjective L p
  rcases lt_trichotomy i j with h | h | h
  · exact absurd rfl (hp i h)
  · exact Or.inl (by rw [h])
  · exact Or.inr ((before_iff L _ _).mp (best_lt L h))

/-- The entries in the order `best` gives them descend. -/
theorem best_antitone {n : ℕ} (L : Fin n → EReal) {i j : Fin n} (h : i ≤ j) : L (best L j) ≤ L (best L i) := by
  rcases h.lt_or_eq with h | h
  · rcases (before_iff L _ _).mp (best_lt L h) with h | h
    · exact h.le
    · exact h.1.ge
  · rw [h]

/-- A numbering of the positions by which whatever comes before has the smaller number is the inverse of `best`. -/
theorem rank_best {n : ℕ} (L : Fin n → EReal) (rk : Fin n → Fin n) (h : ∀ a b, before L a b = true → rk a < rk b) (i : Fin n) :
    rk (best L i) = i := by
  have hm : StrictMono fun i => rk (best L i) := fun a b hab => h _ _ (best_lt L hab)
  have hs : Function.Surjective fun i => rk (best L i) := Finite.injective_iff_surjective.mp hm.injective
  have e := Subsingleton.elim (α := Fin n ≃o Fin n) (hm.orderIsoOfSurjective _ hs) (OrderIso.refl _)
  exact congrArg (fun f : Fin n ≃o Fin n => f i) e

end Cert.Order

end
-- ==== Proof.Rank.lean ====
/- The rank a row entry gets from its keep flag, and which entry has a given rank. -/
module

public import proofs.«01_k».proof.Proof.Order

@[expose] public section

noncomputable section

namespace Cert.Rank

open Cert.Order

variable {n : ℕ} (keep : Fin n → Bool)

/-- How many of the entries up to `j` are kept (`b = true`) or dropped (`b = false`). -/
def upto (b : Bool) (j : Fin n) : ℕ := (Finset.univ.filter fun i => i ≤ j ∧ keep i = b).card

/-- How many entries are kept. -/
def total : ℕ := (Finset.univ.filter fun i => keep i = true).card

/-- An entry counts itself. -/
theorem upto_pos {b : Bool} {j : Fin n} (h : keep j = b) : 0 < upto keep b j :=
  Finset.card_pos.mpr ⟨j, by simp [h]⟩

/-- A later entry of the same kind counts one more. -/
theorem upto_lt {b : Bool} {i j : Fin n} (hij : i < j) (h : keep j = b) : upto keep b i < upto keep b j := by
  refine Finset.card_lt_card (Finset.ssubset_iff_of_subset (fun k hk => ?_) |>.mpr ⟨j, by simp [h], by simp [hij]⟩)
  simp only [Finset.mem_filter, Finset.mem_univ, true_and] at hk ⊢
  exact ⟨hk.1.trans hij.le, hk.2⟩

/-- No count of kept entries passes the total. -/
theorem upto_true_le (j : Fin n) : upto keep true j ≤ total keep :=
  Finset.card_le_card fun k hk => by
    simp only [Finset.mem_filter, Finset.mem_univ, true_and] at hk ⊢
    exact hk.2

/-- Nor does a count of the others pass what is left. -/
theorem upto_false_le (j : Fin n) : total keep + upto keep false j ≤ n := by
  have h : total keep + (Finset.univ.filter fun i => ¬ keep i = true).card = n := by
    rw [total, Finset.card_filter_add_card_filter_not, Finset.card_univ, Fintype.card_fin]
  have h2 : upto keep false j ≤ (Finset.univ.filter fun i => ¬ keep i = true).card :=
    Finset.card_le_card fun k hk => by
      simp only [Finset.mem_filter, Finset.mem_univ, true_and] at hk ⊢
      simp [hk.2]
  omega

/-- The kept entries from left to right, then the dropped ones. -/
def rank (j : Fin n) : ℕ := if keep j then upto keep true j - 1 else total keep + upto keep false j - 1

/-- Ranks stay below the number of entries. -/
theorem rank_lt (j : Fin n) : rank keep j < n := by
  have hj := j.isLt
  unfold rank
  split_ifs with h
  · have := upto_true_le keep j; have := upto_false_le keep j; have := upto_pos keep h; omega
  · have := upto_false_le keep j; have := upto_pos keep (b := false) (by simpa using h); omega

/-- The row in which a dropped entry is `−∞`. -/
def masked (s : Fin n → EReal) (j : Fin n) : EReal := if keep j then s j else ⊥

/-- Where the entries descend and none is `−∞`, the ranks follow the order of the masked row. -/
theorem rank_before (s : Fin n → EReal) (hs : ∀ i j, i ≤ j → s j ≤ s i) (hb : ∀ i, ⊥ < s i) (a b : Fin n)
    (h : before (masked keep s) a b = true) : rank keep a < rank keep b := by
  rw [before_iff] at h
  unfold masked at h
  unfold rank
  by_cases ha : keep a = true <;> by_cases hb' : keep b = true
  · simp only [ha, hb', if_true] at h ⊢
    have hab : a < b := by
      rcases h with h | h
      · by_contra hn; exact absurd (hs b a (not_lt.mp hn)) (not_le.mpr h)
      · exact h.2
    have := upto_lt keep hab hb'; have := upto_pos keep ha; omega
  · simp only [ha, hb', if_true, Bool.false_eq_true, if_false] at h ⊢
    have := upto_true_le keep a; have := upto_pos keep ha; have := upto_pos keep (b := false) (j := b) (by simpa using hb')
    omega
  · simp only [ha, hb', if_true, Bool.false_eq_true, if_false] at h
    rcases h with h | h
    · exact absurd h (not_lt.mpr bot_le)
    · exact absurd h.1 (hb b).ne
  · simp only [ha, hb', Bool.false_eq_true, if_false, lt_irrefl, true_and, false_or] at h ⊢
    have hf : ∀ k, ¬ keep k = true → keep k = false := fun k hk => by simpa using hk
    have := upto_lt keep h (hf b hb'); have := upto_pos keep (hf a ha); omega

/-- The entry of rank `i` is the `i`-th of the masked row's order, and no other has that rank. -/
theorem rank_eq_iff (s : Fin n → EReal) (hs : ∀ i j, i ≤ j → s j ≤ s i) (hb : ∀ i, ⊥ < s i) (i j : Fin n) :
    i.val = rank keep j ↔ best (masked keep s) i = j := by
  have h := rank_best (masked keep s) (fun j => ⟨rank keep j, rank_lt keep j⟩) fun a b hab =>
    rank_before keep s hs hb a b hab
  constructor
  · intro e
    obtain ⟨i', rfl⟩ := best_surjective (masked keep s) j
    have := congrArg Fin.val (h i')
    exact congrArg _ (Fin.ext (e.trans this))
  · rintro rfl
    exact (congrArg Fin.val (h i)).symm

/-- A flag as the number the kernel computes with. -/
def flag (b : Bool) : EReal := if b then 1 else 0

/-- A sum of flags is a count. -/
theorem sum_flag (P : Fin n → Prop) [DecidablePred P] :
    (∑ i, if P i then (1 : EReal) else 0) = (((Finset.univ.filter P).card : ℕ) : EReal) := by
  rw [Finset.sum_boole]

/-- The number the kernel computes for the rank of entry `j`. -/
theorem rank_val (j : Fin n) (kc nc nk : EReal)
    (hkc : kc = ∑ i, flag (keep i) * (if i ≤ j then 1 else 0))
    (hnc : nc = ∑ i, (1 - flag (keep i)) * (if i ≤ j then 1 else 0)) (hnk : nk = ∑ i, flag (keep i)) :
    flag (keep j) * (kc - 1) + (1 - flag (keep j)) * (nk + nc - 1) = ((rank keep j : ℕ) : EReal) := by
  have one : (1 : EReal) - 1 = 0 := by
    rw [← EReal.coe_one, ← EReal.coe_sub, sub_self, EReal.coe_zero]
  have onez : (1 : EReal) - 0 = 1 := by simp
  have h1 : kc = ((upto keep true j : ℕ) : EReal) := by
    rw [hkc, upto, ← sum_flag]
    refine Finset.sum_congr rfl fun i _ => ?_
    by_cases h : i ≤ j <;> cases hk : keep i <;> simp [flag, h, hk]
  have h2 : nc = ((upto keep false j : ℕ) : EReal) := by
    rw [hnc, upto, ← sum_flag]
    refine Finset.sum_congr rfl fun i _ => ?_
    by_cases h : i ≤ j <;> cases hk : keep i <;> simp [flag, h, hk, one]
  have h3 : nk = ((total keep : ℕ) : EReal) := by
    rw [hnk, total, ← sum_flag]
    refine Finset.sum_congr rfl fun i _ => ?_
    cases hk : keep i <;> simp [flag, hk]
  have sub : ∀ a : ℕ, 0 < a → ((a : ℕ) : EReal) - 1 = ((a - 1 : ℕ) : EReal) := fun a ha => by
    obtain ⟨b, rfl⟩ : ∃ b, a = b + 1 := ⟨a - 1, by omega⟩
    rw [← EReal.coe_one, ← EReal.coe_natCast, ← EReal.coe_sub, Nat.cast_succ, add_sub_cancel_right, EReal.coe_natCast]
    rfl
  rw [h1, h2, h3]
  unfold rank
  cases hk : keep j
  · have := upto_pos keep hk
    simp only [flag, Bool.false_eq_true, if_false, zero_mul, zero_add, onez, one_mul]
    rw [← Nat.cast_add, sub _ (by omega)]
  · have := upto_pos keep hk
    simp only [flag, if_true, one_mul, one, zero_mul, add_zero]
    rw [sub _ this]

end Cert.Rank

end
-- ==== Proof.Spec.lean ====
/- The proposals as mathematics: one level of one image, from its padded feature map and the weights. Nothing here is taken
   from a program; the words are the constants both programs print. -/
module

public import proofs.«01_k».proof.Proof.Order
public import proofs.«01_k».proof.Proof.Rank
public import Idealize.ShloMosaic.PureOps.Ideal

@[expose] public section

noncomputable section

namespace Cert.Spec

open Idealize.ShloMosaic Cert.Order Cert.Rank

/-- The number a single-precision word denotes. -/
abbrev w32 (b : BitVec 32) : EReal := Ideal.ofBits .f32 b

/-! ## The scores and the offsets -/

/-- A map with a border of zeros. -/
def padded {W : ℕ} (x : Fin 256 → Fin W → Fin W → EReal) (c : Fin 256) (i j : ℕ) : EReal :=
  if h : (1 ≤ i ∧ i < W + 1) ∧ 1 ≤ j ∧ j < W + 1 then x c ⟨i - 1, by omega⟩ ⟨j - 1, by omega⟩ else 0

/-- One of the nine shifts of the convolution. -/
def part (w : Fin 256 → Fin 256 → Fin 3 → Fin 3 → EReal) (xp : Fin 256 → ℕ → ℕ → EReal) (ky kx : Fin 3) (o : Fin 256) (y x : ℕ) : EReal :=
  ∑ c : Fin 256, w o c ky kx * xp c (y + ky.val) (x + kx.val)

/-- The hidden map. -/
def hid (w : Fin 256 → Fin 256 → Fin 3 → Fin 3 → EReal) (b : Fin 256 → EReal) (xp : Fin 256 → ℕ → ℕ → EReal) (o : Fin 256) (y x : ℕ) : EReal :=
  max ((((((((((part w xp 0 0 o y x + part w xp 0 1 o y x) + part w xp 0 2 o y x) + part w xp 1 0 o y x) + part w xp 1 1 o y x)
    + part w xp 1 2 o y x) + part w xp 2 0 o y x) + part w xp 2 1 o y x) + part w xp 2 2 o y x) + b o)) 0

/-- A 1x1 convolution of a hidden map. -/
def head {n : ℕ} (w : Fin n → Fin 256 → EReal) (b : Fin n → EReal) (h : Fin 256 → ℕ → ℕ → EReal) (r : Fin n) (y x : ℕ) : EReal :=
  (∑ c : Fin 256, w r c * h c y x) + b r

/-- The scores of a level's anchors: by rows, columns, anchors. -/
def scores (W : ℕ) (s : Fin 3 → ℕ → ℕ → EReal) (n : Fin (3 * (W * W))) : EReal :=
  s ⟨n.val % 3, Nat.mod_lt _ (by decide)⟩ (n.val / 3 / W) (n.val / 3 % W)

/-! ## The boxes -/

/-- What a level's anchors depend on: its stride and the three half extents. -/
structure Grid where
  st : EReal
  h1 : EReal
  h2 : EReal
  h3 : EReal

/-- The centre of a row or a column. -/
def ctr (G : Grid) (i : ℕ) : EReal := (((i : ℕ) : EReal) + w32 0x3F000000#32) * G.st

/-- One of three by the anchor. -/
def third {α : Type} (a : ℕ) (x y z : α) : α := if a = 0 then x else if a = 1 then y else z

/-- The corners of anchor `n`. -/
def corner (G : Grid) (W n : ℕ) : Fin 4 → EReal :=
  ![ctr G (n / 3 % W) - third (n % 3) G.h1 G.h2 G.h3, ctr G (n / 3 / W) - third (n % 3) G.h3 G.h2 G.h1,
    ctr G (n / 3 % W) + third (n % 3) G.h1 G.h2 G.h3, ctr G (n / 3 / W) + third (n % 3) G.h3 G.h2 G.h1]

/-- Row `r` of the head is coordinate `r % 4` of anchor `r / 4`. -/
def offRow (n : ℕ) (k : Fin 4) : Fin 12 := ⟨4 * (n % 3) + k.val, by have := Nat.mod_lt n (show 0 < 3 by decide); omega⟩

/-- The offsets of anchor `n`. -/
def offset (W : ℕ) (d : Fin 12 → ℕ → ℕ → EReal) (n : ℕ) (k : Fin 4) : EReal := d (offRow n k) (n / 3 / W) (n / 3 % W)

/-- The middle and the extent of a box, from an anchor's two ends and its offsets. -/
def mid (a b d : EReal) : EReal := d * (b - a) + (a + w32 0x3F000000#32 * (b - a))
/-- An extent after decoding. -/
def ext (a b d : EReal) : EReal := Ideal.exp (min d (w32 0x405542D7#32)) * (b - a)

/-- Cut off at the border of the image. -/
def clip (v : EReal) : EReal := min (max v 0) (w32 0x44000000#32)

/-- The box of an anchor `a` with offsets `d`. -/
def decode (d a : Fin 4 → EReal) : Fin 4 → EReal :=
  ![clip (mid (a 0) (a 2) (d 0) - w32 0x3F000000#32 * ext (a 0) (a 2) (d 2)),
    clip (mid (a 1) (a 3) (d 1) - w32 0x3F000000#32 * ext (a 1) (a 3) (d 3)),
    clip (mid (a 0) (a 2) (d 0) + w32 0x3F000000#32 * ext (a 0) (a 2) (d 2)),
    clip (mid (a 1) (a 3) (d 1) + w32 0x3F000000#32 * ext (a 1) (a 3) (d 3))]

/-! ## The suppression -/

/-- The common area of two boxes, an area, and the overlap. -/
def common (p q : Fin 4 → EReal) : EReal :=
  max (min (p 2) (q 2) - max (p 0) (q 0)) 0 * max (min (p 3) (q 3) - max (p 1) (q 1)) 0
/-- A box's area. -/
def area (p : Fin 4 → EReal) : EReal := (p 2 - p 0) * (p 3 - p 1)
/-- What two boxes share of what they cover together. -/
def overlap (p q : Fin 4 → EReal) : EReal :=
  Ideal.div (common p q) (max (area p + area q - common p q) (w32 0x322BCC77#32))

/-- Which boxes are kept after the first `i` have had their turn. -/
def kept (m : Fin 400 → Fin 400 → EReal) : ℕ → Fin 400 → Bool
  | 0 => fun _ => true
  | i + 1 => fun j => kept m i j && !(if h : i < 400 then decide (w32 0x3F333333#32 < m ⟨i, h⟩ j) && decide (i < j.val) && kept m i ⟨i, h⟩ else false)

/-! ## A level -/

/-- The anchor that comes `j`-th by score. -/
def sel {N : ℕ} (L : Fin N → EReal) (hN : 400 ≤ N) (j : Fin 400) : Fin N := best L (Fin.castLE hN j)

/-- A level's boxes. -/
def boxes {N : ℕ} (L : Fin N → EReal) (hN : 400 ≤ N) (G : Grid) (W : ℕ) (d : Fin 12 → ℕ → ℕ → EReal) (j : Fin 400) : Fin 4 → EReal :=
  decode (offset W d (sel L hN j).val) (corner G W (sel L hN j).val)

/-- The best hundred of 400 boxes with their scores, the kept ones first. -/
def chosen (B : Fin 400 → Fin 4 → EReal) (s : Fin 400 → EReal) (r : Fin 100) : Fin 4 → EReal :=
  B (best (masked (kept (fun i j => overlap (B i) (B j)) 400) s) (Fin.castLE (by decide) r))

end Cert.Spec

end
-- ==== Proof.Words.lean ====
/- Readings both sides use: what the constants' words denote, bits and small words as numbers, a plain product at an entry. -/
module

public import proofs.«01_k».proof.Proof.Level
public import proofs.«01_k».proof.Proof.Spec
public import Idealize.ShloMosaic.Lib.Pointwise.IndexVar
public import Idealize.ShloMosaic.Lib.WordArith.Masks

@[expose] public section

noncomputable section

namespace Cert.Level

open Idealize.ShloMosaic Cert.Spec

/-- The word of one half. -/
theorem w32_half : w32 0x3F000000#32 = ((1 / 2 : ℝ) : EReal) := by
  simp [Ideal.ofBits, Ideal.ieee, -EReal.coe_mul] <;> norm_num
/-- The word of the number nearest one third. -/
theorem w32_third : w32 0x3EAAAAAB#32 = ((11184811 / 33554432 : ℝ) : EReal) := by
  simp [Ideal.ofBits, Ideal.ieee, -EReal.coe_mul] <;> norm_num
/-- The word of one. -/
theorem w32_one : w32 0x3F800000#32 = 1 := by
  simp [Ideal.ofBits, Ideal.ieee, -EReal.coe_mul] <;> norm_num
/-- The word of two. -/
theorem w32_two : w32 0x40000000#32 = ((2 : ℝ) : EReal) := by
  simp [Ideal.ofBits, Ideal.ieee, -EReal.coe_mul] <;> norm_num
/-- The word of three. -/
theorem w32_three : w32 0x40400000#32 = ((3 : ℝ) : EReal) := by
  simp [Ideal.ofBits, Ideal.ieee, -EReal.coe_mul] <;> norm_num
/-- The word of zero. -/
theorem w32_zero : w32 0x00000000#32 = 0 := by simp [Ideal.ofBits, Ideal.ieee]

/-- A small number as a word. -/
theorem toInt_small {q : ℕ} (h : q < 2 ^ 31) : (BitVec.ofNat 32 q).toInt = (q : ℤ) := by
  rw [BitVec.toInt_eq_toNat_of_lt] <;> simp <;> omega

/-- A bit as a number. -/
theorem bit_val (b : BitVec 1) : (((b.setWidth 32).toInt : ℝ) : EReal) = if b = 1#1 then 1 else 0 := by
  have : b = 0#1 ∨ b = 1#1 := by revert b; decide
  rcases this with rfl | rfl <;> simp

/-- A truth value as a bit. -/
theorem ofBool_one (b : Bool) : BitVec.ofBool b = 1#1 ↔ b = true := by cases b <;> decide

/-- Comparisons of small words. -/
theorem sle_small {a b : ℕ} (ha : a < 2 ^ 31) (hb : b < 2 ^ 31) : Scalar.cmpi .sle (BitVec.ofNat 32 a) (BitVec.ofNat 32 b) = 1#1 ↔ a ≤ b := by
  have h1 := toInt_small ha
  have h2 := toInt_small hb
  simp [Scalar.cmpi, IntOp.cmpi, BitVec.sle, h1, h2, ofBool_one]
/-- Comparing small numbers as words. -/
theorem slt_small {a b : ℕ} (ha : a < 2 ^ 31) (hb : b < 2 ^ 31) : Scalar.cmpi .slt (BitVec.ofNat 32 a) (BitVec.ofNat 32 b) = 1#1 ↔ a < b := by
  have h1 := toInt_small ha
  have h2 := toInt_small hb
  simp [Scalar.cmpi, IntOp.cmpi, BitVec.slt, h1, h2, ofBool_one]
/-- Comparing small numbers as words. -/
theorem sgt_small {a b : ℕ} (ha : a < 2 ^ 31) (hb : b < 2 ^ 31) : Scalar.cmpi .sgt (BitVec.ofNat 32 a) (BitVec.ofNat 32 b) = 1#1 ↔ b < a := by
  have h1 := toInt_small ha
  have h2 := toInt_small hb
  simp [Scalar.cmpi, IntOp.cmpi, BitVec.slt, h1, h2, ofBool_one]
/-- Comparing small numbers as words. -/
theorem eq_small {a b : ℕ} (ha : a < 2 ^ 31) (hb : b < 2 ^ 31) : Scalar.cmpi .eq (BitVec.ofNat 32 a) (BitVec.ofNat 32 b) = 1#1 ↔ a = b := by
  have : BitVec.ofNat 32 a = BitVec.ofNat 32 b ↔ a = b := by
    rw [← BitVec.toNat_inj, BitVec.toNat_ofNat, BitVec.toNat_ofNat, Nat.mod_eq_of_lt (by omega), Nat.mod_eq_of_lt (by omega)]
  simp [Scalar.cmpi, IntOp.cmpi, this, ofBool_one]

/-- The conjunction of two bits. -/
theorem and_bit (a b : BitVec 1) : a &&& b = 1#1 ↔ a = 1#1 ∧ b = 1#1 := by revert a b; decide

/-- An equality test as a number. -/
theorem cmp_eq_flag (x y : EReal) : ((((Ideal.cmp .oeq x y).setWidth 32).toInt : ℝ) : EReal) = if x = y then 1 else 0 := by
  rw [bit_val]
  by_cases h : x = y <;> simp [Ideal.cmp, h]

/-- An entry of a product onto zeros. -/
theorem dot_at {m k n : ℕ} (prec : Option ContractPrecision) (lhs : FVec Ideal (Mat m k) .f32) (rhs : FVec Ideal (Mat k n) .f32) (r : Fin m) (c : Fin n) :
    matmul (DotDims.plain m k n) prec lhs rhs (constant (Mat m n) .f32 0x00000000#32) (ix2 r c)
      = ∑ q : Fin k, lhs (ix2 r q) * rhs (ix2 q c) := by
  refine (Ideal.matmul_plain_apply prec lhs rhs _ r c).trans ?_
  refine Eq.trans (congrArg (· + _) w32_zero) (zero_add _)

end Cert.Level

end
-- ==== Proof.BoxAt.lean ====
/- The kernel's boxes at one key: its decoding of a key into anchor, row and column is exact, and the product with zeros and
   ones reads the offsets of the key's place. -/
module

public import proofs.«01_k».proof.Proof.Level
public import proofs.«01_k».proof.Proof.Words

@[expose] public section

noncomputable section

namespace Cert.Level

open Idealize.ShloMosaic Cert.Spec

/-- The scalars of a level of width `W`. -/
structure Consts.For (K : Consts) (W M : ℕ) : Prop where
  pos : 0 < W
  le : W ≤ 64
  lanes : M = W * (W + 2)
  wp : K.wp = BitVec.ofNat 32 (W + 2)
  w : K.w = BitVec.ofNat 32 W
  invW : w32 K.invW = ((1 / W : ℝ) : EReal)
  wF : w32 K.wF = ((W : ℝ) : EReal)

/-- The level's anchors. -/
def Consts.grid (K : Consts) : Grid := ⟨w32 K.stride, w32 K.h1, w32 K.h2, w32 K.h3⟩

variable {M : ℕ} [Fits M] {K : Consts} {W : ℕ} (H : K.For W M) {k : Row} {j : Fin 400} {n : ℕ}

/-- A number in a row. -/
def Holds (k : Row) (j : Fin 400) (n : ℕ) : Prop := k (ix2 0 j) = (((n : ℕ) : ℝ) : EReal)

/-- The place. -/
theorem loc_at (h : Holds k j n) (hn : n < 12288) : Holds (loc k) j (n / 3) := by
  have e : loc k (ix2 0 j) = Ideal.liftRound Int.floor ((k (ix2 0 j) + w32 0x3F000000#32) * w32 0x3EAAAAAB#32) := rfl
  unfold Holds at *
  rw [e, h, w32_half, w32_third, ← EReal.coe_add, ← EReal.coe_mul, Ideal.liftRound_coe]
  have hq : ((n : ℕ) : ℝ) = 3 * ((n / 3 : ℕ) : ℝ) + ((n % 3 : ℕ) : ℝ) := by
    have := Nat.div_add_mod n 3
    exact_mod_cast this.symm
  have hr : ((n % 3 : ℕ) : ℝ) ≤ 2 := by
    have := Nat.mod_lt n (show 0 < 3 by decide)
    exact_mod_cast (by omega : n % 3 ≤ 2)
  have hr0 : (0 : ℝ) ≤ ((n % 3 : ℕ) : ℝ) := Nat.cast_nonneg _
  have hq0 : (0 : ℝ) ≤ ((n / 3 : ℕ) : ℝ) := Nat.cast_nonneg _
  have hq1 : ((n / 3 : ℕ) : ℝ) ≤ 4096 := by exact_mod_cast (by omega : n / 3 ≤ 4096)
  have : ⌊(((n : ℕ) : ℝ) + 1 / 2) * (11184811 / 33554432)⌋ = ((n / 3 : ℕ) : ℤ) := by
    rw [Int.floor_eq_iff, Int.cast_natCast, hq]
    constructor <;> nlinarith
  rw [this, Int.cast_natCast]

/-- The anchor. -/
theorem anc_at (h : Holds k j n) (hn : n < 12288) : Holds (anc k) j (n % 3) := by
  have e : anc k (ix2 0 j) = k (ix2 0 j) - w32 0x40400000#32 * loc k (ix2 0 j) := rfl
  have hl := loc_at h hn
  unfold Holds at *
  rw [e, h, hl, w32_three, ← EReal.coe_mul, ← EReal.coe_sub]
  congr 1
  have : ((n : ℕ) : ℝ) = 3 * ((n / 3 : ℕ) : ℝ) + ((n % 3 : ℕ) : ℝ) := by exact_mod_cast (Nat.div_add_mod n 3).symm
  linarith

include H in
/-- The row. -/
theorem locY_at (h : Holds k j n) (hn : n < 12288) : Holds (locY K k) j (n / 3 / W) := by
  have e : locY K k (ix2 0 j) = Ideal.liftRound Int.floor (loc k (ix2 0 j) * w32 K.invW) := rfl
  have hl := loc_at h hn
  unfold Holds at *
  rw [e, hl, H.invW, ← EReal.coe_mul, Ideal.liftRound_coe]
  have hW : (0 : ℝ) < (W : ℝ) := by exact_mod_cast H.pos
  have : ⌊((n / 3 : ℕ) : ℝ) * (1 / W)⌋ = ((n / 3 / W : ℕ) : ℤ) := by
    have hd : ((n / 3 : ℕ) : ℝ) = W * ((n / 3 / W : ℕ) : ℝ) + ((n / 3 % W : ℕ) : ℝ) := by
      exact_mod_cast (Nat.div_add_mod (n / 3) W).symm
    have hm : ((n / 3 % W : ℕ) : ℝ) < W := by exact_mod_cast Nat.mod_lt _ H.pos
    have hm0 : (0 : ℝ) ≤ ((n / 3 % W : ℕ) : ℝ) := Nat.cast_nonneg _
    rw [Int.floor_eq_iff, mul_one_div, Int.cast_natCast]
    constructor
    · rw [le_div_iff₀ hW]; linarith [mul_comm (W : ℝ) ((n / 3 / W : ℕ) : ℝ)]
    · rw [div_lt_iff₀ hW]; linarith [mul_comm (W : ℝ) ((n / 3 / W : ℕ) : ℝ)]
  rw [this, Int.cast_natCast]

include H in
/-- The column. -/
theorem cenX_at (h : Holds k j n) (hn : n < 12288) : cenX K k (ix2 0 j) = ctr K.grid (n / 3 % W) := by
  have e : cenX K k (ix2 0 j) = (loc k (ix2 0 j) - w32 K.wF * locY K k (ix2 0 j) + w32 0x3F000000#32) * w32 K.stride := rfl
  have hl := loc_at h hn
  have hy := locY_at H h hn
  unfold Holds at *
  rw [e, hl, hy, H.wF, ← EReal.coe_mul, ← EReal.coe_sub]
  have hd : ((n / 3 : ℕ) : ℝ) - W * ((n / 3 / W : ℕ) : ℝ) = ((n / 3 % W : ℕ) : ℝ) := by
    have : ((n / 3 : ℕ) : ℝ) = W * ((n / 3 / W : ℕ) : ℝ) + ((n / 3 % W : ℕ) : ℝ) := by
      exact_mod_cast (Nat.div_add_mod (n / 3) W).symm
    linarith
  rw [hd]
  rfl

include H in
/-- The row of the anchor's centre. -/
theorem cenY_at (h : Holds k j n) (hn : n < 12288) : cenY K k (ix2 0 j) = ctr K.grid (n / 3 / W) := by
  have e : cenY K k (ix2 0 j) = (locY K k (ix2 0 j) + w32 0x3F000000#32) * w32 K.stride := rfl
  have hy := locY_at H h hn
  unfold Holds at *
  rw [e, hy]
  rfl

/-- The choice by the anchor. -/
theorem byAnc_at (h : Holds k j n) (hn : n < 12288) (a b c : Row) :
    byAnc k a b c (ix2 0 j) = third (n % 3) (a (ix2 0 j)) (b (ix2 0 j)) (c (ix2 0 j)) := by
  have e : byAnc k a b c (ix2 0 j) = Scalar.select (Ideal.cmp .oeq (anc k (ix2 0 j)) (w32 0x00000000#32)) (a (ix2 0 j))
      (Scalar.select (Ideal.cmp .oeq (anc k (ix2 0 j)) (w32 0x3F800000#32)) (b (ix2 0 j)) (c (ix2 0 j))) := rfl
  have ha := anc_at h hn
  unfold Holds at ha
  rw [e, ha, w32_zero, w32_one]
  have h0 : ((((n % 3 : ℕ) : ℝ)) : EReal) = 0 ↔ n % 3 = 0 := by
    rw [← EReal.coe_zero, EReal.coe_eq_coe_iff]; norm_cast
  have h1 : ((((n % 3 : ℕ) : ℝ)) : EReal) = 1 ↔ n % 3 = 1 := by
    rw [← EReal.coe_one, EReal.coe_eq_coe_iff]; norm_cast
  unfold third
  simp only [Scalar.select, Ideal.cmp, h0, h1]
  split_ifs <;> simp_all

include H in
/-- The anchor's corners. -/
theorem corner_at (h : Holds k j n) (hn : n < 12288) :
    ancX1 K k (ix2 0 j) = corner K.grid W n 0 ∧ ancY1 K k (ix2 0 j) = corner K.grid W n 1
      ∧ ancX2 K k (ix2 0 j) = corner K.grid W n 2 ∧ ancY2 K k (ix2 0 j) = corner K.grid W n 3 := by
  have hx := cenX_at H h hn
  have hy := cenY_at H h hn
  have s (u : EReal) (a b c : EReal) : third (n % 3) (u - a) (u - b) (u - c) = u - third (n % 3) a b c := by
    unfold third; split_ifs <;> rfl
  have p (u : EReal) (a b c : EReal) : third (n % 3) (u + a) (u + b) (u + c) = u + third (n % 3) a b c := by
    unfold third; split_ifs <;> rfl
  refine ⟨?_, ?_, ?_, ?_⟩
  · rw [ancX1, byAnc_at h hn]; simp only [subf, hx]; exact s _ _ _ _
  · rw [ancY1, byAnc_at h hn]; simp only [subf, hy]; exact s _ _ _ _
  · rw [ancX2, byAnc_at h hn]; simp only [addf, hx]; exact p _ _ _ _
  · rw [ancY2, byAnc_at h hn]; simp only [addf, hy]; exact p _ _ _ _

include H in
/-- The lane of the padded map. -/
theorem lanes_at (h : Holds k j n) (hn : n < 12288) : Holds (lanes K k) j (n / 3 / W * (W + 2) + n / 3 % W) := by
  have e : lanes K k (ix2 0 j) = loc k (ix2 0 j) + w32 0x40000000#32 * locY K k (ix2 0 j) := rfl
  have hl := loc_at h hn
  have hy := locY_at H h hn
  unfold Holds at *
  rw [e, hl, hy, w32_two, ← EReal.coe_mul, ← EReal.coe_add]
  have hd : ((n / 3 : ℕ) : ℝ) = W * ((n / 3 / W : ℕ) : ℝ) + ((n / 3 % W : ℕ) : ℝ) := by
    exact_mod_cast (Nat.div_add_mod (n / 3) W).symm
  congr 1
  push_cast
  rw [hd]
  ring

/-- The product with zeros and ones reads one lane. -/
theorem gather_at (dt : FVec Ideal (Mat 12 M) .f32) (hM : M < 2 ^ 31) {l : Row} {p : ℕ} (h : Holds l j p) (hp : p < M) (r : Fin 12) :
    gather dt l (ix2 r j) = dt (ix2 r ⟨p, hp⟩) := by
  unfold gather
  refine (dot_at _ _ _ r j).trans ?_
  have e (q : Fin M) : (sitofp .f32 (extui 32 (cmpf .oeq (sitofp .f32 (iota .tc (Mat M 400) 32 [0] Fits.col)) (broadcastTo (Mat M 400) l Fits.bcM)) (by decide)) : FVec Ideal (Mat M 400) .f32) (ix2 q j)
      = if q = ⟨p, hp⟩ then 1 else 0 := by
    have e1 : (broadcastTo (Mat M 400) l Fits.bcM) (ix2 q j) = l (ix2 0 j) := by pointwise
    have e2 : (iota .tc (Mat M 400) 32 [0] Fits.col) (ix2 q j) = BitVec.ofNat 32 q.val := by pointwise
    have e3 : (sitofp .f32 (extui 32 (cmpf .oeq (sitofp .f32 (iota .tc (Mat M 400) 32 [0] Fits.col)) (broadcastTo (Mat M 400) l Fits.bcM)) (by decide)) : FVec Ideal (Mat M 400) .f32) (ix2 q j)
      = ((((Ideal.cmp .oeq ((((iota .tc (Mat M 400) 32 [0] Fits.col) (ix2 q j)).toInt : ℝ) : EReal) ((broadcastTo (Mat M 400) l Fits.bcM) (ix2 q j))).setWidth 32).toInt : ℝ) : EReal) := rfl
    rw [e3, e1, e2, h, toInt_small (q.isLt.trans hM), Int.cast_natCast, cmp_eq_flag]
    simp only [EReal.coe_eq_coe_iff, Nat.cast_inj, Fin.ext_iff]
  refine Eq.trans (Finset.sum_congr rfl fun q _ => congrArg (dt (ix2 r q) * ·) (e q)) ?_
  simp

/-- The table of offsets holds the map `d`. -/
def HoldsOffsets (W : ℕ) (dt : FVec Ideal (Mat 12 M) .f32) (d : Fin 12 → ℕ → ℕ → EReal) : Prop :=
  ∀ (r : Fin 12) (y x : ℕ) (hy : y < W) (hx : x < W) (h : y * (W + 2) + x < M), dt (ix2 r ⟨y * (W + 2) + x, h⟩) = d r y x

include H in
/-- The anchor's offsets. -/
theorem del_at (h : Holds k j n) (hn : n < 3 * (W * W)) (dt : FVec Ideal (Mat 12 M) .f32) (d : Fin 12 → ℕ → ℕ → EReal)
    (hd : HoldsOffsets W dt d) :
    del0 (gather dt (lanes K k)) k (ix2 0 j) = offset W d n 0 ∧ del1 (gather dt (lanes K k)) k (ix2 0 j) = offset W d n 1
      ∧ del2 (gather dt (lanes K k)) k (ix2 0 j) = offset W d n 2 ∧ del3 (gather dt (lanes K k)) k (ix2 0 j) = offset W d n 3 := by
  have hW := H.le
  have hpos := H.pos
  have hWW : W * W ≤ 64 * 64 := Nat.mul_le_mul hW hW
  have hn' : n < 12288 := by omega
  have hx : n / 3 % W < W := Nat.mod_lt _ hpos
  have hy : n / 3 / W < W := Nat.div_lt_of_lt_mul (by omega)
  have hp : n / 3 / W * (W + 2) + n / 3 % W < M := by rw [H.lanes]; nlinarith
  have hM : M < 2 ^ 31 := by rw [H.lanes]; nlinarith
  have hl := lanes_at H h hn'
  have g (r : Fin 12) : gather dt (lanes K k) (ix2 r j) = d r (n / 3 / W) (n / 3 % W) :=
    (gather_at dt hM hl hp r).trans (hd r _ _ hy hx hp)
  have o (r : ℕ) (hr : r < 12) (hs : (Mat 12 400).Slices ![r, 0] (Mat 1 400)) :
      offs (gather dt (lanes K k)) r hs (ix2 0 j) = d ⟨r, hr⟩ (n / 3 / W) (n / 3 % W) := by
    rw [← g]
    unfold offs
    pointwise
  have t (q : Fin 4) (a b c : Fin 12) (ha : a.val = q.val) (hb : b.val = 4 + q.val) (hc : c.val = 8 + q.val) :
      third (n % 3) (d a (n / 3 / W) (n / 3 % W)) (d b (n / 3 / W) (n / 3 % W)) (d c (n / 3 / W) (n / 3 % W)) = offset W d n q := by
    have h3 : n % 3 = 0 ∨ n % 3 = 1 ∨ n % 3 = 2 := by omega
    unfold third offset
    rcases h3 with e | e | e
    · rw [if_pos e, show a = offRow n q from Fin.ext (by simp [offRow, e, ha])]
    · rw [if_neg (by omega), if_pos e, show b = offRow n q from Fin.ext (by simp [offRow, e, hb])]
    · rw [if_neg (by omega), if_neg (by omega), show c = offRow n q from Fin.ext (by simp [offRow, e, hc])]
  refine ⟨?_, ?_, ?_, ?_⟩
  · rw [del0, byAnc_at h hn', o 0 (by decide), o 4 (by decide), o 8 (by decide)]; exact t 0 _ _ _ rfl rfl rfl
  · rw [del1, byAnc_at h hn', o 1 (by decide), o 5 (by decide), o 9 (by decide)]; exact t 1 _ _ _ rfl rfl rfl
  · rw [del2, byAnc_at h hn', o 2 (by decide), o 6 (by decide), o 10 (by decide)]; exact t 2 _ _ _ rfl rfl rfl
  · rw [del3, byAnc_at h hn', o 3 (by decide), o 7 (by decide), o 11 (by decide)]; exact t 3 _ _ _ rfl rfl rfl

/-- Clipping, at an index. -/
theorem clip_at (v : Row) (i) : Level.clip v i = Spec.clip (v i) := by
  show min (w32 0x44000000#32) (max (w32 0x00000000#32) (v i)) = _
  rw [w32_zero, max_comm, min_comm]; rfl

/-- The boxes at an entry, from the corners and the offsets at it. -/
theorem boxes_at {x1 y1 x2 y2 d0 d1 d2 d3 : Row} {a d : Fin 4 → EReal} (ha : x1 (ix2 0 j) = a 0 ∧ y1 (ix2 0 j) = a 1 ∧ x2 (ix2 0 j) = a 2 ∧ y2 (ix2 0 j) = a 3)
    (hd : d0 (ix2 0 j) = d 0 ∧ d1 (ix2 0 j) = d 1 ∧ d2 (ix2 0 j) = d 2 ∧ d3 (ix2 0 j) = d 3) (c : Fin 4) :
    Level.boxes x1 y1 x2 y2 d0 d1 d2 d3 (ix2 c j) = decode d a c := by
  obtain ⟨h1, h2, h3, h4⟩ := ha
  obtain ⟨h5, h6, h7, h8⟩ := hd
  have m (u v w : Row) : boxC u v w (ix2 0 j) = mid (u (ix2 0 j)) (v (ix2 0 j)) (w (ix2 0 j)) := rfl
  have e (u v w : Row) : boxS u v w (ix2 0 j) = ext (u (ix2 0 j)) (v (ix2 0 j)) (w (ix2 0 j)) := rfl
  have hf : ∀ u, mulf (rep 0x3F000000#32) u (ix2 0 j) = w32 0x3F000000#32 * u (ix2 0 j) := fun u => rfl
  have hs : ∀ u v : Row, subf u v (ix2 0 j) = u (ix2 0 j) - v (ix2 0 j) := fun u v => rfl
  have hp : ∀ u v : Row, addf u v (ix2 0 j) = u (ix2 0 j) + v (ix2 0 j) := fun u v => rfl
  unfold Level.boxes
  fin_cases c
  · refine Eq.trans (b := Level.clip (subf (boxC x1 x2 d0) (mulf (rep 0x3F000000#32) (boxS x1 x2 d2))) (ix2 0 j)) (by pointwise) ?_
    rw [clip_at, hs, hf, m, e, h1, h3, h5, h7]; rfl
  · refine Eq.trans (b := Level.clip (subf (boxC y1 y2 d1) (mulf (rep 0x3F000000#32) (boxS y1 y2 d3))) (ix2 0 j)) (by pointwise) ?_
    rw [clip_at, hs, hf, m, e, h2, h4, h6, h8]; rfl
  · refine Eq.trans (b := Level.clip (addf (boxC x1 x2 d0) (mulf (rep 0x3F000000#32) (boxS x1 x2 d2))) (ix2 0 j)) (by pointwise) ?_
    rw [clip_at, hp, hf, m, e, h1, h3, h5, h7]; rfl
  · refine Eq.trans (b := Level.clip (addf (boxC y1 y2 d1) (mulf (rep 0x3F000000#32) (boxS y1 y2 d3))) (ix2 0 j)) (by pointwise) ?_
    rw [clip_at, hp, hf, m, e, h2, h4, h6, h8]; rfl

include H in
/-- The box of a key. -/
theorem level4_at (h : Holds k j n) (hn : n < 3 * (W * W)) (dt : FVec Ideal (Mat 12 M) .f32) (d : Fin 12 → ℕ → ℕ → EReal)
    (hd : HoldsOffsets W dt d) (c : Fin 4) : level4 K dt k (ix2 c j) = decode (offset W d n) (corner K.grid W n) c := by
  have hWW : W * W ≤ 64 * 64 := Nat.mul_le_mul H.le H.le
  exact boxes_at (corner_at H h (by omega)) (del_at H h hn dt d hd) c

end Cert.Level

end
-- ==== Proof.Grids.lean ====
/- The three levels' constants: sides 64, 32 and 16. -/
module

public import proofs.«01_k».proof.Proof.Region0
public import proofs.«01_k».proof.Proof.Region1
public import proofs.«01_k».proof.Proof.Region2
public import proofs.«01_k».proof.Proof.BoxAt

@[expose] public section

noncomputable section

namespace Cert.KernelIdeal

open Idealize.ShloMosaic Cert.Level Cert.Spec

/-- The constants of the level of side 64. -/
theorem Region0.for_ : Region0.K.For 64 4224 where
  pos := by decide
  le := by decide
  lanes := by decide
  wp := rfl
  w := rfl
  invW := by simp [Region0.K, Ideal.ofBits, Ideal.ieee, -EReal.coe_mul] <;> norm_num
  wF := by simp [Region0.K, Ideal.ofBits, Ideal.ieee, -EReal.coe_mul] <;> norm_num

/-- The constants of the level of side 32. -/
theorem Region1.for_ : Region1.K.For 32 1088 where
  pos := by decide
  le := by decide
  lanes := by decide
  wp := rfl
  w := rfl
  invW := by simp [Region1.K, Ideal.ofBits, Ideal.ieee, -EReal.coe_mul] <;> norm_num
  wF := by simp [Region1.K, Ideal.ofBits, Ideal.ieee, -EReal.coe_mul] <;> norm_num

/-- The constants of the level of side 16. -/
theorem Region2.for_ : Region2.K.For 16 288 where
  pos := by decide
  le := by decide
  lanes := by decide
  wp := rfl
  w := rfl
  invW := by simp [Region2.K, Ideal.ofBits, Ideal.ieee, -EReal.coe_mul] <;> norm_num
  wF := by simp [Region2.K, Ideal.ofBits, Ideal.ieee, -EReal.coe_mul] <;> norm_num

/-- The literal that stands for `-∞`. -/
theorem masked_off : (Named.named κ "masked_off" 0xF149F2CA#32 : Ideal .f32) = (⊥ : EReal) := by
  show (κ "masked_off").getD _ = ⊥
  unfold κ
  simp

end Cert.KernelIdeal

end
-- ==== Proof.Whole.lean ====
/- The proposals of one level of one image, from the map and the weights. -/
module

public import proofs.«01_k».proof.Proof.Spec

@[expose] public section

noncomputable section

namespace Cert.Spec

/-- The weights and biases: of the convolution, of the scores, of the offsets. -/
structure Weights where
  w : Fin 256 → Fin 256 → Fin 3 → Fin 3 → EReal
  b : Fin 256 → EReal
  ow : Fin 3 → Fin 256 → EReal
  ob : Fin 3 → EReal
  dw : Fin 12 → Fin 256 → EReal
  db : Fin 12 → EReal

/-- The hidden map of a map. -/
def Weights.hidden (P : Weights) {W : ℕ} (x : Fin 256 → Fin W → Fin W → EReal) : Fin 256 → ℕ → ℕ → EReal := hid P.w P.b (padded x)

/-- The scores of a map's anchors. -/
def Weights.score (P : Weights) {W : ℕ} (x : Fin 256 → Fin W → Fin W → EReal) : Fin (3 * (W * W)) → EReal :=
  scores W (head P.ow P.ob (P.hidden x))

/-- The rows of offsets. -/
def Weights.delta (P : Weights) {W : ℕ} (x : Fin 256 → Fin W → Fin W → EReal) : Fin 12 → ℕ → ℕ → EReal := head P.dw P.db (P.hidden x)

/-- The boxes of the 400 anchors with the greatest scores. -/
def Weights.box (P : Weights) {W : ℕ} (G : Grid) (hW : 400 ≤ 3 * (W * W)) (x : Fin 256 → Fin W → Fin W → EReal) : Fin 400 → Fin 4 → EReal :=
  boxes (P.score x) hW G W (P.delta x)

/-- The hundred proposals of a map. -/
def Weights.level (P : Weights) {W : ℕ} (G : Grid) (hW : 400 ≤ 3 * (W * W)) (x : Fin 256 → Fin W → Fin W → EReal) : Fin 100 → Fin 4 → EReal :=
  chosen (P.box G hW x) fun j => P.score x (sel (P.score x) hW j)

/-- The anchors of the three levels: strides 8, 16 and 32; and the long, the middle and the short half extent. -/
def anchors8 : Grid := ⟨w32 0x41000000#32, w32 0x423504F3#32, w32 0x42000000#32, w32 0x41B504F3#32⟩
@[inherit_doc anchors8] def anchors16 : Grid := ⟨w32 0x41800000#32, w32 0x42B504F3#32, w32 0x42800000#32, w32 0x423504F3#32⟩
@[inherit_doc anchors8] def anchors32 : Grid := ⟨w32 0x42000000#32, w32 0x433504F3#32, w32 0x43000000#32, w32 0x42B504F3#32⟩

end Cert.Spec

end
-- ==== Proof.Extract.lean ====
/- Taking the greatest entry of a table again and again: one step takes the entry that the descending order has next. -/
module

public import proofs.«01_k».proof.Proof.Order

@[expose] public section

noncomputable section

namespace Cert.Extract

open Cert.Order

variable {C : Type} {N : ℕ} (L : Fin N → EReal) (key : C → ℕ) (valid : C → Prop)

/-- The cell `c` is still there before step `j`: it is one of the table's cells and its key none of the first `j` taken. -/
def Live (j : ℕ) (c : C) : Prop := valid c ∧ ∀ i : Fin N, i.val < j → (best L i).val ≠ key c

/-- The table before step `j`: a live cell holds the entry of its key, every other cell `−∞`. -/
structure Table (j : ℕ) (v : C → EReal) : Prop where
  live : ∀ (c : C) (p : Fin N), Live L key valid j c → p.val = key c → v c = L p
  dead : ∀ c, ¬ Live L key valid j c → v c = ⊥

variable {L key valid}

/-- The table the steps start from. -/
theorem Table.start {v : C → EReal} (hl : ∀ (c : C) (p : Fin N), valid c → p.val = key c → v c = L p)
    (hd : ∀ c, ¬ valid c → v c = ⊥) : Table L key valid 0 v where
  live c p h e := hl c p h.1 e
  dead c h := hd c fun hv => h ⟨hv, fun i hi => absurd hi (Nat.not_lt_zero _)⟩

/-- The smallest key among the cells holding the maximum is the key the descending order has next. -/
theorem Table.next {j : ℕ} {v : C → EReal} (T : Table L key valid j v) (hj : j < N)
    (hkey : ∀ c, valid c → key c < N) (hsurj : ∀ p : Fin N, ∃ c, valid c ∧ key c = p.val) (hL : ∀ p, ⊥ < L p)
    (m : EReal) (hm : ∀ c, v c ≤ m) (hm' : ∃ c, v c = m) (B s : EReal) (hB : ((N : ℕ) : EReal) ≤ B)
    (w : C → EReal) (hw : ∀ c, w c = if v c = m then ((key c : ℕ) : EReal) else B)
    (hs : ∀ c, s ≤ w c) (hs' : ∃ c, w c = s) : s = (((best L ⟨j, hj⟩).val : ℕ) : EReal) := by
  classical
  obtain ⟨c0, hc0, hk0⟩ := hsurj (best L ⟨j, hj⟩)
  have hlive0 : Live L key valid j c0 := ⟨hc0, fun i hi e => by
    have : i = ⟨j, hj⟩ := best_injective L (Fin.ext (e.trans hk0))
    rw [this] at hi; exact absurd hi (lt_irrefl _)⟩
  have hv0 : v c0 = L (best L ⟨j, hj⟩) := T.live c0 _ hlive0 hk0.symm
  have hmax : ∀ c, Live L key valid j c → ∃ p : Fin N, p.val = key c ∧ v c = L p ∧
      (p = best L ⟨j, hj⟩ ∨ L p < L (best L ⟨j, hj⟩) ∨ (L (best L ⟨j, hj⟩) = L p ∧ best L ⟨j, hj⟩ < p)) := fun c hc =>
    ⟨⟨key c, hkey c hc.1⟩, rfl, T.live c _ hc rfl, best_max L _ _ fun i hi e => hc.2 i hi (congrArg Fin.val e)⟩
  have hle : ∀ c, v c ≤ L (best L ⟨j, hj⟩) := fun c => by
    by_cases hc : Live L key valid j c
    · obtain ⟨p, -, hvp, h | h | h⟩ := hmax c hc
      · rw [hvp, h]
      · rw [hvp]; exact h.le
      · rw [hvp]; exact h.1.ge
    · rw [T.dead c hc]; exact bot_le
  have hmeq : m = L (best L ⟨j, hj⟩) := by
    obtain ⟨c, hc⟩ := hm'
    exact le_antisymm (hc ▸ hle c) (hv0 ▸ hm c0)
  refine le_antisymm ?_ ?_
  · have := hs c0
    rwa [hw, if_pos (hv0.trans hmeq.symm), hk0] at this
  · obtain ⟨c, hc⟩ := hs'
    rw [← hc, hw]
    split_ifs with h
    · have hlc : Live L key valid j c := by
        by_contra hn
        rw [T.dead c hn, hmeq] at h
        exact absurd h (hL _).ne
      obtain ⟨p, hpk, hvp, h1 | h1 | h1⟩ := hmax c hlc
      · rw [← hpk, h1]
      · rw [hvp, hmeq] at h; exact absurd h h1.ne
      · rw [← hpk]; exact_mod_cast h1.2.le
    · exact le_trans (by exact_mod_cast (best L ⟨j, hj⟩).isLt.le) hB

/-- Masking the cells of the taken key leaves the table before the next step. -/
theorem Table.step {j : ℕ} {v : C → EReal} (T : Table L key valid j v) (hj : j < N) (v' : C → EReal)
    (hv' : ∀ c, v' c = if ((key c : ℕ) : EReal) = (((best L ⟨j, hj⟩).val : ℕ) : EReal) then ⊥ else v c) :
    Table L key valid (j + 1) v' := by
  have hlive : ∀ c, Live L key valid (j + 1) c ↔ Live L key valid j c ∧ key c ≠ (best L ⟨j, hj⟩).val := fun c =>
    ⟨fun h => ⟨⟨h.1, fun i hi => h.2 i (hi.trans (Nat.lt_succ_self j))⟩, fun e => h.2 ⟨j, hj⟩ (Nat.lt_succ_self j) e.symm⟩,
     fun h => ⟨h.1.1, fun i hi => by
      rcases Nat.lt_succ_iff_lt_or_eq.mp hi with hi | hi
      · exact h.1.2 i hi
      · have : i = ⟨j, hj⟩ := Fin.ext hi
        rw [this]; exact h.2.symm⟩⟩
  have hcast : ∀ c, ((key c : ℕ) : EReal) = (((best L ⟨j, hj⟩).val : ℕ) : EReal) ↔ key c = (best L ⟨j, hj⟩).val := fun c =>
    Nat.cast_inj
  constructor
  · intro c p h e
    rw [hlive] at h
    rw [hv', if_neg (fun e => h.2 ((hcast c).mp e))]
    exact T.live c p h.1 e
  · intro c h
    rw [hv']
    split_ifs with he
    · rfl
    · exact T.dead c fun hl => h ((hlive c).mpr ⟨hl, fun e => he ((hcast c).mpr e)⟩)

end Cert.Extract

end
-- ==== Proof.PickAt.lean ====
/- The kernel's keys and extraction at an entry: a cell's key is its anchor's number, and the step `j` picks the anchor that the
   descending order of the scores has at place `j`. -/
module

public import proofs.«01_k».proof.Proof.BoxAt
public import proofs.«01_k».proof.Proof.Extract
public import Idealize.ShloMosaic.Lib.Routing.Words

@[expose] public section

noncomputable section

namespace Cert.Level

open Idealize.ShloMosaic Cert.Spec Cert.Order Cert.Extract

variable {M : ℕ} [Fits M] {K : Consts} {W : ℕ} (H : K.For W M)

/-! ## The keys -/

/-- A bit that is not one. -/
theorem bit_zero {b : BitVec 1} (h : ¬ b = 1#1) : b = 0#1 := by revert b; decide

/-- A lane's number. -/
theorem lane_at (a : Fin 3) (p : Fin M) : (lane : IVec (Mat 3 M) 32) (ix2 a p) = BitVec.ofNat 32 p.val := by
  unfold lane; pointwise

include H in
/-- There are few lanes. -/
theorem lanes_lt (p : Fin M) : p.val < 4224 := by
  have h1 := p.isLt
  have h2 := H.le
  have h3 : M ≤ 64 * (64 + 2) := by rw [H.lanes]; exact Nat.mul_le_mul h2 (by omega)
  omega

include H in
/-- No quotient is stepped down. -/
theorem fix_at (a : Fin 3) (p : Fin M) : fix K (ix2 a p) = 0#1 := by
  have hp := lanes_lt H p
  have hle := H.le
  have e : fix K (ix2 a p)
    = (Scalar.cmpi .ne ((Scalar.cmpi .sgt (lane (ix2 a p)) 0#32).setWidth 32 - (Scalar.cmpi .slt (lane (ix2 a p)) 0#32).setWidth 32)
        ((Scalar.cmpi .sgt K.wp 0#32).setWidth 32 - (Scalar.cmpi .slt K.wp 0#32).setWidth 32))
      &&& (Scalar.cmpi .ne (IntOp.remsi .vector (lane (ix2 a p)) K.wp) 0#32) := rfl
  rw [e, lane_at, H.wp, (sgt_small (a := W + 2) (b := 0) (by omega) (by omega)).2 (by omega),
    bit_zero (mt (slt_small (a := W + 2) (b := 0) (by omega) (by omega)).1 (by omega)),
    bit_zero (mt (slt_small (a := p.val) (b := 0) (by omega) (by omega)).1 (by omega)),
    Routing.remsi_word _ (by omega) (by omega) (by omega)]
  by_cases h : p.val = 0
  · rw [h, Nat.zero_mod]
    exact bit_zero fun h => absurd (and_bit _ _ |>.1 h).2 (by decide)
  · rw [(sgt_small (a := p.val) (b := 0) (by omega) (by omega)).2 (by omega)]
    exact bit_zero fun h => absurd (and_bit _ _ |>.1 h).1 (by decide)

include H in
/-- A lane's row. -/
theorem rowOf_at (a : Fin 3) (p : Fin M) : rowOf K (ix2 a p) = BitVec.ofNat 32 (p.val / (W + 2)) := by
  have hp := lanes_lt H p
  have hle := H.le
  have e : rowOf K (ix2 a p) = if fix K (ix2 a p) = 1#1 then IntOp.divsi .vector (lane (ix2 a p)) K.wp - 1#32
    else IntOp.divsi .vector (lane (ix2 a p)) K.wp := rfl
  rw [e, fix_at H, if_neg (by decide), lane_at, H.wp, Routing.divsi_word _ (by omega) (by omega) (by omega)]

include H in
/-- A lane's column. -/
theorem colOf_at (a : Fin 3) (p : Fin M) : colOf K (ix2 a p) = BitVec.ofNat 32 (p.val % (W + 2)) := by
  have e : colOf K (ix2 a p) = lane (ix2 a p) - rowOf K (ix2 a p) * K.wp := rfl
  rw [e, lane_at, rowOf_at H, H.wp, sub_eq_iff_eq_add, ← BitVec.ofNat_mul, ← BitVec.ofNat_add, Nat.mod_add_div']

/-- A cell's key. -/
def keyOf (W : ℕ) (c : Fin 3 × Fin M) : ℕ := (c.2.val / (W + 2) * W + c.2.val % (W + 2)) * 3 + c.1.val

/-- A cell inside the map. -/
def inside (W : ℕ) (c : Fin 3 × Fin M) : Prop := c.2.val % (W + 2) < W

include H in
/-- A cell's row is inside the map. -/
theorem row_lt (p : Fin M) : p.val / (W + 2) < W := by
  rw [Nat.div_lt_iff_lt_mul (by omega), ← H.lanes]; exact p.isLt

include H in
/-- Keys are small. -/
theorem keyOf_lt (c : Fin 3 × Fin M) : keyOf W c < 2 ^ 20 := by
  have h1 := H.le
  have h2 := row_lt H c.2
  have h3 := Nat.mod_lt c.2.val (show 0 < W + 2 by omega)
  have h4 : c.2.val / (W + 2) * W ≤ 64 * 64 := Nat.mul_le_mul (by omega) h1
  unfold keyOf
  omega

include H in
/-- The keys' table. -/
theorem keys_at (a : Fin 3) (p : Fin M) : keys K (ix2 a p) = ((keyOf W (a, p) : ℕ) : EReal) := by
  have hb := keyOf_lt H (a, p)
  have ei : iota .tc (Mat 3 M) 32 [0] Fits.rowi (ix2 a p) = BitVec.ofNat 32 a.val := by pointwise
  have e : keys K (ix2 a p)
    = ((((rowOf K (ix2 a p) * K.w + colOf K (ix2 a p)) * 3#32 + iota .tc (Mat 3 M) 32 [0] Fits.rowi (ix2 a p)).toInt : ℝ) : EReal) := rfl
  rw [e, ei, rowOf_at H, colOf_at H, H.w, ← BitVec.ofNat_mul, ← BitVec.ofNat_add, ← BitVec.ofNat_mul, ← BitVec.ofNat_add]
  change (((BitVec.ofNat 32 (keyOf W (a, p))).toInt : ℝ) : EReal) = _
  rw [toInt_small (by omega), Int.cast_natCast, EReal.coe_natCast]

include H in
/-- The inner cells' keys are the anchors' numbers. -/
theorem keyOf_inside (c : Fin 3 × Fin M) (h : inside W c) : keyOf W c < 3 * (W * W) := by
  have h2 := row_lt H c.2
  have h3 := c.1.isLt
  have h4 : c.2.val / (W + 2) * W + W ≤ W * W := by
    calc _ = (c.2.val / (W + 2) + 1) * W := by ring
      _ ≤ W * W := Nat.mul_le_mul_right _ h2
  unfold keyOf
  unfold inside at h
  omega

include H in
/-- Lane `y (W + 2) + x` of a place. -/
theorem place_lt {y x : ℕ} (hy : y < W) (hx : x < W) : y * (W + 2) + x < M := by
  rw [H.lanes]
  calc _ < y * (W + 2) + (W + 2) := by omega
    _ = (y + 1) * (W + 2) := by ring
    _ ≤ W * (W + 2) := Nat.mul_le_mul_right _ hy

/-- Row and column of the lane of a place. -/
theorem place_div {y x : ℕ} (hx : x < W) : (y * (W + 2) + x) / (W + 2) = y := by
  rw [add_comm, Nat.add_mul_div_right _ _ (by omega), Nat.div_eq_of_lt (by omega), zero_add]
/-- The column of a place. -/
theorem place_mod {y x : ℕ} (hx : x < W) : (y * (W + 2) + x) % (W + 2) = x := by
  rw [add_comm, Nat.add_mul_mod_self_right, Nat.mod_eq_of_lt (by omega)]

include H in
/-- Every anchor has a cell. -/
theorem keyOf_surj (p : Fin (3 * (W * W))) : ∃ c : Fin 3 × Fin M, inside W c ∧ keyOf W c = p.val := by
  have hW := H.pos
  have hx : p.val / 3 % W < W := Nat.mod_lt _ hW
  have hy : p.val / 3 / W < W := by
    rw [Nat.div_lt_iff_lt_mul hW]
    have := p.isLt
    omega
  refine ⟨(⟨p.val % 3, Nat.mod_lt _ (by decide)⟩, ⟨p.val / 3 / W * (W + 2) + p.val / 3 % W, place_lt H hy hx⟩), ?_, ?_⟩
  · change _ % (W + 2) < W
    rw [place_mod hx]
    exact hx
  · unfold keyOf
    simp only
    rw [place_div hx, place_mod hx]
    have := Nat.div_add_mod' (p.val / 3) W
    omega

/-! ## The extremes -/

/-- An index of a matrix. -/
theorem idx_eta {n m : ℕ} (i : (Mat n m).Idx) : ∃ (a : Fin n) (b : Fin m), i = ix2 a b :=
  ⟨i 0, i 1, by ext d; fin_cases d <;> rfl⟩

/-- The words of the two infinities. -/
theorem w32_bot : w32 0xFF800000#32 = ⊥ := by simp [Ideal.ofBits, Ideal.ieee]
/-- The word of +∞. -/
theorem w32_top : w32 0x7F800000#32 = ⊤ := by simp [Ideal.ofBits, Ideal.ieee]
/-- The number that no key reaches. -/
theorem w32_big : w32 0x4BE4E1C0#32 = ((30000000 : ℝ) : EReal) := by
  simp [Ideal.ofBits, Ideal.ieee, -EReal.coe_mul] <;> norm_num

/-- The greatest entry as a fold over all cells. -/
theorem top_eq (v : FVec Ideal (Mat 3 M) .f32) :
    top v = (Finset.univ : Finset (⟨3, ![1, 3, M]⟩ : Shape).Idx).fold max ⊥ (shapeCast ⟨3, ![1, 3, M]⟩ v Fits.cast3) := by
  have h1 := multiReduction_maximumf_eq_fold (F := Ideal) (shapeCast ⟨3, ![1, 3, M]⟩ v Fits.cast3) 0xFF800000#32
    (Fits.red3 (M := M)) (.inl rfl) rfl (ix1 0)
  rw [Finset.filter_true_of_mem fun i _ => funext fun b => Fin.ext (by
    have h1 := ((Fits.red3 (M := M)).drop i b).isLt; have h2 := (ix1 (0 : Fin 1) b).isLt
    fin_cases b; simp at h1 h2 ⊢; exact h1)] at h1
  refine Eq.trans ?_ (h1.trans ?_)
  · unfold top; pointwise
  · exact congrArg (fun b => Finset.fold max b _ _) w32_bot

/-- The least entry as a fold over all cells. -/
theorem bottom_eq (v : FVec Ideal (Mat 3 M) .f32) :
    bottom v = (Finset.univ : Finset (⟨3, ![1, 3, M]⟩ : Shape).Idx).fold min ⊤ (shapeCast ⟨3, ![1, 3, M]⟩ v Fits.cast3) := by
  have h1 := multiReduction_minimumf_eq_fold (F := Ideal) (shapeCast ⟨3, ![1, 3, M]⟩ v Fits.cast3) 0x7F800000#32
    (Fits.red3 (M := M)) (.inl rfl) rfl (ix1 0)
  rw [Finset.filter_true_of_mem fun i _ => funext fun b => Fin.ext (by
    have h1 := ((Fits.red3 (M := M)).drop i b).isLt; have h2 := (ix1 (0 : Fin 1) b).isLt
    fin_cases b; simp at h1 h2 ⊢; exact h1)] at h1
  refine Eq.trans ?_ (h1.trans ?_)
  · unfold bottom; pointwise
  · exact congrArg (fun b => Finset.fold min b _ _) w32_top

/-- No cell is above the greatest entry. -/
theorem le_top (v : FVec Ideal (Mat 3 M) .f32) (i : (Mat 3 M).Idx) : v i ≤ top v := by
  rw [top_eq]
  refine (Finset.le_fold_max _).2 (.inr ⟨(Shape.reshapeEquiv Fits.cast3).symm i, Finset.mem_univ _, le_of_eq ?_⟩)
  exact congrArg v (Equiv.apply_symm_apply _ _).symm

/-- Some cell has the greatest entry. -/
theorem top_mem (v : FVec Ideal (Mat 3 M) .f32) (i0 : (Mat 3 M).Idx) : ∃ i, v i = top v := by
  rcases (Finset.le_fold_max (s := (Finset.univ : Finset (⟨3, ![1, 3, M]⟩ : Shape).Idx)) (f := shapeCast ⟨3, ![1, 3, M]⟩ v Fits.cast3)
    (b := (⊥ : EReal)) _).1 (top_eq v).le with h | ⟨i, -, h⟩
  · exact ⟨i0, le_antisymm (le_top v i0) (h.trans bot_le)⟩
  · exact ⟨_, le_antisymm (le_top v _) h⟩

/-- No cell is below the least entry. -/
theorem bottom_le (v : FVec Ideal (Mat 3 M) .f32) (i : (Mat 3 M).Idx) : bottom v ≤ v i := by
  rw [bottom_eq]
  refine (Finset.fold_min_le _).2 (.inr ⟨(Shape.reshapeEquiv Fits.cast3).symm i, Finset.mem_univ _, le_of_eq ?_⟩)
  exact congrArg v (Equiv.apply_symm_apply _ _)

/-- Some cell has the least entry. -/
theorem bottom_mem (v : FVec Ideal (Mat 3 M) .f32) (i0 : (Mat 3 M).Idx) : ∃ i, v i = bottom v := by
  rcases (Finset.fold_min_le (s := (Finset.univ : Finset (⟨3, ![1, 3, M]⟩ : Shape).Idx)) (f := shapeCast ⟨3, ![1, 3, M]⟩ v Fits.cast3)
    (b := (⊤ : EReal)) _).1 (bottom_eq v).ge with h | ⟨i, -, h⟩
  · exact ⟨i0, le_antisymm (_root_.le_top.trans h) (bottom_le v i0)⟩
  · exact ⟨_, le_antisymm h (bottom_le v _)⟩

/-! ## The steps -/

/-- The table by cells. -/
def cells (v : FVec Ideal (Mat 3 M) .f32) (c : Fin 3 × Fin M) : EReal := v (ix2 c.1 c.2)

variable {L : Fin (3 * (W * W)) → EReal}

include H in
/-- The picked key is the anchor the descending order has next. -/
theorem pick_at {j : ℕ} {v : FVec Ideal (Mat 3 M) .f32} (T : Table L (keyOf W) (inside W) j (cells v)) (hj : j < 3 * (W * W))
    (hL : ∀ p, ⊥ < L p) : pick K v = (((best L ⟨j, hj⟩).val : ℕ) : EReal) := by
  obtain ⟨c0, -, -⟩ := keyOf_surj H ⟨j, hj⟩
  have hN : 3 * (W * W) ≤ 12288 := by
    have := Nat.mul_le_mul H.le H.le
    omega
  let w : FVec Ideal (Mat 3 M) .f32 :=
    select (cmpf .oeq v (broadcast (Mat 3 M) (top v))) (keys K) (broadcast (Mat 3 M) (Scalar.ofBits .f32 0x4BE4E1C0#32))
  refine T.next hj (keyOf_inside H) (keyOf_surj H) hL (top v) (fun c => le_top v _) ?_ (w32 0x4BE4E1C0#32) (bottom w) ?_ (cells w) ?_
    (fun c => bottom_le w _) ?_
  · obtain ⟨i, hi⟩ := top_mem v (ix2 c0.1 c0.2)
    obtain ⟨a, b, rfl⟩ := idx_eta i
    exact ⟨(a, b), hi⟩
  · rw [w32_big, ← EReal.coe_natCast]
    exact EReal.coe_le_coe_iff.2 (by exact_mod_cast hN.trans (by norm_num))
  · intro c
    have e : cells w c = if Ideal.cmp .oeq (v (ix2 c.1 c.2)) (top v) = 1#1 then keys K (ix2 c.1 c.2) else w32 0x4BE4E1C0#32 := rfl
    rw [e, keys_at H]
    refine if_congr ?_ rfl rfl
    simp [Ideal.cmp, ofBool_one, cells]
  · obtain ⟨i, hi⟩ := bottom_mem w (ix2 c0.1 c0.2)
    obtain ⟨a, b, rfl⟩ := idx_eta i
    exact ⟨(a, b), hi⟩

include H in
/-- Masking the picked key's cells leaves the next step's table. -/
theorem drop_at {j : ℕ} {v : FVec Ideal (Mat 3 M) .f32} (T : Table L (keyOf W) (inside W) j (cells v)) (hj : j < 3 * (W * W))
    (hL : ∀ p, ⊥ < L p) (neg : Ideal .f32) (hneg : neg = (⊥ : EReal)) :
    Table L (keyOf W) (inside W) (j + 1) (cells (drop K neg v)) := by
  refine T.step hj _ fun c => ?_
  have e : cells (drop K neg v) c = if Ideal.cmp .oeq (keys K (ix2 c.1 c.2)) (pick K v) = 1#1 then neg else v (ix2 c.1 c.2) := rfl
  rw [e, hneg, keys_at H, pick_at H T hj hL]
  refine if_congr ?_ rfl rfl
  simp [Ideal.cmp, ofBool_one]

include H in
/-- The first table. -/
theorem start_at {lt : FVec Ideal (Mat 3 M) .f32} (neg : Ideal .f32) (hneg : neg = (⊥ : EReal))
    (hlt : ∀ (c : Fin 3 × Fin M) (p : Fin (3 * (W * W))), inside W c → p.val = keyOf W c → lt (ix2 c.1 c.2) = L p) :
    Table L (keyOf W) (inside W) 0 (cells (start K neg lt)) := by
  have e (c : Fin 3 × Fin M) : cells (start K neg lt) c = if Scalar.cmpi .slt (colOf K (ix2 c.1 c.2)) K.w = 1#1 then lt (ix2 c.1 c.2) else neg := rfl
  have hc (c : Fin 3 × Fin M) : Scalar.cmpi .slt (colOf K (ix2 c.1 c.2)) K.w = 1#1 ↔ inside W c := by
    have h1 := H.le
    have h2 := Nat.mod_lt c.2.val (show 0 < W + 2 by omega)
    rw [colOf_at H, H.w]
    exact slt_small (by omega) (by omega)
  refine Table.start (fun c p hv hp => ?_) fun c hv => ?_
  · rw [e, if_pos ((hc c).2 hv)]; exact hlt c p hv hp
  · rw [e, if_neg (mt (hc c).1 hv), hneg]

include H in
/-- The list of picked keys: at place `j` the anchor that the descending order has there. -/
theorem picked_at {n : ℕ} (hn : n ≤ 400) (hN : n ≤ 3 * (W * W)) {lt : FVec Ideal (Mat 3 M) .f32} (neg : Ideal .f32) (hneg : neg = (⊥ : EReal))
    (hlt : ∀ (c : Fin 3 × Fin M) (p : Fin (3 * (W * W))), inside W c → p.val = keyOf W c → lt (ix2 c.1 c.2) = L p)
    (hL : ∀ p, ⊥ < L p) (j : Fin 400) (hj : j.val < n) :
    picked K n neg lt (ix2 j 0) = (((best L ⟨j.val, hj.trans_le hN⟩).val : ℕ) : EReal) := by
  unfold picked
  rw [Scf.fold_eq]
  suffices hs : ∀ m (hm : m ≤ n) (z : FVec Ideal (Mat 400 1) .f32),
      let r := ((List.finRange n).take m).foldl (fun (acc : FVec Ideal (Mat 3 M) .f32 × FVec Ideal (Mat 400 1) .f32) k =>
        (drop K neg acc.1, put K k.val acc.1 acc.2)) (start K neg lt, z)
      Table L (keyOf W) (inside W) m (cells r.1) ∧
        ∀ (i : Fin 400) (hi : i.val < m), r.2 (ix2 i 0) = (((best L ⟨i.val, (hi.trans_le hm).trans_le hN⟩).val : ℕ) : EReal) by
    have := (hs n le_rfl (broadcast (Mat 400 1) (Scalar.ofBits .f32 0x00000000#32))).2 j hj
    rwa [List.take_of_length_le (by simp)] at this
  intro m
  induction m with
  | zero => exact fun _ z => ⟨start_at H neg hneg hlt, fun i hi => absurd hi (Nat.not_lt_zero _)⟩
  | succ m ih =>
    intro hm z
    obtain ⟨hT, hP⟩ := ih (by omega) z
    have hml : m < (List.finRange n).length := by simp; omega
    have hmN : m < 3 * (W * W) := by omega
    simp only [List.take_succ_eq_append_getElem hml, List.foldl_append, List.foldl_cons, List.foldl_nil, List.getElem_finRange]
    refine ⟨drop_at H hT hmN hL neg hneg, fun i hi => ?_⟩
    generalize ((List.finRange n).take m).foldl _ _ = r at hT hP ⊢
    have hiv : Scf.iv 0#32 1#32 m = BitVec.ofNat 32 m := by
      apply BitVec.eq_of_toNat_eq
      rw [WordArith.toNat_iv_zero_one m (by omega), BitVec.toNat_ofNat, Nat.mod_eq_of_lt (by omega)]
    have ei : iota .tc (Mat 400 1) 32 [0] (by decide) (ix2 i 0) = BitVec.ofNat 32 i.val := by pointwise
    have e : put K m r.1 r.2 (ix2 i 0)
      = if Scalar.cmpi .eq (iota .tc (Mat 400 1) 32 [0] (by decide) (ix2 i 0)) (Scf.iv 0#32 1#32 m) = 1#1 then pick K r.1 else r.2 (ix2 i 0) := rfl
    change put K m r.1 r.2 (ix2 i 0) = _
    rw [e, ei, hiv]
    by_cases h : i.val = m
    · rw [if_pos ((eq_small (by omega) (by omega)).2 h), pick_at H hT hmN hL]
      simp only [h]
    · rw [if_neg (mt (eq_small (by omega) (by omega)).1 h)]
      exact hP i (by omega)

/-- The list as a row. -/
theorem keyRow_at (l : FVec Ideal (Mat 400 1) .f32) (j : Fin 400) : keyRow l (ix2 0 j) = l (ix2 j 0) := by unfold keyRow; pointwise

end Cert.Level

end
-- ==== Proof.NmsAt.lean ====
/- The kernel's overlaps, suppression and ranking at an entry: the numbers zero and one it carries are the reference's truth
   values, and its ranks place the boxes as the sorted masked scores do. -/
module

public import proofs.«01_k».proof.Proof.Words
public import proofs.«01_k».proof.Proof.Loads

@[expose] public section

noncomputable section

namespace Cert.Level

open Idealize.ShloMosaic Cert.Spec Cert.Rank Cert.Order

/-! ## Sums -/

/-- The sum of a row. -/
theorem total_at (v : Row) : Level.total v = ∑ i : Fin 400, v (ix2 0 i) := by
  refine Eq.trans (b := ∑ i : (⟨3, ![1, 1, 400]⟩ : Shape).Idx, shapeCast ⟨3, ![1, 1, 400]⟩ v (by decide) i) ?_ ?_
  · refine Eq.trans (b := multiReduction .add [1, 2] ⟨1, ![1]⟩ (shapeCast ⟨3, ![1, 1, 400]⟩ v (by decide)) 0x00000000#32 (by decide) (.inl rfl) rfl
      (ix1 0)) (by unfold Level.total; pointwise) ?_
    exact Ideal.multiReduction_add_total _ _ _ (by decide) _ _ _
  · refine (Equiv.sum_comp (Shape.reshapeEquiv _) (fun i => v i)).trans ?_
    rw [sum_idx2]
    simp

/-- The running sum of a row. -/
theorem run_at (v : Row) (j : Fin 400) : run v (ix2 0 j) = ∑ i : Fin 400, v (ix2 0 i) * (if i ≤ j then 1 else 0) := by
  unfold run
  refine (dot_at _ _ _ 0 j).trans (Finset.sum_congr rfl fun i _ => congrArg (v (ix2 0 i) * ·) ?_)
  have e : tri (ix2 i j) = ((((cmpi .sle (iota .tc (Mat 400 400) 32 [0] (by decide)) (iota .tc (Mat 400 400) 32 [1] (by decide)) (ix2 i j)).setWidth 32).toInt : ℝ) : EReal) := rfl
  have e1 : (cmpi .sle (iota .tc (Mat 400 400) 32 [0] (by decide)) (iota .tc (Mat 400 400) 32 [1] (by decide)) (ix2 i j))
      = Scalar.cmpi .sle (BitVec.ofNat 32 i.val) (BitVec.ofNat 32 j.val) := by pointwise; rfl
  rw [e, e1, bit_val]
  simp only [sle_small (show i.val < 2 ^ 31 by omega) (show j.val < 2 ^ 31 by omega), Fin.le_def]

/-! ## The overlaps -/

/-- The four corners of a box. -/
def col (b : FVec Ideal (Mat 4 400) .f32) (j : Fin 400) : Fin 4 → EReal := fun c => b (ix2 c j)

/-- Two boxes' overlap, at an index. -/
theorem iou_at (b : FVec Ideal (Mat 4 400) .f32) (i j : Fin 400) : iou b (ix2 i j) = overlap (col b i) (col b j) := by
  have hd (r : ℕ) (h) (hr : r < 4) : down b r h (ix2 i 0) = b (ix2 ⟨r, hr⟩ i) := by unfold down; pointwise
  have ha (r : ℕ) (h) (hr : r < 4) : across b r h (ix2 0 j) = b (ix2 ⟨r, hr⟩ j) := by unfold across; pointwise
  have sd (v) : sqD v (ix2 i j) = v (ix2 i 0) := by unfold sqD; pointwise
  have sa (v) : sqA v (ix2 i j) = v (ix2 0 j) := by unfold sqA; pointwise
  have hi : inter b (ix2 i j) = common (col b i) (col b j) := by
    have e : inter b (ix2 i j)
      = max (w32 0x00000000#32) (min (sqD (down b 2 (by decide)) (ix2 i j)) (sqA (across b 2 (by decide)) (ix2 i j))
          - max (sqD (down b 0 (by decide)) (ix2 i j)) (sqA (across b 0 (by decide)) (ix2 i j)))
        * max (w32 0x00000000#32) (min (sqD (down b 3 (by decide)) (ix2 i j)) (sqA (across b 3 (by decide)) (ix2 i j))
          - max (sqD (down b 1 (by decide)) (ix2 i j)) (sqA (across b 1 (by decide)) (ix2 i j))) := rfl
    rw [e, w32_zero]
    simp only [sd, sa]
    rw [hd 0 _ (by decide), hd 1 _ (by decide), hd 2 _ (by decide), hd 3 _ (by decide),
      ha 0 _ (by decide), ha 1 _ (by decide), ha 2 _ (by decide), ha 3 _ (by decide), max_comm 0, max_comm 0]
    rfl
  have hu : union b (ix2 i j) = area (col b i) + area (col b j) - common (col b i) (col b j) := by
    have e : union b (ix2 i j)
      = sqD (mulf (subf (down b 2 (by decide)) (down b 0 (by decide))) (subf (down b 3 (by decide)) (down b 1 (by decide)))) (ix2 i j)
        + sqA (mulf (subf (across b 2 (by decide)) (across b 0 (by decide))) (subf (across b 3 (by decide)) (across b 1 (by decide)))) (ix2 i j)
        - inter b (ix2 i j) := rfl
    rw [e, hi, sd, sa]
    have e1 : mulf (subf (down b 2 (by decide)) (down b 0 (by decide))) (subf (down b 3 (by decide)) (down b 1 (by decide))) (ix2 i 0)
      = (down b 2 (by decide) (ix2 i 0) - down b 0 (by decide) (ix2 i 0)) * (down b 3 (by decide) (ix2 i 0) - down b 1 (by decide) (ix2 i 0)) := rfl
    have e2 : mulf (subf (across b 2 (by decide)) (across b 0 (by decide))) (subf (across b 3 (by decide)) (across b 1 (by decide))) (ix2 0 j)
      = (across b 2 (by decide) (ix2 0 j) - across b 0 (by decide) (ix2 0 j)) * (across b 3 (by decide) (ix2 0 j) - across b 1 (by decide) (ix2 0 j)) := rfl
    rw [e1, e2, hd 0 _ (by decide), hd 1 _ (by decide), hd 2 _ (by decide), hd 3 _ (by decide),
      ha 0 _ (by decide), ha 1 _ (by decide), ha 2 _ (by decide), ha 3 _ (by decide)]
    rfl
  have e : iou b (ix2 i j) = Ideal.div (inter b (ix2 i j)) (max (w32 0x322BCC77#32) (union b (ix2 i j))) := rfl
  rw [e, hi, hu, max_comm]
  rfl

/-! ## The suppression -/

/-- One less one. -/
theorem one_sub_one : (1 : EReal) - 1 = 0 := by
  rw [← EReal.coe_one, ← EReal.coe_sub, sub_self, EReal.coe_zero]

/-- The numbers zero and one under the suppression's arithmetic. -/
theorem flag_step (a c d : Bool) : flag a * (1 - flag c * flag d) = flag (a && !(c && d)) := by
  cases a <;> cases c <;> cases d <;> simp [flag, one_sub_one]

/-- What the suppression carries is the reference's truth values as numbers. -/
theorem kept_at (m : FVec Ideal (Mat 400 400) .f32) : ∀ (n : ℕ), n ≤ 400 → ∀ j : Fin 400,
    Level.kept m n (ix2 0 j) = flag (Spec.kept (fun i j => m (ix2 i j)) n j)
  | 0, _, j => w32_one
  | n + 1, hn, j => by
    have ih := kept_at m n (by omega)
    have hlt : n < 400 := by omega
    have eiv : Scf.iv 0#32 1#32 n = BitVec.ofNat 32 n := by
      refine BitVec.eq_of_toNat_eq ?_
      rw [WordArith.toNat_iv_zero_one n (by omega), BitVec.toNat_ofNat, Nat.mod_eq_of_lt (by omega)]
    have eln (i : Fin 400) : ln (ix2 0 i) = BitVec.ofNat 32 i.val := by unfold ln; pointwise
    -- the box's own flag, by a sum over a mask
    have hal : Level.total (mulf (Level.kept m n) (sitofp .f32 (extui 32 (cmpi .eq ln (broadcast (Mat 1 400) (Scf.iv 0#32 1#32 n))) (by decide))))
        = flag (Spec.kept (fun i j => m (ix2 i j)) n ⟨n, hlt⟩) := by
      rw [total_at]
      have e (i : Fin 400) : mulf (Level.kept m n) (sitofp .f32 (extui 32 (cmpi .eq ln (broadcast (Mat 1 400) (Scf.iv 0#32 1#32 n))) (by decide))) (ix2 0 i)
          = Level.kept m n (ix2 0 i) * ((((Scalar.cmpi .eq (ln (ix2 0 i)) (Scf.iv 0#32 1#32 n)).setWidth 32).toInt : ℝ) : EReal) := rfl
      have hq (i : Fin 400) : Scalar.cmpi .eq (BitVec.ofNat 32 i.val) (BitVec.ofNat 32 n) = 1#1 ↔ i = ⟨n, hlt⟩ := by
        rw [eq_small (by omega) (by omega), Fin.ext_iff]
      refine Eq.trans (Finset.sum_congr rfl fun i _ => (e i).trans ?_) (Finset.sum_ite_eq' Finset.univ (⟨n, hlt⟩ : Fin 400) fun i => flag (Spec.kept (fun i j => m (ix2 i j)) n i)) |>.trans (if_pos (Finset.mem_univ _))
      rw [eln, eiv, bit_val, ih]
      simp only [hq, mul_ite, mul_one, mul_zero]
    have e : Level.kept m (n + 1) (ix2 0 j) = Level.kept m n (ix2 0 j) * (w32 0x3F800000#32
        - ((((Ideal.cmp .ogt (sqRow m n (ix2 0 j)) (w32 0x3F333333#32) &&& Scalar.cmpi .sgt (ln (ix2 0 j)) (Scf.iv 0#32 1#32 n)).setWidth 32).toInt : ℝ) : EReal)
          * min (Level.total (mulf (Level.kept m n) (sitofp .f32 (extui 32 (cmpi .eq ln (broadcast (Mat 1 400) (Scf.iv 0#32 1#32 n))) (by decide)))))
            (w32 0x3F800000#32)) := rfl
    have hm : min (flag (Spec.kept (fun i j => m (ix2 i j)) n ⟨n, hlt⟩)) 1 = flag (Spec.kept (fun i j => m (ix2 i j)) n ⟨n, hlt⟩) := by
      refine min_eq_left ?_
      unfold flag
      split_ifs <;> simp
    have hc : ((((Ideal.cmp .ogt (sqRow m n (ix2 0 j)) (w32 0x3F333333#32) &&& Scalar.cmpi .sgt (ln (ix2 0 j)) (Scf.iv 0#32 1#32 n)).setWidth 32).toInt : ℝ) : EReal)
        = flag (decide (w32 0x3F333333#32 < m (ix2 ⟨n, hlt⟩ j)) && decide (n < j.val)) := by
      have er : sqRow m n (ix2 0 j) = m (ix2 ⟨n, hlt⟩ j) := by unfold sqRow; rw [dif_pos hlt]; rfl
      have eg : Ideal.cmp .ogt (m (ix2 ⟨n, hlt⟩ j)) (w32 0x3F333333#32) = 1#1 ↔ w32 0x3F333333#32 < m (ix2 ⟨n, hlt⟩ j) := by
        by_cases h : w32 0x3F333333#32 < m (ix2 ⟨n, hlt⟩ j) <;> simp [Ideal.cmp, h]
      rw [bit_val, er, eln, eiv]
      simp only [and_bit, eg, sgt_small (show j.val < 2 ^ 31 by omega) (show n < 2 ^ 31 by omega), flag, Bool.and_eq_true, decide_eq_true_eq]
    rw [e, hal, w32_one, hm, hc, ih, flag_step]
    congr 1
    show _ = (Spec.kept _ n j && !(if h : n < 400 then _ else false))
    rw [dif_pos hlt]

/-! ## The ranking -/

/-- The ranks the kernel computes. -/
theorem ranks_at (v : Row) (keep : Fin 400 → Bool) (hv : ∀ j, v (ix2 0 j) = flag (keep j)) (j : Fin 400) :
    ranks v (ix2 0 j) = ((rank keep j : ℕ) : EReal) := by
  have e : ranks v (ix2 0 j) = v (ix2 0 j) * (run v (ix2 0 j) - w32 0x3F800000#32)
      + (w32 0x3F800000#32 - v (ix2 0 j)) * (Level.total v + run (subf (rep 0x3F800000#32) v) (ix2 0 j) - w32 0x3F800000#32) := rfl
  rw [e, w32_one, hv]
  refine rank_val keep j _ _ _ ?_ ?_ ?_
  · rw [run_at]; simp only [hv]
  · rw [run_at]
    refine Finset.sum_congr rfl fun i _ => ?_
    have : subf (rep 0x3F800000#32) v (ix2 0 i) = w32 0x3F800000#32 - v (ix2 0 i) := rfl
    rw [this, w32_one, hv]
  · rw [total_at]; simp only [hv]

/-- The result: the boxes by their ranks. -/
theorem result_at (v : Row) (keep : Fin 400 → Bool) (hv : ∀ j, v (ix2 0 j) = flag (keep j)) (b : FVec Ideal (Mat 4 400) .f32)
    (s : Fin 400 → EReal) (hs : ∀ i j, i ≤ j → s j ≤ s i) (hb : ∀ i, ⊥ < s i) (r : Fin 100) (c : Fin 4) :
    result v b (ix2 r c) = b (ix2 c (best (masked keep s) (Fin.castLE (by decide) r))) := by
  unfold result
  refine (dot_at _ _ _ r c).trans ?_
  have et (i : Fin 400) : transpose (Mat 400 4) [1, 0] b (by decide) (ix2 i c) = b (ix2 c i) := by pointwise
  have eo (i : Fin 400) : (sitofp .f32 (extui 32 (cmpf .oeq
      (broadcastTo (Mat 100 400) (sitofp .f32 (iota .tc (Mat 100 1) 32 [0] (by decide)) : FVec Ideal (Mat 100 1) .f32) (by decide))
      (broadcastTo (Mat 100 400) (ranks v) (by decide))) (by decide)) : FVec Ideal (Mat 100 400) .f32) (ix2 r i)
      = if best (masked keep s) (Fin.castLE (by decide) r) = i then 1 else 0 := by
    have e1 : (broadcastTo (Mat 100 400) (ranks v) (by decide)) (ix2 r i) = ranks v (ix2 0 i) := by pointwise
    have e2 : (broadcastTo (Mat 100 400) (sitofp .f32 (iota .tc (Mat 100 1) 32 [0] (by decide)) : FVec Ideal (Mat 100 1) .f32) (by decide)) (ix2 r i)
      = (((BitVec.ofNat 32 r.val).toInt : ℝ) : EReal) := by
      refine Eq.trans (b := (sitofp .f32 (iota .tc (Mat 100 1) 32 [0] (by decide)) : FVec Ideal (Mat 100 1) .f32) (ix2 r 0)) (by pointwise) ?_
      have : (iota .tc (Mat 100 1) 32 [0] (by decide)) (ix2 r 0) = BitVec.ofNat 32 r.val := by pointwise
      show ((((iota .tc (Mat 100 1) 32 [0] (by decide)) (ix2 r 0)).toInt : ℝ) : EReal) = _
      rw [this]
    have e3 : (sitofp .f32 (extui 32 (cmpf .oeq
      (broadcastTo (Mat 100 400) (sitofp .f32 (iota .tc (Mat 100 1) 32 [0] (by decide)) : FVec Ideal (Mat 100 1) .f32) (by decide))
      (broadcastTo (Mat 100 400) (ranks v) (by decide))) (by decide)) : FVec Ideal (Mat 100 400) .f32) (ix2 r i)
      = ((((Ideal.cmp .oeq
      (broadcastTo (Mat 100 400) (sitofp .f32 (iota .tc (Mat 100 1) 32 [0] (by decide)) : FVec Ideal (Mat 100 1) .f32) (by decide) (ix2 r i))
      (broadcastTo (Mat 100 400) (ranks v) (by decide) (ix2 r i))).setWidth 32).toInt : ℝ) : EReal) := rfl
    rw [e3, e1, e2, cmp_eq_flag, ranks_at v keep hv, toInt_small (by omega), Int.cast_natCast, ← EReal.coe_natCast]
    have hr := rank_eq_iff keep s hs hb (Fin.castLE (by decide) r) i
    simp only [EReal.coe_eq_coe_iff, Nat.cast_inj]
    exact if_congr hr rfl rfl
  refine Eq.trans (Finset.sum_congr rfl fun i _ => congrArg₂ (· * ·) (eo i) (et i)) ?_
  simp

/-- A level's result from its boxes and scores. -/
theorem best100_at (b : FVec Ideal (Mat 4 400) .f32) (s : Fin 400 → EReal) (hs : ∀ i j, i ≤ j → s j ≤ s i) (hb : ∀ i, ⊥ < s i)
    (r : Fin 100) (c : Fin 4) : best100 b (ix2 r c) = chosen (col b) s r c := by
  unfold best100
  rw [result_at (Level.kept (iou b) 400) (Spec.kept (fun i j => overlap (col b i) (col b j)) 400) (fun j => ?_) b s hs hb]
  · rfl
  · rw [kept_at (iou b) 400 le_rfl j]
    simp only [iou_at]

end Cert.Level

end
-- ==== Proof.LevelAt.lean ====
/- A level of the kernel at an entry of its result: what the convolutions leave at the lanes of the map, and the chosen boxes. -/
module

public import proofs.«01_k».proof.Proof.PickAt
public import proofs.«01_k».proof.Proof.NmsAt

@[expose] public section

noncomputable section

namespace Cert.Level

open Idealize.ShloMosaic Cert.Spec Cert.Order Cert.Extract

/-- The flattened map's entries. -/
def HoldsMap {N : ℕ} (W : ℕ) (x : FVec Ideal ⟨3, ![1, 256, N]⟩ .f32) (xp : Fin 256 → ℕ → ℕ → EReal) : Prop :=
  ∀ (c : Fin 256) (i j : ℕ) (hi : i < W + 2) (hj : j < W + 2) (h : i * (W + 2) + j < N), x (ix3 0 c ⟨i * (W + 2) + j, h⟩) = xp c i j

/-- The stacked weights' entries. -/
def HoldsSlabs (x : FVec Ideal ⟨3, ![9, 256, 256]⟩ .f32) (w : Fin 256 → Fin 256 → Fin 3 → Fin 3 → EReal) : Prop :=
  ∀ (ky kx : Fin 3) (o c : Fin 256), x (ix3 ⟨3 * ky.val + kx.val, by omega⟩ o c) = w o c ky kx

variable {M N : ℕ} [Fits M] {K : Consts} {W : ℕ} (H : K.For W M) (hN : 2 * (W + 2) + 2 + M ≤ N)

variable {x0 : FVec Ideal ⟨3, ![1, 256, N]⟩ .f32} {xp : Fin 256 → ℕ → ℕ → EReal} (h0 : HoldsMap W x0 xp)
  {x1 : FVec Ideal ⟨3, ![9, 256, 256]⟩ .f32} {w : Fin 256 → Fin 256 → Fin 3 → Fin 3 → EReal} (h1 : HoldsSlabs x1 w)
  {x2 : FVec Ideal (Mat 256 1) .f32} {b : Fin 256 → EReal} (h2 : ∀ o, x2 (ix2 o 0) = b o)

include h0 h1 in
/-- One shift's product at a lane of the map. -/
theorem tap_at (t : Fin 9) (ky kx : Fin 3) (ht : t.val = 3 * ky.val + kx.val) (o : Fin 256) (y x : ℕ) (hy : y < W) (hx : x < W) (h : y * (W + 2) + x < M) :
    tap (slab x1 t) (shift x0 (off (W + 2) t) (off_le (W + 2) hN t)) (ix2 o ⟨y * (W + 2) + x, h⟩) = part w xp ky kx o y x := by
  unfold tap part
  refine (dot_at _ _ _ o _).trans (Finset.sum_congr rfl fun c _ => ?_)
  have hk : ky.val < 3 := ky.isLt
  have hk' : kx.val < 3 := kx.isLt
  have e1 : slab x1 t (ix2 o c) = w o c ky kx := by
    rw [← h1 ky kx o c]
    exact congrArg (fun z => x1 (ix3 z o c)) (Fin.ext ht)
  have hoff : off (W + 2) t = ky.val * (W + 2) + kx.val := by
    unfold off
    rw [ht, show (3 * ky.val + kx.val) / 3 = ky.val by omega, show (3 * ky.val + kx.val) % 3 = kx.val by omega]
  have hidx : off (W + 2) t + (y * (W + 2) + x) = (y + ky.val) * (W + 2) + (x + kx.val) := by rw [hoff]; ring
  have e2 : shift x0 (off (W + 2) t) (off_le (W + 2) hN t) (ix2 c ⟨y * (W + 2) + x, h⟩) = xp c (y + ky.val) (x + kx.val) := by
    have hb := off_le (M := M) (W + 2) hN t
    rw [← h0 c (y + ky.val) (x + kx.val) (by omega) (by omega) (by omega)]
    exact congrArg (fun z => x0 (ix3 0 c z)) (Fin.ext hidx)
  rw [e1, e2]

include h0 h1 h2 in
/-- The hidden map at a lane of the map. -/
theorem hidden_at (o : Fin 256) (y x : ℕ) (hy : y < W) (hx : x < W) (h : y * (W + 2) + x < M) :
    hidden (M := M) (W + 2) hN x0 x1 x2 (ix2 o ⟨y * (W + 2) + x, h⟩) = hid w b xp o y x := by
  have eb : broadcastTo (Mat 256 M) x2 Fits.bc256 (ix2 o ⟨y * (W + 2) + x, h⟩) = x2 (ix2 o 0) := by pointwise
  have ht := fun t ky kx ht => tap_at hN h0 h1 t ky kx ht o y x hy hx h
  have e : hidden (M := M) (W + 2) hN x0 x1 x2 (ix2 o ⟨y * (W + 2) + x, h⟩)
    = max (taps (slab x1) (fun t => shift x0 (off (W + 2) t) (off_le (W + 2) hN t)) (ix2 o ⟨y * (W + 2) + x, h⟩)
        + broadcastTo (Mat 256 M) x2 Fits.bc256 (ix2 o ⟨y * (W + 2) + x, h⟩)) (w32 0x00000000#32) := rfl
  have e' (f : Fin 9 → FVec Ideal (Mat 256 256) .f32) (g : Fin 9 → FVec Ideal (Mat 256 M) .f32) (i : (Mat 256 M).Idx) : taps f g i
    = tap (f 0) (g 0) i + tap (f 1) (g 1) i + tap (f 2) (g 2) i + tap (f 3) (g 3) i + tap (f 4) (g 4) i
      + tap (f 5) (g 5) i + tap (f 6) (g 6) i + tap (f 7) (g 7) i + tap (f 8) (g 8) i := rfl
  rw [e, e', eb, h2, w32_zero]
  rw [ht 0 0 0 rfl, ht 1 0 1 rfl, ht 2 0 2 rfl, ht 3 1 0 rfl, ht 4 1 1 rfl, ht 5 1 2 rfl, ht 6 2 0 rfl, ht 7 2 1 rfl, ht 8 2 2 rfl]
  rfl

include h0 h1 h2 in
/-- The scores at a lane of the map. -/
theorem logits_at {x3 : FVec Ideal (Mat 3 256) .f32} {x4 : FVec Ideal (Mat 3 1) .f32} (r : Fin 3) (y x : ℕ) (hy : y < W) (hx : x < W)
    (h : y * (W + 2) + x < M) :
    logits x3 (hidden (M := M) (W + 2) hN x0 x1 x2) x4 (ix2 r ⟨y * (W + 2) + x, h⟩)
      = head (fun r c => x3 (ix2 r c)) (fun r => x4 (ix2 r 0)) (hid w b xp) r y x := by
  have eb : broadcastTo (Mat 3 M) x4 Fits.bc3 (ix2 r ⟨y * (W + 2) + x, h⟩) = x4 (ix2 r 0) := by pointwise
  refine (congrArg₂ (· + ·) ((dot_at none x3 (hidden (M := M) (W + 2) hN x0 x1 x2) r _).trans
    (Finset.sum_congr rfl fun c _ => ?_)) eb)
  rw [hidden_at hN h0 h1 h2 c y x hy hx h]

include h0 h1 h2 in
/-- The offsets at a lane of the map. -/
theorem deltas_at {x5 : FVec Ideal (Mat 12 256) .f32} {x6 : FVec Ideal (Mat 12 1) .f32} :
    HoldsOffsets W (deltas x5 (hidden (M := M) (W + 2) hN x0 x1 x2) x6)
      (head (fun r c => x5 (ix2 r c)) (fun r => x6 (ix2 r 0)) (hid w b xp)) := by
  intro r y x hy hx h
  have eb : broadcastTo (Mat 12 M) x6 Fits.bc12 (ix2 r ⟨y * (W + 2) + x, h⟩) = x6 (ix2 r 0) := by pointwise
  refine (congrArg₂ (· + ·) ((dot_at none x5 (hidden (M := M) (W + 2) hN x0 x1 x2) r _).trans
    (Finset.sum_congr rfl fun c _ => ?_)) eb)
  rw [hidden_at hN h0 h1 h2 c y x hy hx h]

include H h0 h1 h2 in
/-- A level's result: the best hundred of the boxes of the anchors with the greatest scores. -/
theorem level_at {x3 : FVec Ideal (Mat 3 256) .f32} {x4 : FVec Ideal (Mat 3 1) .f32} {x5 : FVec Ideal (Mat 12 256) .f32} {x6 : FVec Ideal (Mat 12 1) .f32}
    {ow : Fin 3 → Fin 256 → EReal} {ob : Fin 3 → EReal} {dw : Fin 12 → Fin 256 → EReal} {db : Fin 12 → EReal}
    (h3 : ∀ r c, x3 (ix2 r c) = ow r c) (h4 : ∀ r, x4 (ix2 r 0) = ob r) (h5 : ∀ r c, x5 (ix2 r c) = dw r c) (h6 : ∀ r, x6 (ix2 r 0) = db r)
    (neg : Ideal .f32) (hneg : neg = (⊥ : EReal)) (h400 : 400 ≤ 3 * (W * W))
    (hL : ∀ p, ⊥ < scores W (head ow ob (hid w b xp)) p) (r : Fin 100) (c : Fin 4) :
    best100 (bx K 400 neg (logits x3 (hidden (M := M) (W + 2) hN x0 x1 x2) x4) (deltas x5 (hidden (M := M) (W + 2) hN x0 x1 x2) x6)) (ix2 r c)
      = chosen (Spec.boxes (scores W (head ow ob (hid w b xp))) h400 K.grid W (head dw db (hid w b xp)))
          (fun j => scores W (head ow ob (hid w b xp)) (sel (scores W (head ow ob (hid w b xp))) h400 j)) r c := by
  obtain rfl : (fun r c => x3 (ix2 r c)) = ow := funext₂ h3
  obtain rfl : (fun r => x4 (ix2 r 0)) = ob := funext h4
  obtain rfl : (fun r c => x5 (ix2 r c)) = dw := funext₂ h5
  obtain rfl : (fun r => x6 (ix2 r 0)) = db := funext h6
  have hd := deltas_at hN h0 h1 h2 (x5 := x5) (x6 := x6)
  rw [best100_at _ (fun j => scores W (head _ _ (hid w b xp)) (sel (scores W (head _ _ (hid w b xp))) h400 j))
    (fun i j hij => best_antitone _ (by exact hij)) (fun i => hL _) r c]
  congr 1
  funext j k
  unfold bx
  refine level4_at H (n := (sel (scores W (head _ _ (hid w b xp))) h400 j).val) ?_ (Fin.isLt _) _ _ hd k
  unfold Holds
  rw [keyRow_at, EReal.coe_natCast]
  refine picked_at H le_rfl h400 neg hneg (fun c p hv hp => ?_) hL j j.isLt
  obtain ⟨a, q⟩ := c
  have hy := row_lt H q
  have hq : q.val = q.val / (W + 2) * (W + 2) + q.val % (W + 2) := (Nat.div_add_mod' _ _).symm
  have hW := H.pos
  unfold inside at hv
  simp only at hv
  have ha := a.isLt
  unfold keyOf at hp
  simp only at hp
  have e1 : p.val % 3 = a.val := by omega
  have e2 : p.val / 3 = q.val / (W + 2) * W + q.val % (W + 2) := by omega
  have e3 : p.val / 3 / W = q.val / (W + 2) := by
    rw [e2, add_comm, Nat.add_mul_div_right _ _ hW, Nat.div_eq_of_lt hv, zero_add]
  have e4 : p.val / 3 % W = q.val % (W + 2) := by
    rw [e2, add_comm, Nat.add_mul_mod_self_right, Nat.mod_eq_of_lt hv]
  have hlt := logits_at hN h0 h1 h2 (x3 := x3) (x4 := x4) a _ _ hy hv (by rw [← hq]; exact q.isLt)
  unfold scores
  rw [e3, e4]
  have ea : (⟨p.val % 3, Nat.mod_lt _ (by decide)⟩ : Fin 3) = a := Fin.ext e1
  rw [ea, ← hlt]
  exact congrArg (fun z => logits x3 (hidden (M := M) (W + 2) hN x0 x1 x2) x4 (ix2 a z)) (Fin.ext hq)

end Cert.Level

end
-- ==== Proof.Prelude.lean ====
/- The kernel's host operations before its first call, at an index: the nine slabs of the convolution and the other weights and
   biases. -/
module

public import proofs.«01_k».proof.Proof.Gen.KernelIdeal.Frame
public import proofs.«01_k».proof.Proof.LevelAt
public import Idealize.ShloMosaic.Lib.StableHlo.ReadAt

@[expose] public section

noncomputable section

namespace Cert.KernelIdeal

open Idealize.ShloMosaic Idealize.ShloMosaic.TcCoe Cert.KernelIdeal.Gen Cert.Level Cert.Spec

variable (V : Valuation τ sig (Elt Ideal))

/-- The stacked slabs. -/
theorem slabs_at (ky kx : Fin 3) (o c : Fin 256) :
    (StableHlo.after hostOps0 V (Proc.devRef .tc main_v27) : S9x256x256.Idx → EReal) (ix3 ⟨3 * ky.val + kx.val, by omega⟩ o c)
      = V (Proc.devRef .tc main_arg3) (ix4 o c ky kx : S256x256x3x3.Idx) := by
  fin_cases ky <;> fin_cases kx <;> after_reads_at <;> after_reads_at

/-- The convolution's bias as a column. -/
theorem bias_at (o : Fin 256) : (StableHlo.after hostOps0 V (Proc.devRef .tc main_v28) : S256x1.Idx → EReal) (ix2 o 0)
    = V (Proc.devRef .tc main_arg4) (ix1 o : S256.Idx) := by
  after_reads_at

/-- The scores' weights. -/
theorem scoreW_at (r : Fin 3) (c : Fin 256) : (StableHlo.after hostOps0 V (Proc.devRef .tc main_v29) : S3x256.Idx → EReal) (ix2 r c)
    = V (Proc.devRef .tc main_arg5) (ix4 r c 0 0 : S3x256x1x1.Idx) := by
  after_reads_at

/-- The scores' bias as a column. -/
theorem scoreB_at (r : Fin 3) : (StableHlo.after hostOps0 V (Proc.devRef .tc main_v30) : S3x1.Idx → EReal) (ix2 r 0)
    = V (Proc.devRef .tc main_arg6) (ix1 r : S3.Idx) := by
  after_reads_at

/-- The offsets' weights. -/
theorem deltaW_at (r : Fin 12) (c : Fin 256) : (StableHlo.after hostOps0 V (Proc.devRef .tc main_v31) : S12x256.Idx → EReal) (ix2 r c)
    = V (Proc.devRef .tc main_arg7) (ix4 r c 0 0 : S12x256x1x1.Idx) := by
  after_reads_at

/-- The offsets' bias as a column. -/
theorem deltaB_at (r : Fin 12) : (StableHlo.after hostOps0 V (Proc.devRef .tc main_v32) : S12x1.Idx → EReal) (ix2 r 0)
    = V (Proc.devRef .tc main_arg8) (ix1 r : S12.Idx) := by
  after_reads_at

/-- The zero the first map is padded with. -/
theorem const_eq : StableHlo.after hostOps0 V (Proc.devRef .tc main_c) = constantI S_ 32 0#32 := by
  after_reads_simp

end Cert.KernelIdeal

end
-- ==== Proof.Maps.lean ====
/- The three padded maps laid out in rows, at an index. -/
module

public import proofs.«01_k».proof.Proof.Gen.KernelIdeal.Frame
public import proofs.«01_k».proof.Proof.LevelAt
public import Idealize.ShloMosaic.Lib.StableHlo.ReadAt
public import Idealize.ShloMosaic.Lib.KernelVsHost

@[expose] public section

noncomputable section

namespace Cert.Level

open Idealize.ShloMosaic Cert.Spec

/-- A map padded by a row above, two below and a column at each side, at an entry that the rows of the border frame. -/
theorem pad_at {W : ℕ} (x : FVec Ideal ⟨4, ![2, 256, W, W]⟩ .f32) {u : Shape} (v : FVec Ideal u .f32) {H : ℕ}
    (h : (⟨4, ![2, 256, W, W]⟩ : Shape).Pads ![0, 0, 1, 1] ![0, 0, H, 1] ![0, 0, 0, 0] ⟨4, ![2, 256, W + (H + 1), W + 2]⟩) (hu : 0 < u.numel)
    (hv : v (Shape.Idx.first hu) = (0 : EReal)) (n : Fin 2) (c : Fin 256) (i : Fin (W + (H + 1))) (j : Fin (W + 2)) :
    pad ⟨4, ![2, 256, W + (H + 1), W + 2]⟩ ![0, 0, 1, 1] ![0, 0, H, 1] ![0, 0, 0, 0] x v h hu (ix4 n c i j)
      = padded (fun c y x' => x (ix4 n c y x')) c i.val j.val := by
  unfold padded
  by_cases hin : (1 ≤ i.val ∧ i.val < W + 1) ∧ 1 ≤ j.val ∧ j.val < W + 1
  · rw [dif_pos hin]
    refine pad_apply_of_inside _ _ _ x v h hu _ (ix4 n c ⟨i.val - 1, by omega⟩ ⟨j.val - 1, by omega⟩) fun a => ?_
    fin_cases a
    · show n.val = 0 + n.val * 1
      omega
    · show c.val = 0 + c.val * 1
      omega
    · show i.val = 1 + (i.val - 1) * 1
      omega
    · show j.val = 1 + (j.val - 1) * 1
      omega
  · rw [dif_neg hin]
    refine Eq.trans ?_ hv
    by_cases hi : 1 ≤ i.val ∧ i.val < W + 1
    · refine pad_apply_of_not_inside _ _ _ x v h hu _ 3 fun ⟨e1, _, e2⟩ => hin ⟨hi, ?_⟩
      have e1 : 1 ≤ j.val := e1
      have e2 : (j.val - 1) / 1 < W := e2
      omega
    · refine pad_apply_of_not_inside _ _ _ x v h hu _ 2 fun ⟨e1, _, e2⟩ => hi ?_
      have e1 : 1 ≤ i.val := e1
      have e2 : (i.val - 1) / 1 < W := e2
      omega

/-- The rows of a map laid one after the other. -/
theorem flat_at {R C N : ℕ} (x : FVec Ideal ⟨4, ![2, 256, R, C]⟩ .f32) (h : (⟨4, ![2, 256, R, C]⟩ : Shape).ShapeCasts ⟨3, ![2, 256, N]⟩)
    (n : Fin 2) (c : Fin 256) (i : Fin R) (j : Fin C) (hN : N = R * C) (hp : i.val * C + j.val < N) :
    shapeCast ⟨3, ![2, 256, N]⟩ x h (ix3 n c ⟨i.val * C + j.val, hp⟩) = x (ix4 n c i j) := by
  subst hN
  unfold shapeCast
  refine congrArg x (Shape.reshapeEquiv_eq_of_rowMajor h ?_)
  rw [Shape.rowMajor_val_four, Shape.rowMajor_val_three]
  show ((n.val * 256 + c.val) * R + i.val) * C + j.val = (n.val * 256 + c.val) * (R * C) + (i.val * C + j.val)
  ring

end Cert.Level

namespace Cert.KernelIdeal

open Idealize.ShloMosaic Idealize.ShloMosaic.TcCoe Cert.KernelIdeal.Gen Cert.Level Cert.Spec

variable (V : Valuation τ sig (Elt Ideal))

/-- The zero that the maps are padded with. -/
theorem zero_at (j : S_.Idx) : FloatOps.sitofp (F := Ideal) (φ := .f32) (constantI S_ 32 0#32 j) = (0 : EReal) := by
  show (((((0#32 : BitVec 32).toInt : ℤ) : ℝ)) : EReal) = 0
  simp

/-- The padded map of level 0 in a row. -/
theorem map0_at (hc : V (Proc.devRef .tc main_c) = constantI S_ 32 0#32) (n : Fin 2) (c : Fin 256) (i : Fin 67) (j : Fin 66) (hp : i.val * 66 + j.val < 4422) :
    (StableHlo.after hostOps0_2 (StableHlo.after hostOps0_1 V) (Proc.devRef .tc main_v34) : S2x256x4422.Idx → EReal) (ix3 n c ⟨i.val * 66 + j.val, hp⟩)
    = padded (fun c y x => (V (Proc.devRef .tc main_arg0) : S2x256x64x64.Idx → EReal) (ix4 n c y x)) c i.val j.val := by
  have e : StableHlo.after hostOps0_2 (StableHlo.after hostOps0_1 V) (Proc.devRef .tc main_v34)
      = shapeCast S2x256x4422 (pad S2x256x67x66 ![0, 0, 1, 1] ![0, 0, 2, 1] ![0, 0, 0, 0] (V (Proc.devRef .tc main_arg0) : S2x256x64x64.Idx → EReal)
          (sitofp (F := Ideal) .f32 (V (Proc.devRef .tc main_c) : S_.Idx → BitVec 32)) pads_S2x256x64x64_S2x256x67x66_000_000_120_110 h_S_) shapeCasts_S2x256x67x66_S2x256x4422 := by
    after_reads_simp
    simp -implicitDefEqProofs only [StableHlo.TRef.toBuf, StableHlo.TRef.ofBuf, cast_cast, cast_eq]
    rfl
  rw [e, hc]
  refine (flat_at _ _ n c i j rfl hp).trans ?_
  exact pad_at (W := 64) (H := 2) _ _ _ _ (zero_at _) n c i j

/-- The padded map of level 1 in a row. -/
theorem map1_at (hc : V (Proc.devRef .tc main_c_0) = constantI S_ 32 0#32) (n : Fin 2) (c : Fin 256) (i : Fin 35) (j : Fin 34) (hp : i.val * 34 + j.val < 1190) :
    (StableHlo.after hostOps1_2 (StableHlo.after hostOps1_1 V) (Proc.devRef .tc main_v37) : S2x256x1190.Idx → EReal) (ix3 n c ⟨i.val * 34 + j.val, hp⟩)
    = padded (fun c y x => (V (Proc.devRef .tc main_arg1) : S2x256x32x32.Idx → EReal) (ix4 n c y x)) c i.val j.val := by
  have e : StableHlo.after hostOps1_2 (StableHlo.after hostOps1_1 V) (Proc.devRef .tc main_v37)
      = shapeCast S2x256x1190 (pad S2x256x35x34 ![0, 0, 1, 1] ![0, 0, 2, 1] ![0, 0, 0, 0] (V (Proc.devRef .tc main_arg1) : S2x256x32x32.Idx → EReal)
          (sitofp (F := Ideal) .f32 (V (Proc.devRef .tc main_c_0) : S_.Idx → BitVec 32)) pads_S2x256x32x32_S2x256x35x34_000_000_120_110 h_S_) shapeCasts_S2x256x35x34_S2x256x1190 := by
    after_reads_simp
    simp -implicitDefEqProofs only [StableHlo.TRef.toBuf, StableHlo.TRef.ofBuf, cast_cast, cast_eq]
    rfl
  rw [e, hc]
  refine (flat_at _ _ n c i j rfl hp).trans ?_
  exact pad_at (W := 32) (H := 2) _ _ _ _ (zero_at _) n c i j

/-- The padded map of level 2 in a row. -/
theorem map2_at (hc : V (Proc.devRef .tc main_c_1) = constantI S_ 32 0#32) (n : Fin 2) (c : Fin 256) (i : Fin 19) (j : Fin 18) (hp : i.val * 18 + j.val < 342) :
    (StableHlo.after hostOps2_2 (StableHlo.after hostOps2_1 V) (Proc.devRef .tc main_v40) : S2x256x342.Idx → EReal) (ix3 n c ⟨i.val * 18 + j.val, hp⟩)
    = padded (fun c y x => (V (Proc.devRef .tc main_arg2) : S2x256x16x16.Idx → EReal) (ix4 n c y x)) c i.val j.val := by
  have e : StableHlo.after hostOps2_2 (StableHlo.after hostOps2_1 V) (Proc.devRef .tc main_v40)
      = shapeCast S2x256x342 (pad S2x256x19x18 ![0, 0, 1, 1] ![0, 0, 2, 1] ![0, 0, 0, 0] (V (Proc.devRef .tc main_arg2) : S2x256x16x16.Idx → EReal)
          (sitofp (F := Ideal) .f32 (V (Proc.devRef .tc main_c_1) : S_.Idx → BitVec 32)) pads_S2x256x16x16_S2x256x19x18_000_000_120_110 h_S_) shapeCasts_S2x256x19x18_S2x256x342 := by
    after_reads_simp
    simp -implicitDefEqProofs only [StableHlo.TRef.toBuf, StableHlo.TRef.ofBuf, cast_cast, cast_eq]
    rfl
  rw [e, hc]
  refine (flat_at _ _ n c i j rfl hp).trans ?_
  exact pad_at (W := 16) (H := 2) _ _ _ _ (zero_at _) n c i j

end Cert.KernelIdeal

end
-- ==== Proof.KernelRun.lean ====
/- The kernel's run: its result array ends at the contents that the fold through its segments leaves there, its arguments as
   launched. -/
module

public import proofs.«01_k».proof.Proof.Gen.KernelIdeal.Frame

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- No argument array is scoped. -/
theorem args_unscoped : ∀ a ∈ argRefs, ¬ (Proc.devRef .tc a : DevRef τ sig).isScoped = true := ListAll.forall_mem_of_all_decide (by decide +kernel)

-- the launch's implicit arguments are found by unifying its conclusion with this one
set_option backward.isDefEq.respectTransparency.types false in
/-- The run: the result array at the fold's last contents, every argument as launched. -/
theorem run : θ_run defs (onTc (τ := τ) (main (F := F))) ⟨m, fun _ => 0, ρ⟩ (fun r => ∀ c : Dev nD,
      r.2.mem ((c.tc : Thread nD τ).loc main_v42) = W13 m ρ c (Proc.devRef .tc main_v42)
      ∧ ∀ a ∈ argRefs, r.2.mem ((c.tc : Thread nD τ).loc a) = m ((c.tc : Thread nD τ).loc a)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h hz c => ⟨h c _ (mem_uc main_v42 (by decide)), fun a ha =>
      (h c _ (mem_uc a (args_unscoped a ha))).trans (W13_args m ρ c a ha)⟩)

end Cert.KernelIdeal.Run

end
-- ==== Proof.KernelValue.lean ====
/- The kernel's result at an index: each image's proposals, level after level. -/
module

public import proofs.«01_k».proof.Proof.Arrays
public import proofs.«01_k».proof.Proof.Grids
public import proofs.«01_k».proof.Proof.Whole
public import proofs.«01_k».proof.Proof.Prelude
public import proofs.«01_k».proof.Proof.Maps
public import proofs.«01_k».proof.Proof.KernelRun

@[expose] public section

noncomputable section

namespace Cert.KernelIdeal

open Idealize.ShloMosaic Idealize.ShloMosaic.TcCoe Cert.KernelIdeal.Gen Cert.Level Cert.Spec

/-! ## A level, of the arrays its call finds -/

/-- The weights' and biases' buffers hold these weights. -/
structure HoldsWeights (V : (c : Dev nD) → (b : Ref sig .tc) → Buf (Elt Ideal) ((c : Thread nD τ).loc b)) (c : Dev nD) (P : Weights) : Prop where
  w : HoldsSlabs (V c main_v27 : S9x256x256.Idx → EReal) P.w
  b : ∀ o, V c main_v28 (ix2 o 0 : S256x1.Idx) = P.b o
  ow : ∀ r a, V c main_v29 (ix2 r a : S3x256.Idx) = P.ow r a
  ob : ∀ r, V c main_v30 (ix2 r 0 : S3x1.Idx) = P.ob r
  dw : ∀ r a, V c main_v31 (ix2 r a : S12x256.Idx) = P.dw r a
  db : ∀ r, V c main_v32 (ix2 r 0 : S12x1.Idx) = P.db r

section
variable {V : (c : Dev nD) → (b : Ref sig .tc) → Buf (Elt Ideal) ((c : Thread nD τ).loc b)} {c : Dev nD} {P : Weights}

/-- Level 0's array after the run. -/
theorem level0 (hw : HoldsWeights V c P) (n : Fin 2) (x : Fin 256 → Fin 64 → Fin 64 → EReal)
    (hx : ∀ (a : Fin 256) (i : Fin 67) (j : Fin 66) (hp : i.val * 66 + j.val < 4422), V c main_v34 (ix3 n a ⟨i.val * 66 + j.val, hp⟩ : S2x256x4422.Idx) = padded x a i.val j.val)
    (hL : ∀ p, ⊥ < P.score x p) (r : Fin 100) (k : Fin 4) :
    (dat0 V c).arrAt 7 cfg0.N (ix3 n r k : S2x100x4.Idx) = P.level anchors8 (by norm_num) x r k := by
  obtain ⟨x0, h0, e⟩ := Region0.out_at V c n r k
  rw [show k0_t1_loop.trips = 400 by decide] at e
  refine e.trans (level_at (W := 64) Region0.for_ Region0.hN (xp := padded x) ?_ hw.w hw.b hw.ow hw.ob hw.dw hw.db Region0.neg masked_off (by norm_num) hL r k)
  intro a i j hi hj h
  exact (h0 a _).trans (hx a ⟨i, by omega⟩ ⟨j, hj⟩ h)

/-- Level 1's array after the run. -/
theorem level1 (hw : HoldsWeights V c P) (n : Fin 2) (x : Fin 256 → Fin 32 → Fin 32 → EReal)
    (hx : ∀ (a : Fin 256) (i : Fin 35) (j : Fin 34) (hp : i.val * 34 + j.val < 1190), V c main_v37 (ix3 n a ⟨i.val * 34 + j.val, hp⟩ : S2x256x1190.Idx) = padded x a i.val j.val)
    (hL : ∀ p, ⊥ < P.score x p) (r : Fin 100) (k : Fin 4) :
    (dat1 V c).arrAt 7 cfg1.N (ix3 n r k : S2x100x4.Idx) = P.level anchors16 (by norm_num) x r k := by
  obtain ⟨x0, h0, e⟩ := Region1.out_at V c n r k
  rw [show k1_t1_loop.trips = 400 by decide] at e
  refine e.trans (level_at (W := 32) Region1.for_ Region1.hN (xp := padded x) ?_ hw.w hw.b hw.ow hw.ob hw.dw hw.db Region1.neg masked_off (by norm_num) hL r k)
  intro a i j hi hj h
  exact (h0 a _).trans (hx a ⟨i, by omega⟩ ⟨j, hj⟩ h)

/-- Level 2's array after the run. -/
theorem level2 (hw : HoldsWeights V c P) (n : Fin 2) (x : Fin 256 → Fin 16 → Fin 16 → EReal)
    (hx : ∀ (a : Fin 256) (i : Fin 19) (j : Fin 18) (hp : i.val * 18 + j.val < 342), V c main_v40 (ix3 n a ⟨i.val * 18 + j.val, hp⟩ : S2x256x342.Idx) = padded x a i.val j.val)
    (hL : ∀ p, ⊥ < P.score x p) (r : Fin 100) (k : Fin 4) :
    (dat2 V c).arrAt 7 cfg2.N (ix3 n r k : S2x100x4.Idx) = P.level anchors32 (by norm_num) x r k := by
  obtain ⟨x0, h0, e⟩ := Region2.out_at V c n r k
  rw [show k2_t1_loop.trips = 400 by decide] at e
  refine e.trans (level_at (W := 16) Region2.for_ Region2.hN (xp := padded x) ?_ hw.w hw.b hw.ow hw.ob hw.dw hw.db Region2.neg masked_off (by norm_num) hL r k)
  intro a i j hi hj h
  exact (h0 a _).trans (hx a ⟨i, by omega⟩ ⟨j, hj⟩ h)

end

/-! ## The arrays the calls find -/

variable (m : (ℓ : Loc nD τ sig) → Buf (Elt Ideal) ℓ) (ρ : Dev nD → PrngReg) (c : Dev nD)

/-- The weights of a memory. -/
def weights : Weights where
  w := fun o a ky kx => m ((c : Thread nD τ).loc main_arg3) (ix4 o a ky kx : S256x256x3x3.Idx)
  b := fun o => m ((c : Thread nD τ).loc main_arg4) (ix1 o : S256.Idx)
  ow := fun r a => m ((c : Thread nD τ).loc main_arg5) (ix4 r a 0 0 : S3x256x1x1.Idx)
  ob := fun r => m ((c : Thread nD τ).loc main_arg6) (ix1 r : S3.Idx)
  dw := fun r a => m ((c : Thread nD τ).loc main_arg7) (ix4 r a 0 0 : S12x256x1x1.Idx)
  db := fun r => m ((c : Thread nD τ).loc main_arg8) (ix1 r : S12.Idx)

/-- The maps of a memory. -/
def map0 (n : Fin 2) (a : Fin 256) (y x : Fin 64) : EReal := m ((c : Thread nD τ).loc main_arg0) (ix4 n a y x : S2x256x64x64.Idx)
@[inherit_doc map0] def map1 (n : Fin 2) (a : Fin 256) (y x : Fin 32) : EReal := m ((c : Thread nD τ).loc main_arg1) (ix4 n a y x : S2x256x32x32.Idx)
@[inherit_doc map0] def map2 (n : Fin 2) (a : Fin 256) (y x : Fin 16) : EReal := m ((c : Thread nD τ).loc main_arg2) (ix4 n a y x : S2x256x16x16.Idx)

/-- The weights' buffers, and the stretches and calls that leave them alone. -/
def weightRefs : List (Ref sig .tc) := [main_v27, main_v28, main_v29, main_v30, main_v31, main_v32]
/-- They hold the same where the first call starts. -/
theorem carry3 (r : Ref sig .tc) (h : r ∈ weightRefs) : W3 m ρ c (Proc.devRef .tc r) = W1 m ρ c (Proc.devRef .tc r) :=
  (W3_of m ρ c r ((by decide : ∀ r ∈ weightRefs, r ∉ hostOps0_2_W) r h)).trans
    (W2_of m ρ c r ((by decide : ∀ r ∈ weightRefs, r ∉ hostOps0_1_W) r h))
/-- And where the second call starts. -/
theorem carry7 (r : Ref sig .tc) (h : r ∈ weightRefs) : W7 m ρ c (Proc.devRef .tc r) = W1 m ρ c (Proc.devRef .tc r) :=
  (W7_of m ρ c r ((by decide : ∀ r ∈ weightRefs, r ∉ hostOps1_2_W) r h)).trans <|
  (W6_of m ρ c r ((by decide : ∀ r ∈ weightRefs, r ∉ hostOps1_1_W) r h)).trans <|
  (W5_of m ρ c r ((by decide : ∀ r ∈ weightRefs, r ∉ hostOps1_W) r h)).trans <|
  (W4_of m ρ c r ((by decide : ∀ r ∈ weightRefs, ∀ w : Fin cfg0.W, Pipeline.arrRef spec0 w = r → (cfg0.win w).isOut = false) r h)).trans
    (carry3 m ρ c r h)
/-- And where the third call starts. -/
theorem carry11 (r : Ref sig .tc) (h : r ∈ weightRefs) : W11 m ρ c (Proc.devRef .tc r) = W1 m ρ c (Proc.devRef .tc r) :=
  (W11_of m ρ c r ((by decide : ∀ r ∈ weightRefs, r ∉ hostOps2_2_W) r h)).trans <|
  (W10_of m ρ c r ((by decide : ∀ r ∈ weightRefs, r ∉ hostOps2_1_W) r h)).trans <|
  (W9_of m ρ c r ((by decide : ∀ r ∈ weightRefs, r ∉ hostOps2_W) r h)).trans <|
  (W8_of m ρ c r ((by decide : ∀ r ∈ weightRefs, ∀ w : Fin cfg1.W, Pipeline.arrRef spec1 w = r → (cfg1.win w).isOut = false) r h)).trans
    (carry7 m ρ c r h)

/-- What holds the weights after the first stretch holds them where the buffers are as they were then. -/
theorem holds_of (V : (c : Dev nD) → (b : Ref sig .tc) → Buf (Elt Ideal) ((c : Thread nD τ).loc b))
    (h : ∀ r ∈ weightRefs, V c r = W1 m ρ c (Proc.devRef .tc r)) : HoldsWeights V c (weights m c) where
  w := fun ky kx o a => by rw [h main_v27 (by decide)]; exact slabs_at _ ky kx o a
  b := fun o => by rw [h main_v28 (by decide)]; exact bias_at _ o
  ow := fun r a => by rw [h main_v29 (by decide)]; exact scoreW_at _ r a
  ob := fun r => by rw [h main_v30 (by decide)]; exact scoreB_at _ r
  dw := fun r a => by rw [h main_v31 (by decide)]; exact deltaW_at _ r a
  db := fun r => by rw [h main_v32 (by decide)]; exact deltaB_at _ r

/-- The first level's array. -/
theorem array0 (n : Fin 2) (hL : ∀ p, ⊥ < (weights m c).score (map0 m c n) p) (r : Fin 100) (k : Fin 4) :
    (W4 m ρ c (Proc.devRef .tc main_v35) : S2x100x4.Idx → EReal) (ix3 n r k) = (weights m c).level anchors8 (by norm_num) (map0 m c n) r k := by
  have e := W4_arr m ρ c 7
  refine (congrFun e (ix3 n r k : S2x100x4.Idx)).trans ?_
  refine level0 (holds_of m ρ c _ (carry3 m ρ c)) n (map0 m c n) (fun a i j hp => ?_) hL r k
  refine (map0_at (W1 m ρ c) (const_eq _) n a i j hp).trans ?_
  rw [W1_args m ρ c main_arg0 (by decide)]
  rfl

/-- The second level's array. -/
theorem array1 (n : Fin 2) (hL : ∀ p, ⊥ < (weights m c).score (map1 m c n) p) (r : Fin 100) (k : Fin 4) :
    (W8 m ρ c (Proc.devRef .tc main_v38) : S2x100x4.Idx → EReal) (ix3 n r k) = (weights m c).level anchors16 (by norm_num) (map1 m c n) r k := by
  have e := W8_arr m ρ c 7
  refine (congrFun e (ix3 n r k : S2x100x4.Idx)).trans ?_
  refine level1 (holds_of m ρ c _ (carry7 m ρ c)) n (map1 m c n) (fun a i j hp => ?_) hL r k
  refine (map1_at (W5 m ρ c) (by after_reads_simp) n a i j hp).trans ?_
  rw [W5_args m ρ c main_arg1 (by decide)]
  rfl

/-- The third level's array. -/
theorem array2 (n : Fin 2) (hL : ∀ p, ⊥ < (weights m c).score (map2 m c n) p) (r : Fin 100) (k : Fin 4) :
    (W12 m ρ c (Proc.devRef .tc main_v41) : S2x100x4.Idx → EReal) (ix3 n r k) = (weights m c).level anchors32 (by norm_num) (map2 m c n) r k := by
  have e := W12_arr m ρ c 7
  refine (congrFun e (ix3 n r k : S2x100x4.Idx)).trans ?_
  refine level2 (holds_of m ρ c _ (carry11 m ρ c)) n (map2 m c n) (fun a i j hp => ?_) hL r k
  refine (map2_at (W9 m ρ c) (by after_reads_simp) n a i j hp).trans ?_
  rw [W9_args m ρ c main_arg2 (by decide)]
  rfl

/-- Three arrays of a hundred rows stacked along the rows, at a row of one of them. -/
theorem stacked_at (x y z : S2x100x4.Idx → EReal) (h) (n : Fin 2) (l : Fin 3) (r : Fin 100) (k : Fin 4) :
    concatenate S2x300x4 1 [⟨S2x100x4, x⟩, ⟨S2x100x4, y⟩, ⟨S2x100x4, z⟩] h (ix3 n ⟨100 * l.val + r.val, by omega⟩ k)
      = (![x, y, z] : Fin 3 → S2x100x4.Idx → EReal) l (ix3 n r k) := by
  have hi : ∀ l : Fin 3, ∀ b : Fin 3, b ≠ 1 → ((ix3 n r k : S2x100x4.Idx) b).val = ((ix3 n ⟨100 * l.val + r.val, by omega⟩ k : S2x300x4.Idx) b).val := by
    intro l b hb
    fin_cases b
    · rfl
    · exact absurd rfl hb
    · rfl
  fin_cases l
  · exact concatenate_apply_piece (1 : Fin S2x300x4.rank) [⟨S2x100x4, x⟩, ⟨S2x100x4, y⟩, ⟨S2x100x4, z⟩] h _ 0 (by simp) S2x100x4 x rfl rfl 0 rfl
      (ix3 n r k) (hi 0) (by show 0 + r.val = 100 * 0 + r.val; omega)
  · exact concatenate_apply_piece (1 : Fin S2x300x4.rank) [⟨S2x100x4, x⟩, ⟨S2x100x4, y⟩, ⟨S2x100x4, z⟩] h _ 1 (by simp) S2x100x4 y rfl rfl 100 rfl
      (ix3 n r k) (hi 1) (by show 100 + r.val = 100 * 1 + r.val; omega)
  · exact concatenate_apply_piece (1 : Fin S2x300x4.rank) [⟨S2x100x4, x⟩, ⟨S2x100x4, y⟩, ⟨S2x100x4, z⟩] h _ 2 (by simp) S2x100x4 z rfl rfl 200 rfl
      (ix3 n r k) (hi 2) (by show 200 + r.val = 100 * 2 + r.val; omega)

/-- The result at an index: the levels' proposals one after the other. -/
theorem result_at (n : Fin 2)
    (h0 : ∀ p, ⊥ < (weights m c).score (map0 m c n) p) (h1 : ∀ p, ⊥ < (weights m c).score (map1 m c n) p)
    (h2 : ∀ p, ⊥ < (weights m c).score (map2 m c n) p) (l : Fin 3) (r : Fin 100) (k : Fin 4) :
    (W13 m ρ c (Proc.devRef .tc main_v42) : S2x300x4.Idx → EReal) (ix3 n ⟨100 * l.val + r.val, by omega⟩ k)
      = (![(weights m c).level anchors8 (by norm_num) (map0 m c n), (weights m c).level anchors16 (by norm_num) (map1 m c n),
          (weights m c).level anchors32 (by norm_num) (map2 m c n)] : Fin 3 → Fin 100 → Fin 4 → EReal) l r k := by
  have e0 : W12 m ρ c (Proc.devRef .tc main_v35) = W4 m ρ c (Proc.devRef .tc main_v35) :=
    (W12_of_ne m ρ c main_v35 (by decide)).trans <| (W11_of m ρ c main_v35 (by decide)).trans <| (W10_of m ρ c main_v35 (by decide)).trans <|
    (W9_of m ρ c main_v35 (by decide)).trans <| (W8_of_ne m ρ c main_v35 (by decide)).trans <| (W7_of m ρ c main_v35 (by decide)).trans <|
    (W6_of m ρ c main_v35 (by decide)).trans (W5_of m ρ c main_v35 (by decide))
  have e1 : W12 m ρ c (Proc.devRef .tc main_v38) = W8 m ρ c (Proc.devRef .tc main_v38) :=
    (W12_of_ne m ρ c main_v38 (by decide)).trans <| (W11_of m ρ c main_v38 (by decide)).trans <| (W10_of m ρ c main_v38 (by decide)).trans
    (W9_of m ρ c main_v38 (by decide))
  have e : W13 m ρ c (Proc.devRef .tc main_v42) = concatenate S2x300x4 1 [⟨S2x100x4, (W12 m ρ c (Proc.devRef .tc main_v35) : S2x100x4.Idx → EReal)⟩,
      ⟨S2x100x4, (W12 m ρ c (Proc.devRef .tc main_v38) : S2x100x4.Idx → EReal)⟩, ⟨S2x100x4, (W12 m ρ c (Proc.devRef .tc main_v41) : S2x100x4.Idx → EReal)⟩]
      concatenates_S2x100x4_S2x100x4_S2x100x4_S2x300x4_d1 := by
    show StableHlo.after hostOps3 (W12 m ρ c) (Proc.devRef .tc main_v42) = _
    generalize W12 m ρ c = V
    after_reads_simp
    rfl
  rw [e, e0, e1]
  refine (stacked_at _ _ _ _ n l r k).trans ?_
  fin_cases l
  · exact array0 m ρ c n h0 r k
  · exact array1 m ρ c n h1 r k
  · exact array2 m ρ c n h2 r k

end Cert.KernelIdeal

end
-- ==== Proof.RefStages.lean ====
/- The buffers after each of the reference's stretches of host operations before its loop. -/
module

public import proofs.«01_k».proof.Proof.RefRun

@[expose] public section

noncomputable section

namespace Cert.ReferenceIdeal

open Idealize.ShloMosaic Idealize.ShloMosaic.StableHlo Idealize.ShloMosaic.TcCoe Cert.ReferenceIdeal.Gen Cert.ReferenceIdeal.Value

/-- The stretches before the loop, in order. -/
def stretch : ℕ → List (HloOp τ sig (Elt Ideal))
  | 0 => hostOps0
  | 1 => hostOps0_1
  | 2 => hostOps0_2
  | 3 => hostOps0_3
  | 4 => hostOps0_4
  | 5 => hostOps0_5
  | 6 => hostOps0_6
  | 7 => hostOps0_7
  | 8 => hostOps0_8
  | 9 => hostOps0_9
  | 10 => hostOps0_10
  | 11 => hostOps0_11
  | 12 => hostOps0_12
  | 13 => hostOps0_13
  | 14 => hostOps0_14
  | 15 => hostOps0_15
  | 16 => hostOps0_16
  | 17 => hostOps0_17
  | 18 => hostOps0_18
  | 19 => hostOps0_19
  | 20 => hostOps0_20
  | 21 => hostOps0_21
  | 22 => hostOps0_22
  | 23 => hostOps0_23
  | 24 => hostOps0_24
  | 25 => hostOps0_25
  | 26 => hostOps0_26
  | 27 => hostOps0_27
  | _ => []

/-- What each of them writes. -/
def written : ℕ → List (Ref sig .tc)
  | 0 => hostOps0_W
  | 1 => hostOps0_1_W
  | 2 => hostOps0_2_W
  | 3 => hostOps0_3_W
  | 4 => hostOps0_4_W
  | 5 => hostOps0_5_W
  | 6 => hostOps0_6_W
  | 7 => hostOps0_7_W
  | 8 => hostOps0_8_W
  | 9 => hostOps0_9_W
  | 10 => hostOps0_10_W
  | 11 => hostOps0_11_W
  | 12 => hostOps0_12_W
  | 13 => hostOps0_13_W
  | 14 => hostOps0_14_W
  | 15 => hostOps0_15_W
  | 16 => hostOps0_16_W
  | 17 => hostOps0_17_W
  | 18 => hostOps0_18_W
  | 19 => hostOps0_19_W
  | 20 => hostOps0_20_W
  | 21 => hostOps0_21_W
  | 22 => hostOps0_22_W
  | 23 => hostOps0_23_W
  | 24 => hostOps0_24_W
  | 25 => hostOps0_25_W
  | 26 => hostOps0_26_W
  | 27 => hostOps0_27_W
  | _ => []

/-- It writes nothing else. -/
theorem stretch_writes : ∀ k : ℕ, (stretch k).Forall fun op => op.writes ⊆ ((written k).map (Proc.devRef (τ := τ) .tc)).toFinset
  | 0 => hostOps0_writes
  | 1 => hostOps0_1_writes
  | 2 => hostOps0_2_writes
  | 3 => hostOps0_3_writes
  | 4 => hostOps0_4_writes
  | 5 => hostOps0_5_writes
  | 6 => hostOps0_6_writes
  | 7 => hostOps0_7_writes
  | 8 => hostOps0_8_writes
  | 9 => hostOps0_9_writes
  | 10 => hostOps0_10_writes
  | 11 => hostOps0_11_writes
  | 12 => hostOps0_12_writes
  | 13 => hostOps0_13_writes
  | 14 => hostOps0_14_writes
  | 15 => hostOps0_15_writes
  | 16 => hostOps0_16_writes
  | 17 => hostOps0_17_writes
  | 18 => hostOps0_18_writes
  | 19 => hostOps0_19_writes
  | 20 => hostOps0_20_writes
  | 21 => hostOps0_21_writes
  | 22 => hostOps0_22_writes
  | 23 => hostOps0_23_writes
  | 24 => hostOps0_24_writes
  | 25 => hostOps0_25_writes
  | 26 => hostOps0_26_writes
  | 27 => hostOps0_27_writes
  | _ + 28 => trivial

variable (V : Valuation τ sig (Elt Ideal))

/-- The buffers after the first `k` stretches. -/
def stage : ℕ → Valuation τ sig (Elt Ideal)
  | 0 => V
  | k + 1 => after (stretch k) (stage k)

/-- A buffer that the stretches from the `j`-th on don't write stays as it was before them. -/
theorem stage_keep (r : Ref sig .tc) (j : ℕ) : ∀ d : ℕ, (∀ i, i < d → r ∉ written (j + i)) →
    stage V (j + d) (Proc.devRef .tc r) = stage V j (Proc.devRef .tc r)
  | 0, _ => rfl
  | d + 1, h => (after_of_writes_sub _ _ (stretch_writes (j + d)) (h d (Nat.lt_succ_self d))).trans
      (stage_keep r j d fun i hi => h i (Nat.lt_succ_of_lt hi))

/-- The loop finds the buffers of the last stage. -/
theorem stage_entry (m : (ℓ : Loc nD τ sig) → Buf (Elt Ideal) ℓ) (c : Dev nD) : entryContents preI m c = stage (launchContents m c) 28 := by
  simp only [entryContents, afterL_cons, afterL_nil]
  rfl

end Cert.ReferenceIdeal

end
-- ==== Proof.RefConv.lean ====
/- The reference's convolutions of one level at an index, for a map of any side. -/
module

public import proofs.«01_k».proof.Proof.Maps
public import proofs.«01_k».proof.Proof.Whole

@[expose] public section

noncomputable section

namespace Cert.Ref

open Idealize.ShloMosaic Cert.Spec Cert.Level

/-- Two images' maps of `n` channels, and a map's values channels last. -/
abbrev Maps (n W : ℕ) : Shape := ⟨4, ![2, n, W, W]⟩
/-- Maps with their channels last. -/
abbrev Last (n W : ℕ) : Shape := ⟨4, ![2, W, W, n]⟩

variable {W : ℕ}

/-- A product over the channels. -/
def IsDot {m n : ℕ} (d : DotDims (Maps m W) (Mat n m) (Last n W)) : Prop :=
  ∀ (l : FVec Ideal (Maps m W) .f32) (r : FVec Ideal (Mat n m) .f32) (i : Fin 2) (y x : Fin W) (o : Fin n),
    Host.dotGeneral d none l r (ix4 i y x o) = ∑ c : Fin m, l (ix4 i c y x) * r (ix2 o c)

/-- Channels last back to channels first. -/
theorem first_at {n : ℕ} {α : Type} (v : (Last n W).Idx → α) (h : (Last n W).Transposes [0, 3, 1, 2] (Maps n W)) (i : Fin 2) (o : Fin n) (y x : Fin W) :
    transpose (Maps n W) [0, 3, 1, 2] v h (ix4 i o y x) = v (ix4 i y x o) := by
  refine transpose_apply _ _ _ _ _ fun b => ?_
  fin_cases b <;> rfl

/-- Channels first to channels last. -/
theorem last_at {n : ℕ} {α : Type} (v : (Maps n W).Idx → α) (h : (Maps n W).Transposes [0, 2, 3, 1] (Last n W)) (i : Fin 2) (o : Fin n) (y x : Fin W) :
    transpose (Last n W) [0, 2, 3, 1] v h (ix4 i y x o) = v (ix4 i o y x) := by
  refine transpose_apply _ _ _ _ _ fun b => ?_
  fin_cases b <;> rfl

/-- A bias spread over the maps. -/
theorem spread_at {n : ℕ} {α : Type} (v : (⟨1, ![n]⟩ : Shape).Idx → α) (h1 : (⟨1, ![n]⟩ : Shape).BroadcastsInDim ⟨4, ![1, n, 1, 1]⟩ ![1])
    (h2 : (⟨4, ![1, n, 1, 1]⟩ : Shape).BroadcastsInDim (Maps n W) ![0, 1, 2, 3]) (i : Fin 2) (o : Fin n) (y x : Fin W) :
    broadcastInDim (Maps n W) ![0, 1, 2, 3] h2 (broadcastInDim ⟨4, ![1, n, 1, 1]⟩ ![1] h1 v) (ix4 i o y x) = v (ix1 o) := by
  refine (broadcastInDim_apply _ _ _ _ (ix4 0 o 0 0) fun a => ?_).trans (broadcastInDim_apply _ _ _ _ _ fun a => ?_)
  · fin_cases a
    · rfl
    · show o.val = if n = 1 then 0 else o.val
      have := o.isLt
      split <;> omega
    · rfl
    · rfl
  · fin_cases a
    show o.val = if n = 1 then 0 else o.val
    have := o.isLt
    split <;> omega

/-- One of the nine windows' products. -/
theorem window_at (d : DotDims (Maps 256 W) (Mat 256 256) (Last 256 W)) (hd : IsDot d) (P : FVec Ideal ⟨4, ![2, 256, W + 2, W + 2]⟩ .f32)
    (w : FVec Ideal ⟨4, ![256, 256, 3, 3]⟩ .f32) (xp : Fin 256 → ℕ → ℕ → EReal) (i : Fin 2)
    (hP : ∀ c (y x : Fin (W + 2)), P (ix4 i c y x) = xp c y.val x.val) (ky kx : Fin 3)
    (h1 : (⟨4, ![256, 256, 3, 3]⟩ : Shape).Slices ![0, 0, ky.val, kx.val] ⟨4, ![256, 256, 1, 1]⟩)
    (h2 : (⟨4, ![256, 256, 1, 1]⟩ : Shape).ShapeCasts (Mat 256 256)) (h3 : (⟨4, ![2, 256, W + 2, W + 2]⟩ : Shape).Slices ![0, 0, ky.val, kx.val] (Maps 256 W))
    (h4 : (Last 256 W).Transposes [0, 3, 1, 2] (Maps 256 W)) (o : Fin 256) (y x : Fin W) :
    transpose (Maps 256 W) [0, 3, 1, 2] (Host.dotGeneral (F := Ideal) d none (extractStridedSlice (Maps 256 W) ![0, 0, ky.val, kx.val] P h3)
        (shapeCast (Mat 256 256) (extractStridedSlice ⟨4, ![256, 256, 1, 1]⟩ ![0, 0, ky.val, kx.val] w h1) h2)) h4 (ix4 i o y x)
      = part (fun o c ky kx => w (ix4 o c ky kx)) xp ky kx o y.val x.val := by
  rw [first_at, hd]
  unfold part
  refine Finset.sum_congr rfl fun c _ => ?_
  have e1 : extractStridedSlice (Maps 256 W) ![0, 0, ky.val, kx.val] P h3 (ix4 i c y x) = P (ix4 i c ⟨y.val + ky.val, by omega⟩ ⟨x.val + kx.val, by omega⟩) := by
    refine extractStridedSlice_apply _ _ _ _ _ fun a => ?_
    fin_cases a
    · exact (Nat.zero_add _).symm
    · exact (Nat.zero_add _).symm
    · exact Nat.add_comm _ _
    · exact Nat.add_comm _ _
  have e2 : shapeCast (Mat 256 256) (extractStridedSlice ⟨4, ![256, 256, 1, 1]⟩ ![0, 0, ky.val, kx.val] w h1) h2 (ix2 o c) = w (ix4 o c ky kx) := by
    unfold shapeCast
    rw [Shape.reshapeEquiv_eq_of_rowMajor h2 (y := ix4 o c 0 0) (by
      rw [Shape.rowMajor_val_four, Shape.rowMajor_val_two]
      show ((o.val * 256 + c.val) * 1 + 0) * 1 + 0 = o.val * 256 + c.val
      omega)]
    refine extractStridedSlice_apply _ _ _ _ _ fun a => ?_
    fin_cases a
    · exact (Nat.zero_add _).symm
    · exact (Nat.zero_add _).symm
    · rfl
    · rfl
  rw [e1, e2, hP, mul_comm]

/-- A head: a product over the channels of a hidden map plus a bias. -/
theorem head_at {n : ℕ} (d : DotDims (Maps 256 W) (Mat n 256) (Last n W)) (hd : IsDot d) (H : FVec Ideal (Maps 256 W) .f32)
    (w : FVec Ideal ⟨4, ![n, 256, 1, 1]⟩ .f32) (b : FVec Ideal ⟨1, ![n]⟩ .f32) (h : Fin 256 → ℕ → ℕ → EReal) (i : Fin 2)
    (hH : ∀ c (y x : Fin W), H (ix4 i c y x) = h c y.val x.val) (h2 : (⟨4, ![n, 256, 1, 1]⟩ : Shape).ShapeCasts (Mat n 256))
    (h4 : (Last n W).Transposes [0, 3, 1, 2] (Maps n W)) (h5 : (⟨1, ![n]⟩ : Shape).BroadcastsInDim ⟨4, ![1, n, 1, 1]⟩ ![1])
    (h6 : (⟨4, ![1, n, 1, 1]⟩ : Shape).BroadcastsInDim (Maps n W) ![0, 1, 2, 3]) (o : Fin n) (y x : Fin W) :
    addf (transpose (Maps n W) [0, 3, 1, 2] (Host.dotGeneral (F := Ideal) d none H (shapeCast (Mat n 256) w h2)) h4)
        (broadcastInDim (Maps n W) ![0, 1, 2, 3] h6 (broadcastInDim ⟨4, ![1, n, 1, 1]⟩ ![1] h5 b)) (ix4 i o y x)
      = head (fun r c => w (ix4 r c 0 0)) (fun r => b (ix1 r)) h o y.val x.val := by
  have e : addf (transpose (Maps n W) [0, 3, 1, 2] (Host.dotGeneral (F := Ideal) d none H (shapeCast (Mat n 256) w h2)) h4)
        (broadcastInDim (Maps n W) ![0, 1, 2, 3] h6 (broadcastInDim ⟨4, ![1, n, 1, 1]⟩ ![1] h5 b)) (ix4 i o y x)
      = (transpose (Maps n W) [0, 3, 1, 2] (Host.dotGeneral (F := Ideal) d none H (shapeCast (Mat n 256) w h2)) h4 (ix4 i o y x)
        + broadcastInDim (Maps n W) ![0, 1, 2, 3] h6 (broadcastInDim ⟨4, ![1, n, 1, 1]⟩ ![1] h5 b) (ix4 i o y x) : EReal) := rfl
  rw [e, first_at, hd, spread_at]
  unfold head
  congr 1
  refine Finset.sum_congr rfl fun c _ => ?_
  have e2 : shapeCast (Mat n 256) w h2 (ix2 o c) = w (ix4 o c 0 0) := by
    unfold shapeCast
    refine congrArg w (Shape.reshapeEquiv_eq_of_rowMajor h2 ?_)
    rw [Shape.rowMajor_val_four, Shape.rowMajor_val_two]
    show ((o.val * 256 + c.val) * 1 + 0) * 1 + 0 = o.val * 256 + c.val
    omega
  rw [e2, hH, mul_comm]

/-- The scores in a row: by rows, columns, anchors. -/
theorem row_at {α : Type} {N : ℕ} (hN : N = 3 * (W * W)) (v : (Maps 3 W).Idx → α) (h1 : (Maps 3 W).Transposes [0, 2, 3, 1] (Last 3 W))
    (h2 : (Last 3 W).ShapeCasts ⟨2, ![2, N]⟩) (i : Fin 2) (p : Fin N) (hy : p.val / 3 / W < W) (hx : p.val / 3 % W < W) :
    shapeCast ⟨2, ![2, N]⟩ (transpose (Last 3 W) [0, 2, 3, 1] v h1) h2 (ix2 i p)
      = v (ix4 i ⟨p.val % 3, Nat.mod_lt _ (by decide)⟩ ⟨p.val / 3 / W, hy⟩ ⟨p.val / 3 % W, hx⟩) := by
  unfold shapeCast
  rw [← last_at v h1]
  refine congrArg _ (Shape.reshapeEquiv_eq_of_rowMajor h2 ?_)
  rw [Shape.rowMajor_val_four, Shape.rowMajor_val_two]
  show ((i.val * W + p.val / 3 / W) * W + p.val / 3 % W) * 3 + p.val % 3 = i.val * N + p.val
  have e1 := Nat.div_add_mod (p.val / 3) W
  have e2 := Nat.div_add_mod p.val 3
  subst hN
  calc ((i.val * W + p.val / 3 / W) * W + p.val / 3 % W) * 3 + p.val % 3
      = i.val * (3 * (W * W)) + (3 * (W * (p.val / 3 / W) + p.val / 3 % W) + p.val % 3) := by ring
    _ = _ := by rw [e1, e2]

/-- The offsets by anchors: each anchor's four. -/
theorem offsets_at {α : Type} {N : ℕ} (hN : N = 3 * (W * W)) (v : (Maps 12 W).Idx → α) (h0 : (Maps 12 W).ShapeCasts ⟨5, ![2, 3, 4, W, W]⟩)
    (h1 : (⟨5, ![2, 3, 4, W, W]⟩ : Shape).Transposes [0, 3, 4, 1, 2] ⟨5, ![2, W, W, 3, 4]⟩)
    (h2 : (⟨5, ![2, W, W, 3, 4]⟩ : Shape).ShapeCasts ⟨3, ![2, N, 4]⟩) (i : Fin 2) (p : Fin N) (k : Fin 4) (hy : p.val / 3 / W < W) (hx : p.val / 3 % W < W) :
    shapeCast ⟨3, ![2, N, 4]⟩ (transpose ⟨5, ![2, W, W, 3, 4]⟩ [0, 3, 4, 1, 2] (shapeCast ⟨5, ![2, 3, 4, W, W]⟩ v h0) h1) h2 (ix3 i p k)
      = v (ix4 i (offRow p.val k) ⟨p.val / 3 / W, hy⟩ ⟨p.val / 3 % W, hx⟩) := by
  have ha : p.val % 3 < 3 := Nat.mod_lt _ (by decide)
  have e1 := Nat.div_add_mod (p.val / 3) W
  have e2 := Nat.div_add_mod p.val 3
  have eA : Shape.reshapeEquiv h2 (ix3 i p k) = ix5 i ⟨p.val / 3 / W, hy⟩ ⟨p.val / 3 % W, hx⟩ ⟨p.val % 3, ha⟩ k := by
    refine Shape.reshapeEquiv_eq_of_rowMajor h2 ?_
    rw [Shape.rowMajor_val_five, Shape.rowMajor_val_three]
    show (((i.val * W + p.val / 3 / W) * W + p.val / 3 % W) * 3 + p.val % 3) * 4 + k.val = (i.val * N + p.val) * 4 + k.val
    subst hN
    calc (((i.val * W + p.val / 3 / W) * W + p.val / 3 % W) * 3 + p.val % 3) * 4 + k.val
        = (i.val * (3 * (W * W)) + (3 * (W * (p.val / 3 / W) + p.val / 3 % W) + p.val % 3)) * 4 + k.val := by ring
      _ = _ := by rw [e1, e2]
  show transpose ⟨5, ![2, W, W, 3, 4]⟩ [0, 3, 4, 1, 2] (shapeCast ⟨5, ![2, 3, 4, W, W]⟩ v h0) h1 (Shape.reshapeEquiv h2 (ix3 i p k)) = _
  rw [eA]
  refine (transpose_apply _ _ h1 _ (ix5 i ⟨p.val % 3, ha⟩ k ⟨p.val / 3 / W, hy⟩ ⟨p.val / 3 % W, hx⟩) fun b => by fin_cases b <;> rfl).trans ?_
  unfold shapeCast
  refine congrArg v (Shape.reshapeEquiv_eq_of_rowMajor h0 ?_)
  rw [Shape.rowMajor_val_four, Shape.rowMajor_val_five]
  show ((i.val * 12 + (4 * (p.val % 3) + k.val)) * W + p.val / 3 / W) * W + p.val / 3 % W
    = (((i.val * 3 + p.val % 3) * 4 + k.val) * W + p.val / 3 / W) * W + p.val / 3 % W
  ring

/-! ## A level's layers -/

/-- What lets a level of side `W` with `N` anchors be written: its three products, and that the shapes of its layers fit. -/
structure Layer (W N : ℕ) where
  dot : DotDims (Maps 256 W) (Mat 256 256) (Last 256 W)
  dotS : DotDims (Maps 256 W) (Mat 3 256) (Last 3 W)
  dotD : DotDims (Maps 256 W) (Mat 12 256) (Last 12 W)
  isDot : IsDot dot
  isDotS : IsDot dotS
  isDotD : IsDot dotD
  anchors : N = 3 * (W * W)
  pads : (Maps 256 W).Pads ![0, 0, 1, 1] ![0, 0, 1, 1] ![0, 0, 0, 0] ⟨4, ![2, 256, W + 2, W + 2]⟩
  windows : ∀ ky kx : Fin 3, (⟨4, ![2, 256, W + 2, W + 2]⟩ : Shape).Slices ![0, 0, ky.val, kx.val] (Maps 256 W)
  first : (Last 256 W).Transposes [0, 3, 1, 2] (Maps 256 W)
  firstS : (Last 3 W).Transposes [0, 3, 1, 2] (Maps 3 W)
  firstD : (Last 12 W).Transposes [0, 3, 1, 2] (Maps 12 W)
  lastS : (Maps 3 W).Transposes [0, 2, 3, 1] (Last 3 W)
  spread : (⟨4, ![1, 256, 1, 1]⟩ : Shape).BroadcastsInDim (Maps 256 W) ![0, 1, 2, 3]
  spreadS : (⟨4, ![1, 3, 1, 1]⟩ : Shape).BroadcastsInDim (Maps 3 W) ![0, 1, 2, 3]
  spreadD : (⟨4, ![1, 12, 1, 1]⟩ : Shape).BroadcastsInDim (Maps 12 W) ![0, 1, 2, 3]
  zeros : (⟨0, ![]⟩ : Shape).BroadcastsInDim (Maps 256 W) ![]
  rowS : (Last 3 W).ShapeCasts ⟨2, ![2, N]⟩
  split : (Maps 12 W).ShapeCasts ⟨5, ![2, 3, 4, W, W]⟩
  turn : (⟨5, ![2, 3, 4, W, W]⟩ : Shape).Transposes [0, 3, 4, 1, 2] ⟨5, ![2, W, W, 3, 4]⟩
  rowD : (⟨5, ![2, W, W, 3, 4]⟩ : Shape).ShapeCasts ⟨3, ![2, N, 4]⟩

/-- The shapes of the weights' slices and of the biases, which no level changes. -/
theorem tapSlices : ∀ ky kx : Fin 3, (⟨4, ![256, 256, 3, 3]⟩ : Shape).Slices ![0, 0, ky.val, kx.val] ⟨4, ![256, 256, 1, 1]⟩ := by decide
/-- A tap of the weights as a matrix. -/
theorem tapCasts : (⟨4, ![256, 256, 1, 1]⟩ : Shape).ShapeCasts (Mat 256 256) := by decide
/-- The scores' weights as a matrix. -/
theorem castsS : (⟨4, ![3, 256, 1, 1]⟩ : Shape).ShapeCasts (Mat 3 256) := by decide
/-- The offsets' weights as a matrix. -/
theorem castsD : (⟨4, ![12, 256, 1, 1]⟩ : Shape).ShapeCasts (Mat 12 256) := by decide
/-- Biases along the channels. -/
theorem biases : (⟨1, ![256]⟩ : Shape).BroadcastsInDim ⟨4, ![1, 256, 1, 1]⟩ ![1] := by decide
/-- The scores' biases. -/
theorem biasesS : (⟨1, ![3]⟩ : Shape).BroadcastsInDim ⟨4, ![1, 3, 1, 1]⟩ ![1] := by decide
/-- The offsets' biases. -/
theorem biasesD : (⟨1, ![12]⟩ : Shape).BroadcastsInDim ⟨4, ![1, 12, 1, 1]⟩ ![1] := by decide
/-- A scalar has an element. -/
theorem scalar : 0 < (⟨0, ![]⟩ : Shape).numel := by decide

/-- The nine windows' sum, a bias and a cut at zero. -/
def relu9 {s : Shape} (t : Fin 3 → Fin 3 → FVec Ideal s .f32) (b z : FVec Ideal s .f32) : FVec Ideal s .f32 :=
  maximumf (addf (addf (addf (addf (addf (addf (addf (addf (addf (t 0 0) (t 0 1)) (t 0 2)) (t 1 0)) (t 1 1)) (t 1 2)) (t 2 0)) (t 2 1)) (t 2 2)) b) z

/-- That sum at an index. -/
theorem relu9_at {s : Shape} (t : Fin 3 → Fin 3 → FVec Ideal s .f32) (b z : FVec Ideal s .f32) (j : s.Idx) (p : Fin 3 → Fin 3 → EReal) (q : EReal)
    (hp : ∀ ky kx, t ky kx j = p ky kx) (hq : b j = q) (hz : z j = (0 : EReal)) :
    relu9 t b z j = (max ((((((((((p 0 0 + p 0 1) + p 0 2) + p 1 0) + p 1 1) + p 1 2) + p 2 0) + p 2 1) + p 2 2) + q)) 0 : EReal) := by
  have e : relu9 t b z j = (max ((((((((((t 0 0 j + t 0 1 j) + t 0 2 j) + t 1 0 j) + t 1 1 j) + t 1 2 j) + t 2 0 j) + t 2 1 j) + t 2 2 j) + b j)) (z j) : EReal) := rfl
  rw [e, hq, hz]
  simp only [hp]

variable {N : ℕ} (E : Layer W N)

/-- The hidden maps. -/
def hiddenMaps (x : FVec Ideal (Maps 256 W) .f32) (w : FVec Ideal ⟨4, ![256, 256, 3, 3]⟩ .f32) (b : FVec Ideal ⟨1, ![256]⟩ .f32) : FVec Ideal (Maps 256 W) .f32 :=
  relu9 (fun ky kx => transpose (Maps 256 W) [0, 3, 1, 2] (Host.dotGeneral (F := Ideal) E.dot none
      (extractStridedSlice (Maps 256 W) ![0, 0, ky.val, kx.val]
        (pad ⟨4, ![2, 256, W + 2, W + 2]⟩ ![0, 0, 1, 1] ![0, 0, 1, 1] ![0, 0, 0, 0] x (constant (F := Ideal) ⟨0, ![]⟩ .f32 0x00000000#32) E.pads scalar) (E.windows ky kx))
      (shapeCast (Mat 256 256) (extractStridedSlice ⟨4, ![256, 256, 1, 1]⟩ ![0, 0, ky.val, kx.val] w (tapSlices ky kx)) tapCasts)) E.first)
    (broadcastInDim (Maps 256 W) ![0, 1, 2, 3] E.spread (broadcastInDim ⟨4, ![1, 256, 1, 1]⟩ ![1] biases b))
    (broadcastInDim (Maps 256 W) ![] E.zeros (constant (F := Ideal) ⟨0, ![]⟩ .f32 0x00000000#32))

/-- The hidden maps at an index. -/
theorem hiddenMaps_at (x : FVec Ideal (Maps 256 W) .f32) (w : FVec Ideal ⟨4, ![256, 256, 3, 3]⟩ .f32) (b : FVec Ideal ⟨1, ![256]⟩ .f32) (i : Fin 2) (o : Fin 256) (y x' : Fin W) :
    hiddenMaps E x w b (ix4 i o y x')
      = hid (fun o c ky kx => w (ix4 o c ky kx)) (fun o => b (ix1 o)) (padded fun c y x' => x (ix4 i c y x')) o y.val x'.val := by
  have hz : ∀ j, (constant (F := Ideal) ⟨0, ![]⟩ .f32 0x00000000#32) j = (0 : EReal) := fun j => w32_zero
  have hw := fun ky kx => window_at E.dot E.isDot _ w (padded fun c y x' => x (ix4 i c y x')) i
    (fun c y x' => pad_at (H := 1) x _ E.pads scalar (hz _) i c y x') ky kx (tapSlices ky kx) tapCasts (E.windows ky kx) E.first o y x'
  exact relu9_at _ _ _ _ (fun ky kx => part _ _ ky kx o y.val x'.val) _ hw (spread_at b biases E.spread i o y x') (hz _)

/-- The scores. -/
def scoreRows (H : FVec Ideal (Maps 256 W) .f32) (w : FVec Ideal ⟨4, ![3, 256, 1, 1]⟩ .f32) (b : FVec Ideal ⟨1, ![3]⟩ .f32) : FVec Ideal ⟨2, ![2, N]⟩ .f32 :=
  shapeCast ⟨2, ![2, N]⟩ (transpose (Last 3 W) [0, 2, 3, 1] (addf (transpose (Maps 3 W) [0, 3, 1, 2]
      (Host.dotGeneral (F := Ideal) E.dotS none H (shapeCast (Mat 3 256) w castsS)) E.firstS)
    (broadcastInDim (Maps 3 W) ![0, 1, 2, 3] E.spreadS (broadcastInDim ⟨4, ![1, 3, 1, 1]⟩ ![1] biasesS b))) E.lastS) E.rowS

/-- The offsets. -/
def deltaRows (H : FVec Ideal (Maps 256 W) .f32) (w : FVec Ideal ⟨4, ![12, 256, 1, 1]⟩ .f32) (b : FVec Ideal ⟨1, ![12]⟩ .f32) : FVec Ideal ⟨3, ![2, N, 4]⟩ .f32 :=
  shapeCast ⟨3, ![2, N, 4]⟩ (transpose ⟨5, ![2, W, W, 3, 4]⟩ [0, 3, 4, 1, 2] (shapeCast ⟨5, ![2, 3, 4, W, W]⟩ (addf (transpose (Maps 12 W) [0, 3, 1, 2]
      (Host.dotGeneral (F := Ideal) E.dotD none H (shapeCast (Mat 12 256) w castsD)) E.firstD)
    (broadcastInDim (Maps 12 W) ![0, 1, 2, 3] E.spreadD (broadcastInDim ⟨4, ![1, 12, 1, 1]⟩ ![1] biasesD b))) E.split) E.turn) E.rowD

/-- An anchor's row and column. -/
theorem row_col (hN : N = 3 * (W * W)) (p : Fin N) : p.val / 3 / W < W ∧ p.val / 3 % W < W := by
  have hp : p.val / 3 < W * W := by have := p.isLt; omega
  have hW : 0 < W := Nat.pos_of_ne_zero fun h => by subst h; omega
  exact ⟨(Nat.div_lt_iff_lt_mul hW).2 hp, Nat.mod_lt _ hW⟩

/-- The scores at an index. -/
theorem scoreRows_at (H : FVec Ideal (Maps 256 W) .f32) (w : FVec Ideal ⟨4, ![3, 256, 1, 1]⟩ .f32) (b : FVec Ideal ⟨1, ![3]⟩ .f32) (h : Fin 256 → ℕ → ℕ → EReal)
    (i : Fin 2) (hH : ∀ c (y x : Fin W), H (ix4 i c y x) = h c y.val x.val) (p : Fin N) :
    scoreRows E H w b (ix2 i p) = scores W (head (fun r c => w (ix4 r c 0 0)) (fun r => b (ix1 r)) h) (p.cast E.anchors) := by
  obtain ⟨hy, hx⟩ := row_col E.anchors p
  refine (row_at E.anchors _ E.lastS E.rowS i p hy hx).trans ?_
  exact head_at E.dotS E.isDotS H w b h i hH castsS E.firstS biasesS E.spreadS _ ⟨_, hy⟩ ⟨_, hx⟩

/-- The offsets at an index. -/
theorem deltaRows_at (H : FVec Ideal (Maps 256 W) .f32) (w : FVec Ideal ⟨4, ![12, 256, 1, 1]⟩ .f32) (b : FVec Ideal ⟨1, ![12]⟩ .f32) (h : Fin 256 → ℕ → ℕ → EReal)
    (i : Fin 2) (hH : ∀ c (y x : Fin W), H (ix4 i c y x) = h c y.val x.val) (p : Fin N) (k : Fin 4) :
    deltaRows E H w b (ix3 i p k) = offset W (head (fun r c => w (ix4 r c 0 0)) (fun r => b (ix1 r)) h) p.val k := by
  obtain ⟨hy, hx⟩ := row_col E.anchors p
  refine (offsets_at E.anchors _ E.split E.turn E.rowD i p k hy hx).trans ?_
  exact head_at E.dotD E.isDotD H w b h i hH castsD E.firstD biasesD E.spreadD _ ⟨_, hy⟩ ⟨_, hx⟩

end Cert.Ref

end
-- ==== Proof.RefHidden.lean ====
/- The reference's hidden maps, scores and offsets at an index, level by level. -/
module

public import proofs.«01_k».proof.Proof.RefConv
public import proofs.«01_k».proof.Proof.Gen.ReferenceIdeal
public import proofs.«01_k».proof.Proof.Gen.ReferenceIdeal.Run

@[expose] public section

noncomputable section

namespace Cert.ReferenceIdeal

open Idealize.ShloMosaic Idealize.ShloMosaic.TcCoe Cert.ReferenceIdeal.Gen Cert.Level Cert.Spec Cert.Ref

/-- The level of side 64. -/
def layer0 : Layer 64 12288 where
  dot := dot_S2x256x64x64_S256x256_S2x64x64x256_1_1_023_0_n_n
  dotS := dot_S2x256x64x64_S3x256_S2x64x64x3_1_1_023_0_n_n
  dotD := dot_S2x256x64x64_S12x256_S2x64x64x12_1_1_023_0_n_n
  isDot := by intro l r i y x o; pointwise
  isDotS := by intro l r i y x o; pointwise
  isDotD := by intro l r i y x o; pointwise
  anchors := by norm_num
  pads := pads_S2x256x64x64_S2x256x66x66_000_000_110_110
  windows := by decide
  first := transposes_S2x64x64x256_S2x256x64x64_0_3_1_2
  firstS := transposes_S2x64x64x3_S2x3x64x64_0_3_1_2
  firstD := transposes_S2x64x64x12_S2x12x64x64_0_3_1_2
  lastS := transposes_S2x3x64x64_S2x64x64x3_0_2_3_1
  spread := bcast_S1x256x1x1_S2x256x64x64_0_1_2_3
  spreadS := bcast_S1x3x1x1_S2x3x64x64_0_1_2_3
  spreadD := bcast_S1x12x1x1_S2x12x64x64_0_1_2_3
  zeros := bcast_S_S2x256x64x64
  rowS := shapeCasts_S2x64x64x3_S2x12288
  split := shapeCasts_S2x12x64x64_S2x3x4x64x64
  turn := transposes_S2x3x4x64x64_S2x64x64x3x4_0_3_4_1_2
  rowD := shapeCasts_S2x64x64x3x4_S2x12288x4

/-- The level of side 32. -/
def layer1 : Layer 32 3072 where
  dot := dot_S2x256x32x32_S256x256_S2x32x32x256_1_1_023_0_n_n
  dotS := dot_S2x256x32x32_S3x256_S2x32x32x3_1_1_023_0_n_n
  dotD := dot_S2x256x32x32_S12x256_S2x32x32x12_1_1_023_0_n_n
  isDot := by intro l r i y x o; pointwise
  isDotS := by intro l r i y x o; pointwise
  isDotD := by intro l r i y x o; pointwise
  anchors := by norm_num
  pads := pads_S2x256x32x32_S2x256x34x34_000_000_110_110
  windows := by decide
  first := transposes_S2x32x32x256_S2x256x32x32_0_3_1_2
  firstS := transposes_S2x32x32x3_S2x3x32x32_0_3_1_2
  firstD := transposes_S2x32x32x12_S2x12x32x32_0_3_1_2
  lastS := transposes_S2x3x32x32_S2x32x32x3_0_2_3_1
  spread := bcast_S1x256x1x1_S2x256x32x32_0_1_2_3
  spreadS := bcast_S1x3x1x1_S2x3x32x32_0_1_2_3
  spreadD := bcast_S1x12x1x1_S2x12x32x32_0_1_2_3
  zeros := bcast_S_S2x256x32x32
  rowS := shapeCasts_S2x32x32x3_S2x3072
  split := shapeCasts_S2x12x32x32_S2x3x4x32x32
  turn := transposes_S2x3x4x32x32_S2x32x32x3x4_0_3_4_1_2
  rowD := shapeCasts_S2x32x32x3x4_S2x3072x4

/-- The level of side 16. -/
def layer2 : Layer 16 768 where
  dot := dot_S2x256x16x16_S256x256_S2x16x16x256_1_1_023_0_n_n
  dotS := dot_S2x256x16x16_S3x256_S2x16x16x3_1_1_023_0_n_n
  dotD := dot_S2x256x16x16_S12x256_S2x16x16x12_1_1_023_0_n_n
  isDot := by intro l r i y x o; pointwise
  isDotS := by intro l r i y x o; pointwise
  isDotD := by intro l r i y x o; pointwise
  anchors := by norm_num
  pads := pads_S2x256x16x16_S2x256x18x18_000_000_110_110
  windows := by decide
  first := transposes_S2x16x16x256_S2x256x16x16_0_3_1_2
  firstS := transposes_S2x16x16x3_S2x3x16x16_0_3_1_2
  firstD := transposes_S2x16x16x12_S2x12x16x16_0_3_1_2
  lastS := transposes_S2x3x16x16_S2x16x16x3_0_2_3_1
  spread := bcast_S1x256x1x1_S2x256x16x16_0_1_2_3
  spreadS := bcast_S1x3x1x1_S2x3x16x16_0_1_2_3
  spreadD := bcast_S1x12x1x1_S2x12x16x16_0_1_2_3
  zeros := bcast_S_S2x256x16x16
  rowS := shapeCasts_S2x16x16x3_S2x768
  split := shapeCasts_S2x12x16x16_S2x3x4x16x16
  turn := transposes_S2x3x4x16x16_S2x16x16x3x4_0_3_4_1_2
  rowD := shapeCasts_S2x16x16x3x4_S2x768x4

variable (V : Valuation τ sig (Elt Ideal))

/-- Level 0's hidden maps. -/
theorem hidden0_eq : StableHlo.after hostOps0 V (Proc.devRef .tc main_v0)
    = hiddenMaps layer0 (V (Proc.devRef .tc main_arg0)) (V (Proc.devRef .tc main_arg3)) (V (Proc.devRef .tc main_arg4)) := by
  after_reads_simp
  simp -implicitDefEqProofs only [StableHlo.TRef.toBuf, StableHlo.TRef.ofBuf, cast_cast, cast_eq]
  rfl

/-- Level 0's scores. -/
theorem scores0_eq : StableHlo.after hostOps0_1 V (Proc.devRef .tc main_v1)
    = scoreRows layer0 (V (Proc.devRef .tc main_v0)) (V (Proc.devRef .tc main_arg5)) (V (Proc.devRef .tc main_arg6)) := by
  after_reads_simp
  simp -implicitDefEqProofs only [StableHlo.TRef.toBuf, StableHlo.TRef.ofBuf, cast_cast, cast_eq]
  rfl

/-- Level 0's offsets. -/
theorem deltas0_eq : StableHlo.after hostOps0_4 V (Proc.devRef .tc main_v3)
    = deltaRows layer0 (V (Proc.devRef .tc main_v0)) (V (Proc.devRef .tc main_arg7)) (V (Proc.devRef .tc main_arg8)) := by
  after_reads_simp
  simp -implicitDefEqProofs only [StableHlo.TRef.toBuf, StableHlo.TRef.ofBuf, cast_cast, cast_eq]
  rfl

/-- Level 1's hidden maps. -/
theorem hidden1_eq : StableHlo.after hostOps0_8 V (Proc.devRef .tc main_v7)
    = hiddenMaps layer1 (V (Proc.devRef .tc main_arg1)) (V (Proc.devRef .tc main_arg3)) (V (Proc.devRef .tc main_arg4)) := by
  after_reads_simp
  simp -implicitDefEqProofs only [StableHlo.TRef.toBuf, StableHlo.TRef.ofBuf, cast_cast, cast_eq]
  rfl

/-- Level 1's scores. -/
theorem scores1_eq : StableHlo.after hostOps0_9 V (Proc.devRef .tc main_v8)
    = scoreRows layer1 (V (Proc.devRef .tc main_v7)) (V (Proc.devRef .tc main_arg5)) (V (Proc.devRef .tc main_arg6)) := by
  after_reads_simp
  simp -implicitDefEqProofs only [StableHlo.TRef.toBuf, StableHlo.TRef.ofBuf, cast_cast, cast_eq]
  rfl

/-- Level 1's offsets. -/
theorem deltas1_eq : StableHlo.after hostOps0_12 V (Proc.devRef .tc main_v10)
    = deltaRows layer1 (V (Proc.devRef .tc main_v7)) (V (Proc.devRef .tc main_arg7)) (V (Proc.devRef .tc main_arg8)) := by
  after_reads_simp
  simp -implicitDefEqProofs only [StableHlo.TRef.toBuf, StableHlo.TRef.ofBuf, cast_cast, cast_eq]
  rfl

/-- Level 2's hidden maps. -/
theorem hidden2_eq : StableHlo.after hostOps0_16 V (Proc.devRef .tc main_v14)
    = hiddenMaps layer2 (V (Proc.devRef .tc main_arg2)) (V (Proc.devRef .tc main_arg3)) (V (Proc.devRef .tc main_arg4)) := by
  after_reads_simp
  simp -implicitDefEqProofs only [StableHlo.TRef.toBuf, StableHlo.TRef.ofBuf, cast_cast, cast_eq]
  rfl

/-- Level 2's scores. -/
theorem scores2_eq : StableHlo.after hostOps0_17 V (Proc.devRef .tc main_v15)
    = scoreRows layer2 (V (Proc.devRef .tc main_v14)) (V (Proc.devRef .tc main_arg5)) (V (Proc.devRef .tc main_arg6)) := by
  after_reads_simp
  simp -implicitDefEqProofs only [StableHlo.TRef.toBuf, StableHlo.TRef.ofBuf, cast_cast, cast_eq]
  rfl

/-- Level 2's offsets. -/
theorem deltas2_eq : StableHlo.after hostOps0_20 V (Proc.devRef .tc main_v17)
    = deltaRows layer2 (V (Proc.devRef .tc main_v14)) (V (Proc.devRef .tc main_arg7)) (V (Proc.devRef .tc main_arg8)) := by
  after_reads_simp
  simp -implicitDefEqProofs only [StableHlo.TRef.toBuf, StableHlo.TRef.ofBuf, cast_cast, cast_eq]
  rfl

end Cert.ReferenceIdeal

end
-- ==== Proof.RefPick.lean ====
/- The reference's choice of a row's largest entries, and of the rows of an array at chosen positions. -/
module

public import proofs.«01_k».proof.Proof.Order
public import proofs.«01_k».proof.Proof.Level
public import Idealize.ShloMosaic.Lib.Pipeline.Value
public import Idealize.ShloMosaic.Lib.StableHlo.Predicate

@[expose] public section

noncomputable section

namespace Cert.Ref

open Idealize.ShloMosaic Cert.Order Cert.Level

/-- An array of `B` images' `C` rows of `K` entries. -/
abbrev Rows (B C K : ℕ) : Shape := ⟨3, ![B, C, K]⟩

section Top

variable {B N C : ℕ} (x : FVec Ideal (Mat B N) .f32) (h : (Mat B N).Slices (fun _ => 0) (Mat B C)) (hC : C ≤ N) (i : Fin B) (j : Fin C)

/-- The scores of image `i`. -/
abbrev rowOf (i : Fin B) : Fin N → EReal := fun p => x (ix2 i p)

/-- A row's index moved along the row. -/
theorem along_row (p q : Fin N) : (ix2 i p : (Mat B N).Idx).along 1 q = ix2 i q := by
  funext b
  fin_cases b <;> simp [Shape.Idx.along, Function.update] <;> rfl

/-- Where a slice from the origin reads. -/
theorem origin_at {α : Type} (v : (Mat B N).Idx → α) : extractStridedSlice (Mat B C) (fun _ => 0) v h (ix2 i j) = v (ix2 i (Fin.castLE hC j)) := by
  refine extractStridedSlice_apply _ _ _ _ _ fun b => ?_
  fin_cases b <;> simp <;> rfl

/-- The order in which the sort leaves a row is the order of its entries, the largest first. -/
theorem row_order (p : Fin N) (y : IVec (Mat B N) 32) :
    sortedFrom (n := N) (fun k k' => FloatOps.cmpfTotal (F := Ideal) (φ := .f32) .gt (x ((ix2 i p : (Mat B N).Idx).along 1 k)) (x ((ix2 i p : (Mat B N).Idx).along 1 k')) == 1#1)
      = best (rowOf x i) := by
  refine sortedFrom_gt _ _ fun a b => ?_
  rw [along_row, along_row]
  show (BitVec.ofBool (decide (x (ix2 i b) < x (ix2 i a))) == 1#1) = decide (x (ix2 i b) < x (ix2 i a))
  cases decide (x (ix2 i b) < x (ix2 i a)) <;> rfl

/-- The `j`-th largest score. -/
theorem top_value : (Host.topK (Mat B C) 1 (FloatOps.cmpfTotal (F := Ideal) (φ := .f32) .gt) x h).1 (ix2 i j) = x (ix2 i (best (rowOf x i) (Fin.castLE hC j))) := by
  refine (origin_at h hC i j (Host.sort2 (Mat B N) 1 (fun l r => FloatOps.cmpfTotal (F := Ideal) (φ := .f32) .gt l.1 r.1) x
    (fun i => if hd : 1 < (Mat B N).rank then iotaInDim (Mat B N) 32 ⟨1, hd⟩ i else 0#32)).1).trans ?_
  unfold Host.sort2
  rw [dif_pos (show 1 < (Mat B N).rank from Nat.one_lt_two)]
  refine congrArg x ((along_row i _ _).trans (congrArg (ix2 i) ?_))
  exact congrFun (row_order x i (Fin.castLE hC j) (fun _ => 0#32)) _

/-- Its position. -/
theorem top_index : (Host.topK (Mat B C) 1 (FloatOps.cmpfTotal (F := Ideal) (φ := .f32) .gt) x h).2 (ix2 i j) = BitVec.ofNat 32 (best (rowOf x i) (Fin.castLE hC j)).val := by
  refine (origin_at h hC i j (Host.sort2 (Mat B N) 1 (fun l r => FloatOps.cmpfTotal (F := Ideal) (φ := .f32) .gt l.1 r.1) x
    (fun i => if hd : 1 < (Mat B N).rank then iotaInDim (Mat B N) 32 ⟨1, hd⟩ i else 0#32)).2).trans ?_
  unfold Host.sort2
  rw [dif_pos (show 1 < (Mat B N).rank from Nat.one_lt_two)]
  show (if hd : 1 < (Mat B N).rank then iotaInDim (Mat B N) 32 ⟨1, hd⟩ _ else 0#32) = _
  rw [dif_pos (show 1 < (Mat B N).rank from Nat.one_lt_two)]
  refine (congrArg (iotaInDim (Mat B N) 32 ⟨1, Nat.one_lt_two⟩) ((along_row i _ _).trans (congrArg (ix2 i) ?_))).trans (b := iotaInDim (Mat B N) 32 ⟨1, Nat.one_lt_two⟩ (ix2 i (best (rowOf x i) (Fin.castLE hC j)))) rfl
  exact congrFun (row_order x i (Fin.castLE hC j) (fun _ => 0#32)) _

end Top

section Take

variable {B N C K : ℕ}

/-- Row `idx[i, j]` of image `i`, for every image and every chosen position. -/
abbrev takeDims (B N C K : ℕ)
    (wf : GatherDims.WF (Rows B N K) (Rows B C 1) (Rows B C K) [2] [1] [0] [1] [0] 2 ![1, 1, K]) : GatherDims (Rows B N K) (Rows B C 1) (Rows B C K) where
  offsetDims := [2]
  collapsedSliceDims := [1]
  operandBatchingDims := [0]
  startIndicesBatchingDims := [0]
  startIndexMap := [1]
  indexVectorDim := 2
  sliceSizes := ![1, 1, K]
  wf := wf

/-- A chosen row's entry. -/
theorem take_at {α : Type} (wf) (x : (Rows B N K).Idx → α) (idx : IVec (Rows B C 1) 32) (i : Fin B) (j : Fin C) (k : Fin K) (p : Fin N)
    (hN : N < 2 ^ 31) (hp : idx (ix3 i j 0) = BitVec.ofNat 32 p.val) :
    Host.gather (takeDims B N C K wf) x idx (ix3 i j k) = x (ix3 i p k) := by
  unfold Host.gather
  refine congrArg x (funext fun a => Fin.ext ?_)
  match a with
  | ⟨0, _⟩ =>
    show (takeDims B N C K wf).start (ix3 i j k) idx 0 + (takeDims B N C K wf).batchCoord (ix3 i j k) 0 + (takeDims B N C K wf).offCoord (ix3 i j k) 0 = i.val
    rw [GatherDims.start_batching _ _ _ _ (List.mem_singleton.mpr rfl),
      GatherDims.offCoord_eq_zero _ _ _ (fun h => ((GatherDims.mem_sKept _ _).mp h).2 (List.mem_singleton.mpr rfl))]
    simp only [Nat.add_zero, Nat.zero_add]
    rfl
  | ⟨1, _⟩ =>
    show (takeDims B N C K wf).start (ix3 i j k) idx 1 + (takeDims B N C K wf).batchCoord (ix3 i j k) 1 + (takeDims B N C K wf).offCoord (ix3 i j k) 1 = p.val
    rw [GatherDims.batchCoord_eq_zero _ _ _ (fun h => absurd (List.mem_singleton.mp h) (by decide : (1 : Fin 3) ≠ 0)),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (takeDims B N C K wf).startIndexMap from List.mem_singleton.mpr rfl)]
    have hsi : (takeDims B N C K wf).siIdx (ix3 i j k) ⟨List.idxOf (1 : Fin 3) (takeDims B N C K wf).startIndexMap,
        List.idxOf_lt_length_iff.2 (List.mem_singleton.mpr rfl)⟩ = ix3 i j 0 := by
      funext b; refine Fin.ext ?_
      match b with
      | ⟨0, _⟩ => rfl
      | ⟨1, _⟩ => rfl
      | ⟨2, _⟩ => rfl
    have := p.isLt
    rw [hsi, hp, StableHlo.Predicate.toInt_ofNat_small _ (by omega)]
    show min ((p.val : Int)).toNat (N - 1) = p.val
    omega
  | ⟨2, _⟩ =>
    show (takeDims B N C K wf).start (ix3 i j k) idx 2 + (takeDims B N C K wf).batchCoord (ix3 i j k) 2 + (takeDims B N C K wf).offCoord (ix3 i j k) 2 = k.val
    rw [GatherDims.batchCoord_eq_zero _ _ _ (fun h => absurd (List.mem_singleton.mp h) (by decide : (2 : Fin 3) ≠ 0))]
    unfold GatherDims.start
    rw [dif_neg (fun h => absurd (List.mem_singleton.mp h) (by decide : (2 : Fin 3) ≠ 1))]
    simp only [Nat.add_zero, Nat.zero_add]
    rfl

/-- The rows at positions that count from the end where they are negative. -/
def rowsAt (wf : GatherDims.WF (Rows B N K) (Rows B C 1) (Rows B C K) [2] [1] [0] [1] [0] 2 ![1, 1, K]) (hb : (⟨0, ![]⟩ : Shape).BroadcastsInDim (Mat B C) ![]) (hu : (Mat B C).BroadcastsInDim (Rows B C 1) ![0, 1]) (n : BitVec 32)
    (x : FVec Ideal (Rows B N K) .f32) (idx : IVec (Mat B C) 32) : FVec Ideal (Rows B C K) .f32 :=
  Host.gather (takeDims B N C K wf) x (broadcastInDim (Rows B C 1) ![0, 1] hu
    (select (cmpi .slt idx (broadcastInDim (Mat B C) ![] hb (constantI ⟨0, ![]⟩ 32 0#32)))
      (addi idx (broadcastInDim (Mat B C) ![] hb (constantI ⟨0, ![]⟩ 32 n))) idx))

/-- At a position that is not negative: that row. -/
theorem rowsAt_at (wf) (hb) (hu) (n : BitVec 32) (x : FVec Ideal (Rows B N K) .f32) (idx : IVec (Mat B C) 32) (i : Fin B) (j : Fin C) (k : Fin K) (p : Fin N)
    (hN : N < 2 ^ 31) (hp : idx (ix2 i j) = BitVec.ofNat 32 p.val) : rowsAt wf hb hu n x idx (ix3 i j k) = x (ix3 i p k) := by
  refine take_at wf x _ i j k p hN ?_
  refine (broadcastInDim_apply _ _ _ _ (ix2 i j) fun b => ?_).trans ?_
  · have := i.isLt
    have := j.isLt
    match b with
    | ⟨0, _⟩ => show i.val = if B = 1 then 0 else i.val; split <;> omega
    | ⟨1, _⟩ => show j.val = if C = 1 then 0 else j.val; split <;> omega
  have := p.isLt
  have e : (cmpi .slt idx (broadcastInDim (Mat B C) ![] hb (constantI ⟨0, ![]⟩ 32 0#32)) (ix2 i j)) = 0#1 := by
    show BitVec.ofBool (BitVec.slt (idx (ix2 i j)) 0#32) = 0#1
    rw [hp, BitVec.slt, StableHlo.Predicate.toInt_ofNat_small _ (by omega)]
    simp only [BitVec.toInt_zero]
    rw [decide_eq_false (by omega)]
    rfl
  show (if (cmpi .slt idx (broadcastInDim (Mat B C) ![] hb (constantI ⟨0, ![]⟩ 32 0#32)) (ix2 i j)) = 1#1 then _ else idx (ix2 i j)) = _
  rw [e, if_neg (by decide), hp]

end Take

end Cert.Ref

end
-- ==== Proof.RefGrid.lean ====
/- The reference's anchors at an index, for a map of any side. -/
module

public import proofs.«01_k».proof.Proof.RefConv
public import proofs.«01_k».proof.Proof.RefPick

@[expose] public section

noncomputable section

namespace Cert.Ref

open Idealize.ShloMosaic Cert.Spec Cert.Level

variable {W N : ℕ}

/-- What the reshaping operations over a grid of side `W` ask of their shapes. -/
structure Mesh (W N : ℕ) : Prop where
  anchors : N = 3 * (W * W)
  small : W < 2 ^ 31
  unit : (⟨0, ![]⟩ : Shape).BroadcastsInDim ⟨1, ![W]⟩ ![]
  full : (⟨0, ![]⟩ : Shape).BroadcastsInDim (Mat W W) ![]
  across : (⟨1, ![W]⟩ : Shape).BroadcastsInDim (Mat W W) ![1]
  column : (⟨1, ![W]⟩ : Shape).BroadcastsInDim (Mat W 1) ![0]
  down : (Mat W 1).BroadcastsInDim (Mat W W) ![0, 1]
  one : (Mat W W).BroadcastsInDim (Rows W W 1) ![0, 1]
  four : Shape.Concatenates [Rows W W 1, Rows W W 1, Rows W W 1, Rows W W 1] (Rows W W 4) 2
  each : (Rows W W 4).BroadcastsInDim ⟨4, ![W, W, 1, 4]⟩ ![0, 1, 3]
  three : Shape.Concatenates [⟨4, ![W, W, 1, 4]⟩, ⟨4, ![W, W, 1, 4]⟩, ⟨4, ![W, W, 1, 4]⟩] ⟨4, ![W, W, 3, 4]⟩ 2
  flat : (⟨4, ![W, W, 3, 4]⟩ : Shape).ShapeCasts (Mat N 4)

variable (E : Mesh W N)
include E

/-- The centres along one axis. -/
def ramp (st : BitVec 32) : FVec Ideal ⟨1, ![W]⟩ .f32 :=
  mulf (addf (sitofp .f32 (iotaInDim ⟨1, ![W]⟩ 32 0)) (broadcastInDim ⟨1, ![W]⟩ ![] E.unit (constant ⟨0, ![]⟩ .f32 0x3F000000#32)))
    (broadcastInDim ⟨1, ![W]⟩ ![] E.unit (constant ⟨0, ![]⟩ .f32 st))

/-- The columns' centres, the rows' centres, and a constant, over the grid. -/
def xsOf (st : BitVec 32) : FVec Ideal (Mat W W) .f32 := broadcastInDim (Mat W W) ![1] E.across (ramp E st)
@[inherit_doc xsOf] def ysOf (st : BitVec 32) : FVec Ideal (Mat W W) .f32 :=
  broadcastInDim (Mat W W) ![0, 1] E.down (broadcastInDim (Mat W 1) ![0] E.column (ramp E st))
@[inherit_doc xsOf] def fullOf (h : BitVec 32) : FVec Ideal (Mat W W) .f32 := broadcastInDim (Mat W W) ![] E.full (constant ⟨0, ![]⟩ .f32 h)

/-- Four arrays over the grid, side by side. -/
def quad (a b c d : FVec Ideal (Mat W W) .f32) : FVec Ideal (Rows W W 4) .f32 :=
  concatenate (Rows W W 4) 2 [⟨Rows W W 1, broadcastInDim (Rows W W 1) ![0, 1] E.one a⟩, ⟨Rows W W 1, broadcastInDim (Rows W W 1) ![0, 1] E.one b⟩,
    ⟨Rows W W 1, broadcastInDim (Rows W W 1) ![0, 1] E.one c⟩, ⟨Rows W W 1, broadcastInDim (Rows W W 1) ![0, 1] E.one d⟩] E.four

/-- The corners of the anchors of one shape: `h` and `v` are half its width and half its height. -/
def shapeBox (st h v : BitVec 32) : FVec Ideal (Rows W W 4) .f32 :=
  quad E (subf (xsOf E st) (fullOf E h)) (subf (ysOf E st) (fullOf E v)) (addf (xsOf E st) (fullOf E h)) (addf (ysOf E st) (fullOf E v))

/-- The corners of all anchors. -/
def anchorsOf (st h1 h2 h3 : BitVec 32) : FVec Ideal (Mat N 4) .f32 :=
  shapeCast (Mat N 4) (concatenate ⟨4, ![W, W, 3, 4]⟩ 2
    [⟨⟨4, ![W, W, 1, 4]⟩, broadcastInDim ⟨4, ![W, W, 1, 4]⟩ ![0, 1, 3] E.each (shapeBox E st h1 h3)⟩,
     ⟨⟨4, ![W, W, 1, 4]⟩, broadcastInDim ⟨4, ![W, W, 1, 4]⟩ ![0, 1, 3] E.each (shapeBox E st h2 h2)⟩,
     ⟨⟨4, ![W, W, 1, 4]⟩, broadcastInDim ⟨4, ![W, W, 1, 4]⟩ ![0, 1, 3] E.each (shapeBox E st h3 h1)⟩] E.three) E.flat

/-- A centre. -/
theorem ramp_at (st : BitVec 32) (i : Fin W) : ramp E st (ix1 i) = (((i.val : ℕ) : EReal) + w32 0x3F000000#32) * w32 st := by
  have e : ramp E st (ix1 i) = ((((BitVec.ofNat 32 i.val).toInt : ℝ) : EReal) + w32 0x3F000000#32) * w32 st := rfl
  have := i.isLt
  have := E.small
  rw [e, StableHlo.Predicate.toInt_ofNat_small _ (by omega)]
  norm_cast

/-- A column's centre at a place of the grid. -/
theorem xsOf_at (st : BitVec 32) (y x : Fin W) : xsOf E st (ix2 y x) = (((x.val : ℕ) : EReal) + w32 0x3F000000#32) * w32 st := by
  rw [← ramp_at E st x]
  refine broadcastInDim_apply _ _ _ _ (ix1 x) fun b => ?_
  have := x.isLt
  match b with
  | ⟨0, _⟩ => show x.val = if W = 1 then 0 else x.val; split <;> omega

/-- A row's centre at a place of the grid. -/
theorem ysOf_at (st : BitVec 32) (y x : Fin W) : ysOf E st (ix2 y x) = (((y.val : ℕ) : EReal) + w32 0x3F000000#32) * w32 st := by
  rw [← ramp_at E st y]
  have := y.isLt
  refine (broadcastInDim_apply _ _ _ _ (ix2 y (0 : Fin 1)) fun b => ?_).trans (broadcastInDim_apply _ _ _ _ (ix1 y) fun b => ?_)
  · match b with
    | ⟨0, _⟩ => show y.val = if W = 1 then 0 else y.val; split <;> omega
    | ⟨1, _⟩ => rfl
  · match b with
    | ⟨0, _⟩ => show y.val = if W = 1 then 0 else y.val; split <;> omega

/-- An array with a last axis of one. -/
theorem one_at (a : FVec Ideal (Mat W W) .f32) (y x : Fin W) : broadcastInDim (Rows W W 1) ![0, 1] E.one a (ix3 y x 0) = a (ix2 y x) := by
  have := y.isLt
  have := x.isLt
  refine broadcastInDim_apply _ _ _ _ (ix2 y x) fun b => ?_
  match b with
  | ⟨0, _⟩ => show y.val = if W = 1 then 0 else y.val; split <;> omega
  | ⟨1, _⟩ => show x.val = if W = 1 then 0 else x.val; split <;> omega

omit E in
/-- Four arrays side by side, at an index. -/
theorem beside_at {A B : ℕ} (a b c d : (Rows A B 1).Idx → EReal) (h) (y : Fin A) (x : Fin B) (k : Fin 4) :
    concatenate (Rows A B 4) 2 [⟨Rows A B 1, a⟩, ⟨Rows A B 1, b⟩, ⟨Rows A B 1, c⟩, ⟨Rows A B 1, d⟩] h (ix3 y x k)
      = (![a, b, c, d] : Fin 4 → (Rows A B 1).Idx → EReal) k (ix3 y x 0) := by
  have hi : ∀ k : Fin 4, ∀ b : Fin 3, b ≠ 2 → ((ix3 y x 0 : (Rows A B 1).Idx) b).val = ((ix3 y x k : (Rows A B 4).Idx) b).val := by
    intro k b hb
    fin_cases b
    · rfl
    · rfl
    · exact absurd rfl hb
  fin_cases k
  · exact concatenate_apply_piece (2 : Fin (Rows A B 4).rank) [⟨Rows A B 1, a⟩, ⟨Rows A B 1, b⟩, ⟨Rows A B 1, c⟩, ⟨Rows A B 1, d⟩] h _ 0 (by simp) (Rows A B 1) a rfl rfl 0 rfl
      (ix3 y x 0) (hi 0) rfl
  · exact concatenate_apply_piece (2 : Fin (Rows A B 4).rank) [⟨Rows A B 1, a⟩, ⟨Rows A B 1, b⟩, ⟨Rows A B 1, c⟩, ⟨Rows A B 1, d⟩] h _ 1 (by simp) (Rows A B 1) b rfl rfl 1 rfl
      (ix3 y x 0) (hi 1) rfl
  · exact concatenate_apply_piece (2 : Fin (Rows A B 4).rank) [⟨Rows A B 1, a⟩, ⟨Rows A B 1, b⟩, ⟨Rows A B 1, c⟩, ⟨Rows A B 1, d⟩] h _ 2 (by simp) (Rows A B 1) c rfl rfl 2 rfl
      (ix3 y x 0) (hi 2) rfl
  · exact concatenate_apply_piece (2 : Fin (Rows A B 4).rank) [⟨Rows A B 1, a⟩, ⟨Rows A B 1, b⟩, ⟨Rows A B 1, c⟩, ⟨Rows A B 1, d⟩] h _ 3 (by simp) (Rows A B 1) d rfl rfl 3 rfl
      (ix3 y x 0) (hi 3) rfl

/-- The corners of one shape's anchor. -/
theorem shapeBox_at (st h v : BitVec 32) (y x : Fin W) (k : Fin 4) :
    shapeBox E st h v (ix3 y x k)
      = (![(((x.val : ℕ) : EReal) + w32 0x3F000000#32) * w32 st - w32 h, (((y.val : ℕ) : EReal) + w32 0x3F000000#32) * w32 st - w32 v,
           (((x.val : ℕ) : EReal) + w32 0x3F000000#32) * w32 st + w32 h, (((y.val : ℕ) : EReal) + w32 0x3F000000#32) * w32 st + w32 v] : Fin 4 → EReal) k := by
  refine (beside_at _ _ _ _ E.four y x k).trans ?_
  rw [← xsOf_at E st y x, ← ysOf_at E st y x]
  fin_cases k
  · exact one_at E (subf (xsOf E st) (fullOf E h)) y x
  · exact one_at E (subf (ysOf E st) (fullOf E v)) y x
  · exact one_at E (addf (xsOf E st) (fullOf E h)) y x
  · exact one_at E (addf (ysOf E st) (fullOf E v)) y x

/-- One shape's corners with an axis for the shape. -/
theorem each_at (a : FVec Ideal (Rows W W 4) .f32) (y x : Fin W) (k : Fin 4) :
    broadcastInDim ⟨4, ![W, W, 1, 4]⟩ ![0, 1, 3] E.each a (ix4 y x (0 : Fin 1) k) = a (ix3 y x k) := by
  have := y.isLt
  have := x.isLt
  refine broadcastInDim_apply _ _ _ _ (ix3 y x k) fun b => ?_
  match b with
  | ⟨0, _⟩ => show y.val = if W = 1 then 0 else y.val; split <;> omega
  | ⟨1, _⟩ => show x.val = if W = 1 then 0 else x.val; split <;> omega
  | ⟨2, _⟩ => rfl

omit E in
/-- Three shapes' corners at an index. -/
theorem shapes_at (a b c : (⟨4, ![W, W, 1, 4]⟩ : Shape).Idx → EReal) (h) (y x : Fin W) (t : Fin 3) (k : Fin 4) :
    concatenate ⟨4, ![W, W, 3, 4]⟩ 2 [⟨⟨4, ![W, W, 1, 4]⟩, a⟩, ⟨⟨4, ![W, W, 1, 4]⟩, b⟩, ⟨⟨4, ![W, W, 1, 4]⟩, c⟩] h (ix4 y x t k)
      = (![a, b, c] : Fin 3 → (⟨4, ![W, W, 1, 4]⟩ : Shape).Idx → EReal) t (ix4 y x 0 k) := by
  have hi : ∀ t : Fin 3, ∀ b : Fin 4, b ≠ 2 →
      ((ix4 y x 0 k : (⟨4, ![W, W, 1, 4]⟩ : Shape).Idx) b).val = ((ix4 y x t k : (⟨4, ![W, W, 3, 4]⟩ : Shape).Idx) b).val := by
    intro k b hb
    fin_cases b
    · rfl
    · rfl
    · exact absurd rfl hb
    · rfl
  fin_cases t
  · exact concatenate_apply_piece (2 : Fin (⟨4, ![W, W, 3, 4]⟩ : Shape).rank) [⟨⟨4, ![W, W, 1, 4]⟩, a⟩, ⟨⟨4, ![W, W, 1, 4]⟩, b⟩, ⟨⟨4, ![W, W, 1, 4]⟩, c⟩] h _ 0 (by simp) _ a rfl rfl 0 rfl
      (ix4 y x 0 k) (hi 0) rfl
  · exact concatenate_apply_piece (2 : Fin (⟨4, ![W, W, 3, 4]⟩ : Shape).rank) [⟨⟨4, ![W, W, 1, 4]⟩, a⟩, ⟨⟨4, ![W, W, 1, 4]⟩, b⟩, ⟨⟨4, ![W, W, 1, 4]⟩, c⟩] h _ 1 (by simp) _ b rfl rfl 1 rfl
      (ix4 y x 0 k) (hi 1) rfl
  · exact concatenate_apply_piece (2 : Fin (⟨4, ![W, W, 3, 4]⟩ : Shape).rank) [⟨⟨4, ![W, W, 1, 4]⟩, a⟩, ⟨⟨4, ![W, W, 1, 4]⟩, b⟩, ⟨⟨4, ![W, W, 1, 4]⟩, c⟩] h _ 2 (by simp) _ c rfl rfl 2 rfl
      (ix4 y x 0 k) (hi 2) rfl

/-- The corners of an anchor. -/
theorem anchorsOf_at (st h1 h2 h3 : BitVec 32) (p : Fin N) (k : Fin 4) :
    anchorsOf E st h1 h2 h3 (ix2 p k) = corner ⟨w32 st, w32 h1, w32 h2, w32 h3⟩ W p.val k := by
  obtain ⟨hy, hx⟩ := row_col E.anchors p
  have ha : p.val % 3 < 3 := Nat.mod_lt _ (by decide)
  unfold anchorsOf shapeCast
  refine (congrArg _ (Shape.reshapeEquiv_eq_of_rowMajor (y := ix4 ⟨p.val / 3 / W, hy⟩ ⟨p.val / 3 % W, hx⟩ ⟨p.val % 3, ha⟩ k) E.flat (by
    rw [Shape.rowMajor_val_four, Shape.rowMajor_val_two]
    show ((p.val / 3 / W * W + p.val / 3 % W) * 3 + p.val % 3) * 4 + k.val = p.val * 4 + k.val
    have e1 := Nat.div_add_mod (p.val / 3) W
    have e2 := Nat.div_add_mod p.val 3
    have e3 : p.val / 3 / W * W + p.val / 3 % W = p.val / 3 := by rw [Nat.mul_comm]; exact e1
    rw [e3]
    omega))).trans ?_
  refine (shapes_at _ _ _ E.three _ _ _ k).trans ?_
  unfold corner ctr
  rcases (by omega : p.val % 3 = 0 ∨ p.val % 3 = 1 ∨ p.val % 3 = 2) with e | e | e
  · rw [show (⟨p.val % 3, ha⟩ : Fin 3) = 0 from Fin.ext e, e]
    refine (each_at E _ _ _ k).trans ((shapeBox_at E st h1 h3 _ _ k).trans ?_)
    rfl
  · rw [show (⟨p.val % 3, ha⟩ : Fin 3) = 1 from Fin.ext e, e]
    refine (each_at E _ _ _ k).trans ((shapeBox_at E st h2 h2 _ _ k).trans ?_)
    rfl
  · rw [show (⟨p.val % 3, ha⟩ : Fin 3) = 2 from Fin.ext e, e]
    refine (each_at E _ _ _ k).trans ((shapeBox_at E st h3 h1 _ _ k).trans ?_)
    rfl

end Cert.Ref

end
-- ==== Proof.RefLevels.lean ====
/- The reference's choice of a level's best anchors, its anchors' corners, and the chosen ones' corners and offsets: what each
   stretch of operations leaves, level by level. -/
module

public import proofs.«01_k».proof.Proof.RefGrid
public import proofs.«01_k».proof.Proof.Gen.ReferenceIdeal
public import proofs.«01_k».proof.Proof.Gen.ReferenceIdeal.Run

@[expose] public section

noncomputable section

namespace Cert.ReferenceIdeal

open Idealize.ShloMosaic Idealize.ShloMosaic.TcCoe Cert.ReferenceIdeal.Gen Cert.Level Cert.Spec Cert.Ref

/-- The grid of side 64. -/
theorem mesh0 : Mesh 64 12288 where
  anchors := by norm_num
  small := by norm_num
  unit := bcast_S_S64
  full := bcast_S_S64x64
  across := bcast_S64_S64x64_1
  column := bcast_S64_S64x1_0
  down := bcast_S64x1_S64x64_0_1
  one := bcast_S64x64_S64x64x1_0_1
  four := by decide
  each := bcast_S64x64x4_S64x64x1x4_0_1_3
  three := by decide
  flat := shapeCasts_S64x64x3x4_S12288x4

/-- The grid of side 32. -/
theorem mesh1 : Mesh 32 3072 where
  anchors := by norm_num
  small := by norm_num
  unit := bcast_S_S32
  full := bcast_S_S32x32
  across := bcast_S32_S32x32_1
  column := bcast_S32_S32x1_0
  down := bcast_S32x1_S32x32_0_1
  one := bcast_S32x32_S32x32x1_0_1
  four := by decide
  each := bcast_S32x32x4_S32x32x1x4_0_1_3
  three := by decide
  flat := shapeCasts_S32x32x3x4_S3072x4

/-- The grid of side 16. -/
theorem mesh2 : Mesh 16 768 where
  anchors := by norm_num
  small := by norm_num
  unit := bcast_S_S16
  full := bcast_S_S16x16
  across := bcast_S16_S16x16_1
  column := bcast_S16_S16x1_0
  down := bcast_S16x1_S16x16_0_1
  one := bcast_S16x16_S16x16x1_0_1
  four := by decide
  each := bcast_S16x16x4_S16x16x1x4_0_1_3
  three := by decide
  flat := shapeCasts_S16x16x3x4_S768x4

variable (V : Valuation τ sig (Elt Ideal))

/-- Level 0's largest scores, and their positions. -/
theorem values0_eq : StableHlo.after hostOps0_2 V (Proc.devRef .tc main_values)
    = (Host.topK S2x400 1 (FloatOps.cmpfTotal (F := Ideal) (φ := .f32) .gt) (V (Proc.devRef .tc main_v1)) sliceFits_S2x12288_S2x400).1 := by
  after_reads_simp

@[inherit_doc values0_eq] theorem indices0_eq : StableHlo.after hostOps0_2 V (Proc.devRef .tc main_indices)
    = (Host.topK S2x400 1 (FloatOps.cmpfTotal (F := Ideal) (φ := .f32) .gt) (V (Proc.devRef .tc main_v1)) sliceFits_S2x12288_S2x400).2 := by
  after_reads_simp

/-- Level 0's anchors. -/
theorem anchors0_eq : StableHlo.after hostOps0_3 V (Proc.devRef .tc main_v2) = anchorsOf mesh0 0x41000000#32 0x423504F3#32 0x42000000#32 0x41B504F3#32 := by
  after_reads_simp
  simp -implicitDefEqProofs only [StableHlo.TRef.toBuf, StableHlo.TRef.ofBuf, cast_cast, cast_eq]
  rfl

/-- The chosen offsets. -/
theorem chosenDeltas0_eq : StableHlo.after hostOps0_5 V (Proc.devRef .tc main_v4)
    = rowsAt gather_S2x12288x4_S2x400x1_S2x400x4_2_1_0_0_1_2_114_wf bcast_S_S2x400 bcast_S2x400_S2x400x1_0_1 12288#32 (V (Proc.devRef .tc main_v3)) (V (Proc.devRef .tc main_indices)) := by
  after_reads_simp
  simp -implicitDefEqProofs only [StableHlo.TRef.toBuf, StableHlo.TRef.ofBuf, cast_cast, cast_eq]
  rfl

/-- The anchors for both images. -/
theorem spread0_eq : StableHlo.after hostOps0_6 V (Proc.devRef .tc main_v5)
    = broadcastInDim S2x12288x4 ![1, 2] bcast_S12288x4_S2x12288x4_1_2 (V (Proc.devRef .tc main_v2)) := by
  after_reads_simp

/-- The chosen anchors. -/
theorem chosenAnchors0_eq : StableHlo.after hostOps0_7 V (Proc.devRef .tc main_v6)
    = rowsAt gather_S2x12288x4_S2x400x1_S2x400x4_2_1_0_0_1_2_114_wf bcast_S_S2x400 bcast_S2x400_S2x400x1_0_1 12288#32 (V (Proc.devRef .tc main_v5)) (V (Proc.devRef .tc main_indices)) := by
  after_reads_simp
  simp -implicitDefEqProofs only [StableHlo.TRef.toBuf, StableHlo.TRef.ofBuf, cast_cast, cast_eq]
  rfl

/-- Level 1's largest scores, and their positions. -/
theorem values1_eq : StableHlo.after hostOps0_10 V (Proc.devRef .tc main_values_0)
    = (Host.topK S2x400 1 (FloatOps.cmpfTotal (F := Ideal) (φ := .f32) .gt) (V (Proc.devRef .tc main_v8)) sliceFits_S2x3072_S2x400).1 := by
  after_reads_simp

@[inherit_doc values1_eq] theorem indices1_eq : StableHlo.after hostOps0_10 V (Proc.devRef .tc main_indices_1)
    = (Host.topK S2x400 1 (FloatOps.cmpfTotal (F := Ideal) (φ := .f32) .gt) (V (Proc.devRef .tc main_v8)) sliceFits_S2x3072_S2x400).2 := by
  after_reads_simp

/-- Level 1's anchors. -/
theorem anchors1_eq : StableHlo.after hostOps0_11 V (Proc.devRef .tc main_v9) = anchorsOf mesh1 0x41800000#32 0x42B504F3#32 0x42800000#32 0x423504F3#32 := by
  after_reads_simp
  simp -implicitDefEqProofs only [StableHlo.TRef.toBuf, StableHlo.TRef.ofBuf, cast_cast, cast_eq]
  rfl

/-- The chosen offsets. -/
theorem chosenDeltas1_eq : StableHlo.after hostOps0_13 V (Proc.devRef .tc main_v11)
    = rowsAt gather_S2x3072x4_S2x400x1_S2x400x4_2_1_0_0_1_2_114_wf bcast_S_S2x400 bcast_S2x400_S2x400x1_0_1 3072#32 (V (Proc.devRef .tc main_v10)) (V (Proc.devRef .tc main_indices_1)) := by
  after_reads_simp
  simp -implicitDefEqProofs only [StableHlo.TRef.toBuf, StableHlo.TRef.ofBuf, cast_cast, cast_eq]
  rfl

/-- The anchors for both images. -/
theorem spread1_eq : StableHlo.after hostOps0_14 V (Proc.devRef .tc main_v12)
    = broadcastInDim S2x3072x4 ![1, 2] bcast_S3072x4_S2x3072x4_1_2 (V (Proc.devRef .tc main_v9)) := by
  after_reads_simp

/-- The chosen anchors. -/
theorem chosenAnchors1_eq : StableHlo.after hostOps0_15 V (Proc.devRef .tc main_v13)
    = rowsAt gather_S2x3072x4_S2x400x1_S2x400x4_2_1_0_0_1_2_114_wf bcast_S_S2x400 bcast_S2x400_S2x400x1_0_1 3072#32 (V (Proc.devRef .tc main_v12)) (V (Proc.devRef .tc main_indices_1)) := by
  after_reads_simp
  simp -implicitDefEqProofs only [StableHlo.TRef.toBuf, StableHlo.TRef.ofBuf, cast_cast, cast_eq]
  rfl

/-- Level 2's largest scores, and their positions. -/
theorem values2_eq : StableHlo.after hostOps0_18 V (Proc.devRef .tc main_values_2)
    = (Host.topK S2x400 1 (FloatOps.cmpfTotal (F := Ideal) (φ := .f32) .gt) (V (Proc.devRef .tc main_v15)) sliceFits_S2x768_S2x400).1 := by
  after_reads_simp

@[inherit_doc values2_eq] theorem indices2_eq : StableHlo.after hostOps0_18 V (Proc.devRef .tc main_indices_3)
    = (Host.topK S2x400 1 (FloatOps.cmpfTotal (F := Ideal) (φ := .f32) .gt) (V (Proc.devRef .tc main_v15)) sliceFits_S2x768_S2x400).2 := by
  after_reads_simp

/-- Level 2's anchors. -/
theorem anchors2_eq : StableHlo.after hostOps0_19 V (Proc.devRef .tc main_v16) = anchorsOf mesh2 0x42000000#32 0x433504F3#32 0x43000000#32 0x42B504F3#32 := by
  after_reads_simp
  simp -implicitDefEqProofs only [StableHlo.TRef.toBuf, StableHlo.TRef.ofBuf, cast_cast, cast_eq]
  rfl

/-- The chosen offsets. -/
theorem chosenDeltas2_eq : StableHlo.after hostOps0_21 V (Proc.devRef .tc main_v18)
    = rowsAt gather_S2x768x4_S2x400x1_S2x400x4_2_1_0_0_1_2_114_wf bcast_S_S2x400 bcast_S2x400_S2x400x1_0_1 768#32 (V (Proc.devRef .tc main_v17)) (V (Proc.devRef .tc main_indices_3)) := by
  after_reads_simp
  simp -implicitDefEqProofs only [StableHlo.TRef.toBuf, StableHlo.TRef.ofBuf, cast_cast, cast_eq]
  rfl

/-- The anchors for both images. -/
theorem spread2_eq : StableHlo.after hostOps0_22 V (Proc.devRef .tc main_v19)
    = broadcastInDim S2x768x4 ![1, 2] bcast_S768x4_S2x768x4_1_2 (V (Proc.devRef .tc main_v16)) := by
  after_reads_simp

/-- The chosen anchors. -/
theorem chosenAnchors2_eq : StableHlo.after hostOps0_23 V (Proc.devRef .tc main_v20)
    = rowsAt gather_S2x768x4_S2x400x1_S2x400x4_2_1_0_0_1_2_114_wf bcast_S_S2x400 bcast_S2x400_S2x400x1_0_1 768#32 (V (Proc.devRef .tc main_v19)) (V (Proc.devRef .tc main_indices_3)) := by
  after_reads_simp
  simp -implicitDefEqProofs only [StableHlo.TRef.toBuf, StableHlo.TRef.ofBuf, cast_cast, cast_eq]
  rfl

end Cert.ReferenceIdeal

end
-- ==== Proof.RefSelect.lean ====
/- The reference's chosen anchors of one level at an index: their scores, their offsets and their corners. -/
module

public import proofs.«01_k».proof.Proof.RefGrid

@[expose] public section

noncomputable section

namespace Cert.Ref

open Idealize.ShloMosaic Cert.Spec Cert.Level Cert.Order

variable {W N : ℕ}

/-- A permutation of as many positions under another name for their number. -/
theorem best_cast {N M : ℕ} (e : N = M) (S : Fin M → EReal) (hN : 400 ≤ N) (hM : 400 ≤ M) (j : Fin 400) :
    (best (fun p : Fin N => S (p.cast e)) (Fin.castLE hN j)).cast e = sel S hM j := by
  subst e
  rfl

variable (E : Layer W N) (H : FVec Ideal (Maps 256 W) .f32) (w : FVec Ideal ⟨4, ![3, 256, 1, 1]⟩ .f32) (b : FVec Ideal ⟨1, ![3]⟩ .f32)
  (h : Fin 256 → ℕ → ℕ → EReal) (i : Fin 2) (hH : ∀ c (y x : Fin W), H (ix4 i c y x) = h c y.val x.val)
  (hs : (Mat 2 N).Slices (fun _ => 0) (Mat 2 400)) (hN : 400 ≤ N) (hW : 400 ≤ 3 * (W * W)) (j : Fin 400)

/-- A level's scores as the specification writes them. -/
abbrev scoresOf (w : FVec Ideal ⟨4, ![3, 256, 1, 1]⟩ .f32) (b : FVec Ideal ⟨1, ![3]⟩ .f32) (h : Fin 256 → ℕ → ℕ → EReal) : Fin (3 * (W * W)) → EReal :=
  scores W (head (fun r c => w (ix4 r c 0 0)) (fun r => b (ix1 r)) h)

include hH hN

/-- The chosen position. -/
theorem chosen_pos : (best (rowOf (scoreRows E H w b) i) (Fin.castLE hN j)).cast E.anchors = sel (scoresOf (W := W) w b h) hW j := by
  have e : rowOf (scoreRows E H w b) i = fun p : Fin N => scoresOf (W := W) w b h (p.cast E.anchors) :=
    funext fun p => scoreRows_at E H w b h i hH p
  rw [e]
  exact best_cast E.anchors _ hN hW j

/-- The `j`-th largest score of a level. -/
theorem level_value : (Host.topK (Mat 2 400) 1 (FloatOps.cmpfTotal (F := Ideal) (φ := .f32) .gt) (scoreRows E H w b) hs).1 (ix2 i j)
    = scoresOf (W := W) w b h (sel (scoresOf (W := W) w b h) hW j) := by
  rw [top_value _ hs hN, ← chosen_pos E H w b h i hH hN hW j]
  exact scoreRows_at E H w b h i hH _

/-- Its position. -/
theorem level_index : (Host.topK (Mat 2 400) 1 (FloatOps.cmpfTotal (F := Ideal) (φ := .f32) .gt) (scoreRows E H w b) hs).2 (ix2 i j)
    = BitVec.ofNat 32 ((sel (scoresOf (W := W) w b h) hW j).cast E.anchors.symm).val := by
  rw [top_index _ hs hN, ← chosen_pos E H w b h i hH hN hW j]
  rfl

/-- A chosen anchor's offset. -/
theorem level_delta (wf) (hb) (hu) (n : BitVec 32) (hn : N < 2 ^ 31) (wd : FVec Ideal ⟨4, ![12, 256, 1, 1]⟩ .f32) (bd : FVec Ideal ⟨1, ![12]⟩ .f32) (k : Fin 4) :
    rowsAt wf hb hu n (deltaRows E H wd bd) (Host.topK (Mat 2 400) 1 (FloatOps.cmpfTotal (F := Ideal) (φ := .f32) .gt) (scoreRows E H w b) hs).2 (ix3 i j k)
      = offset W (head (fun r c => wd (ix4 r c 0 0)) (fun r => bd (ix1 r)) h) (sel (scoresOf (W := W) w b h) hW j).val k := by
  rw [rowsAt_at wf hb hu n _ _ i j k ((sel (scoresOf (W := W) w b h) hW j).cast E.anchors.symm) hn (level_index E H w b h i hH hs hN hW j)]
  exact deltaRows_at E H wd bd h i hH _ k

/-- A chosen anchor's corner. -/
theorem level_anchor (wf) (hb) (hu) (n : BitVec 32) (hn : N < 2 ^ 31) (M : Mesh W N) (st h1 h2 h3 : BitVec 32)
    (he : (Mat N 4).BroadcastsInDim (Rows 2 N 4) ![1, 2]) (k : Fin 4) :
    rowsAt wf hb hu n (broadcastInDim (Rows 2 N 4) ![1, 2] he (anchorsOf M st h1 h2 h3))
        (Host.topK (Mat 2 400) 1 (FloatOps.cmpfTotal (F := Ideal) (φ := .f32) .gt) (scoreRows E H w b) hs).2 (ix3 i j k)
      = corner ⟨w32 st, w32 h1, w32 h2, w32 h3⟩ W (sel (scoresOf (W := W) w b h) hW j).val k := by
  rw [rowsAt_at wf hb hu n _ _ i j k ((sel (scoresOf (W := W) w b h) hW j).cast E.anchors.symm) hn (level_index E H w b h i hH hs hN hW j)]
  refine (broadcastInDim_apply _ _ _ _ (ix2 ((sel (scoresOf (W := W) w b h) hW j).cast E.anchors.symm) k) fun b => ?_).trans (anchorsOf_at M st h1 h2 h3 _ k)
  match b with
  | ⟨0, _⟩ => exact (if_neg (by show ¬ N = 1; omega)).symm
  | ⟨1, _⟩ => rfl

end Cert.Ref

end
-- ==== Proof.RefValue.lean ====
/- The reference's levels at an index: the chosen scores, offsets and anchors of every level and image. -/
module

public import proofs.«01_k».proof.Proof.RefStages
public import proofs.«01_k».proof.Proof.RefHidden
public import proofs.«01_k».proof.Proof.RefLevels
public import proofs.«01_k».proof.Proof.RefSelect
public import proofs.«01_k».proof.Proof.Whole

@[expose] public section

noncomputable section

namespace Cert.ReferenceIdeal

open Idealize.ShloMosaic Idealize.ShloMosaic.StableHlo Idealize.ShloMosaic.TcCoe Cert.ReferenceIdeal.Gen Cert.Level Cert.Spec Cert.Ref

variable (V : Valuation τ sig (Elt Ideal))

/-- The weights that a valuation's arguments hold. -/
def weights : Weights where
  w := fun o a ky kx => V (Proc.devRef .tc main_arg3) (ix4 o a ky kx : S256x256x3x3.Idx)
  b := fun o => V (Proc.devRef .tc main_arg4) (ix1 o : S256.Idx)
  ow := fun r a => V (Proc.devRef .tc main_arg5) (ix4 r a 0 0 : S3x256x1x1.Idx)
  ob := fun r => V (Proc.devRef .tc main_arg6) (ix1 r : S3.Idx)
  dw := fun r a => V (Proc.devRef .tc main_arg7) (ix4 r a 0 0 : S12x256x1x1.Idx)
  db := fun r => V (Proc.devRef .tc main_arg8) (ix1 r : S12.Idx)

/-- The maps they hold. -/
def map0 (n : Fin 2) (a : Fin 256) (y x : Fin 64) : EReal := V (Proc.devRef .tc main_arg0) (ix4 n a y x : S2x256x64x64.Idx)
@[inherit_doc map0] def map1 (n : Fin 2) (a : Fin 256) (y x : Fin 32) : EReal := V (Proc.devRef .tc main_arg1) (ix4 n a y x : S2x256x32x32.Idx)
@[inherit_doc map0] def map2 (n : Fin 2) (a : Fin 256) (y x : Fin 16) : EReal := V (Proc.devRef .tc main_arg2) (ix4 n a y x : S2x256x16x16.Idx)

/-- A level's arrays as the loop finds them: the chosen scores, the chosen offsets and the chosen anchors, of one image's map. -/
structure LevelAt {W : ℕ} (P : Weights) (G : Grid) (hW : 400 ≤ 3 * (W * W)) (x : Fin 256 → Fin W → Fin W → EReal) (n : Fin 2)
    (s : FVec Ideal S2x400 .f32) (d a : FVec Ideal S2x400x4 .f32) : Prop where
  score : ∀ j, s (ix2 n j) = P.score x (sel (P.score x) hW j)
  delta : ∀ j k, d (ix3 n j k) = offset W (P.delta x) (sel (P.score x) hW j).val k
  anchor : ∀ j k, a (ix3 n j k) = corner G W (sel (P.score x) hW j).val k

/-- The arguments' buffers. -/
def argRefs : List (Ref sig .tc) := [main_arg0, main_arg1, main_arg2, main_arg3, main_arg4, main_arg5, main_arg6, main_arg7, main_arg8]

/-- The arguments stay as they are. -/
theorem stage_args (r : Ref sig .tc) (h : r ∈ argRefs) (k : ℕ) (hk : k ≤ 28) : stage V k (Proc.devRef .tc r) = V (Proc.devRef .tc r) := by
  have e := stage_keep V r 0 k fun i hi => (by decide +kernel : ∀ r ∈ argRefs, ∀ i, i < 28 → r ∉ written (0 + i)) r h i (by omega)
  rw [Nat.zero_add] at e
  exact e

/-- Level 0's hidden maps, where its heads read them. -/
theorem stage_hidden0 : stage V 1 (Proc.devRef .tc main_v0)
    = hiddenMaps layer0 (V (Proc.devRef .tc main_arg0)) (V (Proc.devRef .tc main_arg3)) (V (Proc.devRef .tc main_arg4)) := by
  have e := hidden0_eq (stage V 0)
  rw [stage_args V main_arg0 (by decide) 0 (by decide), stage_args V main_arg3 (by decide) 0 (by decide), stage_args V main_arg4 (by decide) 0 (by decide)] at e
  exact e

/-- Its scores. -/
theorem stage_scores0 : stage V 2 (Proc.devRef .tc main_v1) = scoreRows layer0 (stage V 1 (Proc.devRef .tc main_v0)) (V (Proc.devRef .tc main_arg5)) (V (Proc.devRef .tc main_arg6)) := by
  have e := scores0_eq (stage V 1)
  rw [stage_args V main_arg5 (by decide) 1 (by decide), stage_args V main_arg6 (by decide) 1 (by decide)] at e
  exact e

/-- Level 0's arrays. -/
theorem stage_level0 (n : Fin 2) : LevelAt (weights V) anchors8 (by norm_num) (map0 V n) n (stage V 28 (Proc.devRef .tc main_values))
    (stage V 24 (Proc.devRef .tc main_v4)) (stage V 24 (Proc.devRef .tc main_v6)) := by
  have hH : ∀ c (y x : Fin 64), stage V 1 (Proc.devRef .tc main_v0) (ix4 n c y x : S2x256x64x64.Idx) = (weights V).hidden (map0 V n) c y.val x.val := by
    intro c y x
    rw [stage_hidden0]
    exact hiddenMaps_at layer0 _ _ _ n c y x
  have hi := (indices0_eq (stage V 2)).trans (by rw [stage_scores0])
  have hd := deltas0_eq (stage V 4)
  rw [stage_args V main_arg7 (by decide) 4 (by decide), stage_args V main_arg8 (by decide) 4 (by decide), stage_keep V main_v0 1 3 (by decide)] at hd
  have ha := spread0_eq (stage V 6)
  have ha' := anchors0_eq (stage V 3)
  refine ⟨fun j => ?_, fun j k => ?_, fun j k => ?_⟩
  · rw [show stage V 28 (Proc.devRef .tc main_values) = stage V 3 (Proc.devRef .tc main_values) from stage_keep V main_values 3 25 (by decide)]
    refine (congrFun (values0_eq (stage V 2)) (ix2 n j)).trans ?_
    rw [stage_scores0]
    exact level_value layer0 _ _ _ _ n hH sliceFits_S2x12288_S2x400 (by norm_num) (by norm_num) j
  · rw [show stage V 24 (Proc.devRef .tc main_v4) = stage V 6 (Proc.devRef .tc main_v4) from stage_keep V main_v4 6 18 (by decide)]
    refine (congrFun (chosenDeltas0_eq (stage V 5)) (ix3 n j k)).trans ?_
    rw [show stage V 5 (Proc.devRef .tc main_indices) = stage V 3 (Proc.devRef .tc main_indices) from stage_keep V main_indices 3 2 (by decide),
      show stage V 5 (Proc.devRef .tc main_v3) = _ from hd, show stage V 3 (Proc.devRef .tc main_indices) = _ from hi]
    exact level_delta layer0 _ _ _ _ n hH sliceFits_S2x12288_S2x400 (by norm_num) (by norm_num) j _ _ _ _ (by norm_num) _ _ k
  · rw [show stage V 24 (Proc.devRef .tc main_v6) = stage V 8 (Proc.devRef .tc main_v6) from stage_keep V main_v6 8 16 (by decide)]
    refine (congrFun (chosenAnchors0_eq (stage V 7)) (ix3 n j k)).trans ?_
    rw [show stage V 7 (Proc.devRef .tc main_indices) = stage V 3 (Proc.devRef .tc main_indices) from stage_keep V main_indices 3 4 (by decide),
      show stage V 7 (Proc.devRef .tc main_v5) = _ from ha, show stage V 3 (Proc.devRef .tc main_indices) = _ from hi,
      show stage V 6 (Proc.devRef .tc main_v2) = stage V 4 (Proc.devRef .tc main_v2) from stage_keep V main_v2 4 2 (by decide), show stage V 4 (Proc.devRef .tc main_v2) = _ from ha']
    exact level_anchor layer0 _ _ _ _ n hH sliceFits_S2x12288_S2x400 (by norm_num) (by norm_num) j _ _ _ _ (by norm_num) mesh0 _ _ _ _ _ k

/-- Level 1's hidden maps, where its heads read them. -/
theorem stage_hidden1 : stage V 9 (Proc.devRef .tc main_v7)
    = hiddenMaps layer1 (V (Proc.devRef .tc main_arg1)) (V (Proc.devRef .tc main_arg3)) (V (Proc.devRef .tc main_arg4)) := by
  have e := hidden1_eq (stage V 8)
  rw [stage_args V main_arg1 (by decide) 8 (by decide), stage_args V main_arg3 (by decide) 8 (by decide), stage_args V main_arg4 (by decide) 8 (by decide)] at e
  exact e

/-- Its scores. -/
theorem stage_scores1 : stage V 10 (Proc.devRef .tc main_v8) = scoreRows layer1 (stage V 9 (Proc.devRef .tc main_v7)) (V (Proc.devRef .tc main_arg5)) (V (Proc.devRef .tc main_arg6)) := by
  have e := scores1_eq (stage V 9)
  rw [stage_args V main_arg5 (by decide) 9 (by decide), stage_args V main_arg6 (by decide) 9 (by decide)] at e
  exact e

/-- Level 1's arrays. -/
theorem stage_level1 (n : Fin 2) : LevelAt (weights V) anchors16 (by norm_num) (map1 V n) n (stage V 28 (Proc.devRef .tc main_values_0))
    (stage V 24 (Proc.devRef .tc main_v11)) (stage V 24 (Proc.devRef .tc main_v13)) := by
  have hH : ∀ c (y x : Fin 32), stage V 9 (Proc.devRef .tc main_v7) (ix4 n c y x : S2x256x32x32.Idx) = (weights V).hidden (map1 V n) c y.val x.val := by
    intro c y x
    rw [stage_hidden1]
    exact hiddenMaps_at layer1 _ _ _ n c y x
  have hi := (indices1_eq (stage V 10)).trans (by rw [stage_scores1])
  have hd := deltas1_eq (stage V 12)
  rw [stage_args V main_arg7 (by decide) 12 (by decide), stage_args V main_arg8 (by decide) 12 (by decide), stage_keep V main_v7 9 3 (by decide)] at hd
  have ha := spread1_eq (stage V 14)
  have ha' := anchors1_eq (stage V 11)
  refine ⟨fun j => ?_, fun j k => ?_, fun j k => ?_⟩
  · rw [show stage V 28 (Proc.devRef .tc main_values_0) = stage V 11 (Proc.devRef .tc main_values_0) from stage_keep V main_values_0 11 17 (by decide)]
    refine (congrFun (values1_eq (stage V 10)) (ix2 n j)).trans ?_
    rw [stage_scores1]
    exact level_value layer1 _ _ _ _ n hH sliceFits_S2x3072_S2x400 (by norm_num) (by norm_num) j
  · rw [show stage V 24 (Proc.devRef .tc main_v11) = stage V 14 (Proc.devRef .tc main_v11) from stage_keep V main_v11 14 10 (by decide)]
    refine (congrFun (chosenDeltas1_eq (stage V 13)) (ix3 n j k)).trans ?_
    rw [show stage V 13 (Proc.devRef .tc main_indices_1) = stage V 11 (Proc.devRef .tc main_indices_1) from stage_keep V main_indices_1 11 2 (by decide),
      show stage V 13 (Proc.devRef .tc main_v10) = _ from hd, show stage V 11 (Proc.devRef .tc main_indices_1) = _ from hi]
    exact level_delta layer1 _ _ _ _ n hH sliceFits_S2x3072_S2x400 (by norm_num) (by norm_num) j _ _ _ _ (by norm_num) _ _ k
  · rw [show stage V 24 (Proc.devRef .tc main_v13) = stage V 16 (Proc.devRef .tc main_v13) from stage_keep V main_v13 16 8 (by decide)]
    refine (congrFun (chosenAnchors1_eq (stage V 15)) (ix3 n j k)).trans ?_
    rw [show stage V 15 (Proc.devRef .tc main_indices_1) = stage V 11 (Proc.devRef .tc main_indices_1) from stage_keep V main_indices_1 11 4 (by decide),
      show stage V 15 (Proc.devRef .tc main_v12) = _ from ha, show stage V 11 (Proc.devRef .tc main_indices_1) = _ from hi,
      show stage V 14 (Proc.devRef .tc main_v9) = stage V 12 (Proc.devRef .tc main_v9) from stage_keep V main_v9 12 2 (by decide), show stage V 12 (Proc.devRef .tc main_v9) = _ from ha']
    exact level_anchor layer1 _ _ _ _ n hH sliceFits_S2x3072_S2x400 (by norm_num) (by norm_num) j _ _ _ _ (by norm_num) mesh1 _ _ _ _ _ k

/-- Level 2's hidden maps, where its heads read them. -/
theorem stage_hidden2 : stage V 17 (Proc.devRef .tc main_v14)
    = hiddenMaps layer2 (V (Proc.devRef .tc main_arg2)) (V (Proc.devRef .tc main_arg3)) (V (Proc.devRef .tc main_arg4)) := by
  have e := hidden2_eq (stage V 16)
  rw [stage_args V main_arg2 (by decide) 16 (by decide), stage_args V main_arg3 (by decide) 16 (by decide), stage_args V main_arg4 (by decide) 16 (by decide)] at e
  exact e

/-- Its scores. -/
theorem stage_scores2 : stage V 18 (Proc.devRef .tc main_v15) = scoreRows layer2 (stage V 17 (Proc.devRef .tc main_v14)) (V (Proc.devRef .tc main_arg5)) (V (Proc.devRef .tc main_arg6)) := by
  have e := scores2_eq (stage V 17)
  rw [stage_args V main_arg5 (by decide) 17 (by decide), stage_args V main_arg6 (by decide) 17 (by decide)] at e
  exact e

/-- Level 2's arrays. -/
theorem stage_level2 (n : Fin 2) : LevelAt (weights V) anchors32 (by norm_num) (map2 V n) n (stage V 28 (Proc.devRef .tc main_values_2))
    (stage V 24 (Proc.devRef .tc main_v18)) (stage V 24 (Proc.devRef .tc main_v20)) := by
  have hH : ∀ c (y x : Fin 16), stage V 17 (Proc.devRef .tc main_v14) (ix4 n c y x : S2x256x16x16.Idx) = (weights V).hidden (map2 V n) c y.val x.val := by
    intro c y x
    rw [stage_hidden2]
    exact hiddenMaps_at layer2 _ _ _ n c y x
  have hi := (indices2_eq (stage V 18)).trans (by rw [stage_scores2])
  have hd := deltas2_eq (stage V 20)
  rw [stage_args V main_arg7 (by decide) 20 (by decide), stage_args V main_arg8 (by decide) 20 (by decide), stage_keep V main_v14 17 3 (by decide)] at hd
  have ha := spread2_eq (stage V 22)
  have ha' := anchors2_eq (stage V 19)
  refine ⟨fun j => ?_, fun j k => ?_, fun j k => ?_⟩
  · rw [show stage V 28 (Proc.devRef .tc main_values_2) = stage V 19 (Proc.devRef .tc main_values_2) from stage_keep V main_values_2 19 9 (by decide)]
    refine (congrFun (values2_eq (stage V 18)) (ix2 n j)).trans ?_
    rw [stage_scores2]
    exact level_value layer2 _ _ _ _ n hH sliceFits_S2x768_S2x400 (by norm_num) (by norm_num) j
  · rw [show stage V 24 (Proc.devRef .tc main_v18) = stage V 22 (Proc.devRef .tc main_v18) from stage_keep V main_v18 22 2 (by decide)]
    refine (congrFun (chosenDeltas2_eq (stage V 21)) (ix3 n j k)).trans ?_
    rw [show stage V 21 (Proc.devRef .tc main_indices_3) = stage V 19 (Proc.devRef .tc main_indices_3) from stage_keep V main_indices_3 19 2 (by decide),
      show stage V 21 (Proc.devRef .tc main_v17) = _ from hd, show stage V 19 (Proc.devRef .tc main_indices_3) = _ from hi]
    exact level_delta layer2 _ _ _ _ n hH sliceFits_S2x768_S2x400 (by norm_num) (by norm_num) j _ _ _ _ (by norm_num) _ _ k
  · rw [show stage V 24 (Proc.devRef .tc main_v20) = stage V 24 (Proc.devRef .tc main_v20) from stage_keep V main_v20 24 0 (by decide)]
    refine (congrFun (chosenAnchors2_eq (stage V 23)) (ix3 n j k)).trans ?_
    rw [show stage V 23 (Proc.devRef .tc main_indices_3) = stage V 19 (Proc.devRef .tc main_indices_3) from stage_keep V main_indices_3 19 4 (by decide),
      show stage V 23 (Proc.devRef .tc main_v19) = _ from ha, show stage V 19 (Proc.devRef .tc main_indices_3) = _ from hi,
      show stage V 22 (Proc.devRef .tc main_v16) = stage V 20 (Proc.devRef .tc main_v16) from stage_keep V main_v16 20 2 (by decide), show stage V 20 (Proc.devRef .tc main_v16) = _ from ha']
    exact level_anchor layer2 _ _ _ _ n hH sliceFits_S2x768_S2x400 (by norm_num) (by norm_num) j _ _ _ _ (by norm_num) mesh2 _ _ _ _ _ k

end Cert.ReferenceIdeal

end
-- ==== Proof.RefBox.lean ====
/- The reference's boxes and overlaps at an index, over the six rows of chosen anchors (a level's two images after another). -/
module

public import proofs.«01_k».proof.Proof.RefGrid
public import proofs.«01_k».proof.Proof.Gen.ReferenceIdeal
public import proofs.«01_k».proof.Proof.Gen.ReferenceIdeal.Run

@[expose] public section

noncomputable section

namespace Cert.ReferenceIdeal

open Idealize.ShloMosaic Idealize.ShloMosaic.TcCoe Cert.ReferenceIdeal.Gen Cert.Level Cert.Spec Cert.Ref

/-- One coordinate of every box. -/
def coord (v : FVec Ideal S6x400x4 .f32) (k : ℕ) (h : S6x400x4.Slices ![0, 0, k] S6x400x1) : FVec Ideal S6x400 .f32 :=
  shapeCast S6x400 (extractStridedSlice S6x400x1 ![0, 0, k] v h) shapeCasts_S6x400x1_S6x400

/-- A coordinate at an index. -/
theorem coord_at (v : FVec Ideal S6x400x4 .f32) (k : Fin 4) (h) (g : Fin 6) (j : Fin 400) : coord v k.val h (ix2 g j) = v (ix3 g j k) := by
  unfold coord shapeCast
  refine (congrArg _ (Shape.reshapeEquiv_eq_of_rowMajor (y := ix3 g j (0 : Fin 1)) shapeCasts_S6x400x1_S6x400 ?_)).trans ?_
  · rw [Shape.rowMajor_val_three, Shape.rowMajor_val_two]
    show (g.val * 400 + j.val) * 1 + 0 = g.val * 400 + j.val
    omega
  · refine extractStridedSlice_apply _ _ _ _ _ fun b => ?_
    match b with
    | ⟨0, _⟩ => exact (Nat.zero_add _).symm
    | ⟨1, _⟩ => exact (Nat.zero_add _).symm
    | ⟨2, _⟩ => rfl

/-- The four coordinates at an index. -/
theorem coords_at (v : FVec Ideal S6x400x4 .f32) (g : Fin 6) (j : Fin 400) :
    coord v 0 slices_S6x400x4_S6x400x1_0_0_0 (ix2 g j) = v (ix3 g j 0) ∧ coord v 1 slices_S6x400x4_S6x400x1_0_0_1 (ix2 g j) = v (ix3 g j 1)
    ∧ coord v 2 slices_S6x400x4_S6x400x1_0_0_2 (ix2 g j) = v (ix3 g j 2) ∧ coord v 3 slices_S6x400x4_S6x400x1_0_0_3 (ix2 g j) = v (ix3 g j 3) :=
  ⟨coord_at v 0 _ g j, coord_at v 1 _ g j, coord_at v 2 _ g j, coord_at v 3 _ g j⟩

/-- The number of a word, everywhere. -/
abbrev all (w : BitVec 32) : FVec Ideal S6x400 .f32 := broadcastInDim S6x400 ![] bcast_S_S6x400 (constant S_ .f32 w)

/-- An anchor's extent, a box's middle and half its extent, from the coordinates of one axis. -/
def span (lo hi : FVec Ideal S6x400 .f32) : FVec Ideal S6x400 .f32 := subf hi lo
@[inherit_doc span] def middle (lo hi d : FVec Ideal S6x400 .f32) : FVec Ideal S6x400 .f32 :=
  addf (mulf d (span lo hi)) (addf lo (mulf (all 0x3F000000#32) (span lo hi)))
@[inherit_doc span] def reach (lo hi s : FVec Ideal S6x400 .f32) : FVec Ideal S6x400 .f32 :=
  mulf (all 0x3F000000#32) (mulf (Host.exp (minimumf s (all 0x405542D7#32))) (span lo hi))

/-- The boxes of anchors `a` with offsets `d`. -/
def boxesOf (d a : FVec Ideal S6x400x4 .f32) : FVec Ideal S6x400x4 .f32 :=
  let x0 := coord a 0 slices_S6x400x4_S6x400x1_0_0_0
  let y0 := coord a 1 slices_S6x400x4_S6x400x1_0_0_1
  let x1 := coord a 2 slices_S6x400x4_S6x400x1_0_0_2
  let y1 := coord a 3 slices_S6x400x4_S6x400x1_0_0_3
  let dx := coord d 0 slices_S6x400x4_S6x400x1_0_0_0
  let dy := coord d 1 slices_S6x400x4_S6x400x1_0_0_1
  let dw := coord d 2 slices_S6x400x4_S6x400x1_0_0_2
  let dh := coord d 3 slices_S6x400x4_S6x400x1_0_0_3
  minimumf (maximumf (concatenate S6x400x4 2
    [⟨S6x400x1, broadcastInDim S6x400x1 ![0, 1] bcast_S6x400_S6x400x1_0_1 (subf (middle x0 x1 dx) (reach x0 x1 dw))⟩,
     ⟨S6x400x1, broadcastInDim S6x400x1 ![0, 1] bcast_S6x400_S6x400x1_0_1 (subf (middle y0 y1 dy) (reach y0 y1 dh))⟩,
     ⟨S6x400x1, broadcastInDim S6x400x1 ![0, 1] bcast_S6x400_S6x400x1_0_1 (addf (middle x0 x1 dx) (reach x0 x1 dw))⟩,
     ⟨S6x400x1, broadcastInDim S6x400x1 ![0, 1] bcast_S6x400_S6x400x1_0_1 (addf (middle y0 y1 dy) (reach y0 y1 dh))⟩] concatenates_S6x400x1_S6x400x1_S6x400x1_S6x400x1_S6x400x4_d2)
    (broadcastInDim S6x400x4 ![] bcast_S_S6x400x4 (constant S_ .f32 0x00000000#32)))
    (broadcastInDim S6x400x4 ![] bcast_S_S6x400x4 (constant S_ .f32 0x44000000#32))

/-- A last axis of one, at an index. -/
theorem unit_at (v : FVec Ideal S6x400 .f32) (g : Fin 6) (j : Fin 400) :
    broadcastInDim S6x400x1 ![0, 1] bcast_S6x400_S6x400x1_0_1 v (ix3 g j 0) = v (ix2 g j) := by
  refine broadcastInDim_apply _ _ _ _ (ix2 g j) fun b => ?_
  match b with
  | ⟨0, _⟩ => rfl
  | ⟨1, _⟩ => rfl

/-- Four of them at an index. -/
theorem units_at (x y z w : FVec Ideal S6x400 .f32) (g : Fin 6) (j : Fin 400) (k : Fin 4) :
    (![broadcastInDim S6x400x1 ![0, 1] bcast_S6x400_S6x400x1_0_1 x, broadcastInDim S6x400x1 ![0, 1] bcast_S6x400_S6x400x1_0_1 y,
       broadcastInDim S6x400x1 ![0, 1] bcast_S6x400_S6x400x1_0_1 z, broadcastInDim S6x400x1 ![0, 1] bcast_S6x400_S6x400x1_0_1 w]
      : Fin 4 → (Rows 6 400 1).Idx → EReal) k (ix3 g j 0) = (![x (ix2 g j), y (ix2 g j), z (ix2 g j), w (ix2 g j)] : Fin 4 → EReal) k := by
  fin_cases k
  · exact unit_at x g j
  · exact unit_at y g j
  · exact unit_at z g j
  · exact unit_at w g j

/-- A box at an index. -/
theorem boxesOf_at (d a : FVec Ideal S6x400x4 .f32) (g : Fin 6) (j : Fin 400) (k : Fin 4) :
    boxesOf d a (ix3 g j k) = decode (fun k => d (ix3 g j k)) (fun k => a (ix3 g j k)) k := by
  have e : ∀ x : FVec Ideal S6x400x4 .f32,
      minimumf (maximumf x (broadcastInDim S6x400x4 ![] bcast_S_S6x400x4 (constant S_ .f32 0x00000000#32)))
        (broadcastInDim S6x400x4 ![] bcast_S_S6x400x4 (constant S_ .f32 0x44000000#32)) (ix3 g j k)
      = min (max (x (ix3 g j k)) (w32 0x00000000#32)) (w32 0x44000000#32) := fun _ => rfl
  have z : w32 0x00000000#32 = 0 := by simp [w32]
  obtain ⟨a0, a1, a2, a3⟩ := coords_at a g j
  obtain ⟨d0, d1, d2, d3⟩ := coords_at d g j
  have m : ∀ lo hi d : FVec Ideal S6x400 .f32, middle lo hi d (ix2 g j) = mid (lo (ix2 g j)) (hi (ix2 g j)) (d (ix2 g j)) := fun _ _ _ => rfl
  have r : ∀ lo hi s : FVec Ideal S6x400 .f32, reach lo hi s (ix2 g j) = w32 0x3F000000#32 * ext (lo (ix2 g j)) (hi (ix2 g j)) (s (ix2 g j)) := fun _ _ _ => rfl
  unfold boxesOf
  rw [e, beside_at (A := 6) (B := 400), z]
  have s : ∀ x y : FVec Ideal S6x400 .f32, subf x y (ix2 g j) = x (ix2 g j) - y (ix2 g j) := fun _ _ => rfl
  have t : ∀ x y : FVec Ideal S6x400 .f32, addf x y (ix2 g j) = x (ix2 g j) + y (ix2 g j) := fun _ _ => rfl
  rw [units_at, s, s, t, t, m, m, r, r, a0, a1, a2, a3, d0, d1, d2, d3]
  fin_cases k <;> rfl

/-- A box's number down the rows of a square, and across. -/
def downS (v : FVec Ideal S6x400 .f32) : FVec Ideal S6x400x400 .f32 :=
  broadcastInDim S6x400x400 ![0, 1, 2] bcast_S6x400x1_S6x400x400_0_1_2 (broadcastInDim S6x400x1 ![0, 1] bcast_S6x400_S6x400x1_0_1 v)
@[inherit_doc downS] def acrossS (v : FVec Ideal S6x400 .f32) : FVec Ideal S6x400x400 .f32 :=
  broadcastInDim S6x400x400 ![0, 1, 2] bcast_S6x1x400_S6x400x400_0_1_2 (broadcastInDim S6x1x400 ![0, 2] bcast_S6x400_S6x1x400_0_2 v)

/-- At an index. -/
theorem downS_at (v : FVec Ideal S6x400 .f32) (g : Fin 6) (i j : Fin 400) : downS v (ix3 g i j) = v (ix2 g i) := by
  unfold downS
  refine (broadcastInDim_apply _ _ _ _ (ix3 g i (0 : Fin 1)) fun b => ?_).trans (unit_at v g i)
  match b with
  | ⟨0, _⟩ => rfl
  | ⟨1, _⟩ => rfl
  | ⟨2, _⟩ => rfl

@[inherit_doc downS_at] theorem acrossS_at (v : FVec Ideal S6x400 .f32) (g : Fin 6) (i j : Fin 400) : acrossS v (ix3 g i j) = v (ix2 g j) := by
  unfold acrossS
  refine (broadcastInDim_apply _ _ _ _ (ix3 g (0 : Fin 1) j) fun b => ?_).trans (broadcastInDim_apply _ _ _ _ (ix2 g j) fun b => ?_)
  · match b with
    | ⟨0, _⟩ => rfl
    | ⟨1, _⟩ => rfl
    | ⟨2, _⟩ => rfl
  · match b with
    | ⟨0, _⟩ => rfl
    | ⟨1, _⟩ => rfl

/-- The number of a word, over the squares. -/
abbrev allS (w : BitVec 32) : FVec Ideal S6x400x400 .f32 := broadcastInDim S6x400x400 ![] bcast_S_S6x400x400 (constant S_ .f32 w)

/-- The areas, and the common areas of all pairs. -/
def areasOf (b : FVec Ideal S6x400x4 .f32) : FVec Ideal S6x400 .f32 :=
  mulf (subf (coord b 2 slices_S6x400x4_S6x400x1_0_0_2) (coord b 0 slices_S6x400x4_S6x400x1_0_0_0))
    (subf (coord b 3 slices_S6x400x4_S6x400x1_0_0_3) (coord b 1 slices_S6x400x4_S6x400x1_0_0_1))
@[inherit_doc areasOf] def commonOf (b : FVec Ideal S6x400x4 .f32) : FVec Ideal S6x400x400 .f32 :=
  let x0 := coord b 0 slices_S6x400x4_S6x400x1_0_0_0
  let y0 := coord b 1 slices_S6x400x4_S6x400x1_0_0_1
  let x1 := coord b 2 slices_S6x400x4_S6x400x1_0_0_2
  let y1 := coord b 3 slices_S6x400x4_S6x400x1_0_0_3
  mulf (maximumf (subf (minimumf (downS x1) (acrossS x1)) (maximumf (downS x0) (acrossS x0))) (allS 0x00000000#32))
    (maximumf (subf (minimumf (downS y1) (acrossS y1)) (maximumf (downS y0) (acrossS y0))) (allS 0x00000000#32))

/-- The overlaps of all pairs of a row's boxes. -/
def overlapsOf (b : FVec Ideal S6x400x4 .f32) : FVec Ideal S6x400x400 .f32 :=
  Host.divf (commonOf b) (maximumf (subf (addf (downS (areasOf b)) (acrossS (areasOf b))) (commonOf b)) (allS 0x322BCC77#32))

/-- An overlap at an index. -/
theorem overlapsOf_at (b : FVec Ideal S6x400x4 .f32) (g : Fin 6) (i j : Fin 400) :
    overlapsOf b (ix3 g i j) = overlap (fun k => b (ix3 g i k)) (fun k => b (ix3 g j k)) := by
  have z : w32 0x00000000#32 = 0 := by simp [w32]
  obtain ⟨i0, i1, i2, i3⟩ := coords_at b g i
  obtain ⟨j0, j1, j2, j3⟩ := coords_at b g j
  have ea : ∀ i, areasOf b (ix2 g i) = area (fun k => b (ix3 g i k)) := by
    intro i
    have e : areasOf b (ix2 g i) = (coord b 2 slices_S6x400x4_S6x400x1_0_0_2 (ix2 g i) - coord b 0 slices_S6x400x4_S6x400x1_0_0_0 (ix2 g i))
      * (coord b 3 slices_S6x400x4_S6x400x1_0_0_3 (ix2 g i) - coord b 1 slices_S6x400x4_S6x400x1_0_0_1 (ix2 g i)) := rfl
    obtain ⟨i0, i1, i2, i3⟩ := coords_at b g i
    rw [e, i0, i1, i2, i3]; rfl
  have ec : commonOf b (ix3 g i j) = common (fun k => b (ix3 g i k)) (fun k => b (ix3 g j k)) := by
    have e : ∀ x0 y0 x1 y1 : FVec Ideal S6x400 .f32,
      mulf (maximumf (subf (minimumf (downS x1) (acrossS x1)) (maximumf (downS x0) (acrossS x0))) (allS 0x00000000#32))
        (maximumf (subf (minimumf (downS y1) (acrossS y1)) (maximumf (downS y0) (acrossS y0))) (allS 0x00000000#32)) (ix3 g i j)
      = max (min (downS x1 (ix3 g i j)) (acrossS x1 (ix3 g i j)) - max (downS x0 (ix3 g i j)) (acrossS x0 (ix3 g i j))) (w32 0x00000000#32)
        * max (min (downS y1 (ix3 g i j)) (acrossS y1 (ix3 g i j)) - max (downS y0 (ix3 g i j)) (acrossS y0 (ix3 g i j))) (w32 0x00000000#32) :=
      fun _ _ _ _ => rfl
    unfold commonOf
    rw [e, z]
    simp only [downS_at, acrossS_at]
    rw [i0, i1, i2, i3, j0, j1, j2, j3]; rfl
  have e : overlapsOf b (ix3 g i j) = Ideal.div (commonOf b (ix3 g i j))
      (max (downS (areasOf b) (ix3 g i j) + acrossS (areasOf b) (ix3 g i j) - commonOf b (ix3 g i j)) (w32 0x322BCC77#32)) := rfl
  rw [e, ec, downS_at, acrossS_at, ea, ea]
  rfl

variable (V : Valuation τ sig (Elt Ideal))

/-- The stretch that decodes the boxes. -/
theorem decode_eq : StableHlo.after hostOps0_25 V (Proc.devRef .tc main_v23)
    = boxesOf (V (Proc.devRef .tc main_v21)) (V (Proc.devRef .tc main_v22)) := by
  after_reads_simp
  dsimp only [Matrix.cons_val, StableHlo.TRef.of]
  simp -implicitDefEqProofs only [StableHlo.TRef.toBuf, StableHlo.TRef.ofBuf, cast_cast, cast_eq]
  rfl

/-- The stretch that computes the overlaps. -/
theorem iou_eq : StableHlo.after hostOps0_26 V (Proc.devRef .tc main_v24) = overlapsOf (V (Proc.devRef .tc main_v23)) := by
  after_reads_simp
  simp -implicitDefEqProofs only [StableHlo.TRef.toBuf, StableHlo.TRef.ofBuf, cast_cast, cast_eq]
  rfl

end Cert.ReferenceIdeal

end
-- ==== Proof.RefLoop.lean ====
/- The reference's suppression loop: which boxes are kept after its 400 trips. -/
module

public import proofs.«01_k».proof.Proof.RefBox
public import proofs.«01_k».proof.Proof.RefRun
public import Idealize.ShloMosaic.Lib.DynamicIndex

@[expose] public section

noncomputable section

namespace Cert.ReferenceIdeal

open Idealize.ShloMosaic Idealize.ShloMosaic.TcCoe Cert.ReferenceIdeal.Gen Cert.ReferenceIdeal.Value Cert.Level Cert.Spec Cert.Ref

/-- The loop's index, counted from the end where it is negative. -/
def wrapped (idx : IVec S_ 32) : IVec S_ 32 :=
  select (cmpi .slt idx (constantI S_ 32 0#32)) (addi (id idx) (constantI S_ 32 400#32)) idx

/-- At a trip's number it is that number. -/
theorem wrapped_at (i : ℕ) (hi : i < 400) (u : S_.Idx) : wrapped (fun _ => BitVec.ofNat 32 i) u = BitVec.ofNat 32 i := by
  have e : cmpi .slt (fun _ => BitVec.ofNat 32 i) (constantI S_ 32 0#32) u = 0#1 := by
    show BitVec.ofBool (BitVec.slt (BitVec.ofNat 32 i) 0#32) = 0#1
    rw [BitVec.slt, StableHlo.Predicate.toInt_ofNat_small _ (by omega)]
    simp only [BitVec.toInt_zero]
    rw [decide_eq_false (by omega)]
    rfl
  show (if cmpi .slt (fun _ => BitVec.ofNat 32 i) (constantI S_ 32 0#32) u = 1#1 then _ else BitVec.ofNat 32 i) = _
  rw [e, if_neg (by decide)]

/-- Row `i` of every square of overlaps. -/
def rowOfSquare (M : FVec Ideal S6x400x400 .f32) (idx : IVec S_ 32) : FVec Ideal S6x400 .f32 :=
  shapeCast S6x400 (Host.dynamicSlice S6x1x400 M (fun k => (((![constantI S_ 32 0#32, wrapped idx, constantI S_ 32 0#32] :
    Fin 3 → IVec S_ 32)) k (Shape.Idx.first h_S_)).toInt) sliceFits_S6x400x400_S6x1x400) shapeCasts_S6x1x400_S6x400

/-- Whether box `i` is kept so far. -/
def turnOf (K : IVec S6x400 1) (idx : IVec S_ 32) : IVec S6x1 1 :=
  Host.dynamicSlice S6x1 K (fun k => (((![constantI S_ 32 0#32, wrapped idx] : Fin 2 → IVec S_ 32)) k (Shape.Idx.first h_S_)).toInt) sliceFits_S6x400_S6x1

/-- One trip. -/
def keepStep (M : FVec Ideal S6x400x400 .f32) (idx : IVec S_ 32) (K : IVec S6x400 1) : IVec S6x400 1 :=
  id (andi K (noti (andi (andi (cmpf .ogt (rowOfSquare M idx) (broadcastInDim S6x400 ![] bcast_S_S6x400 (constant S_ .f32 0x3F333333#32)))
    (broadcastInDim S6x400 ![0, 1] bcast_S1x400_S6x400_0_1 (broadcastInDim S1x400 ![1] bcast_S400_S1x400_1
      (cmpi .sgt (iotaInDim S400 32 0) (broadcastInDim S400 ![] bcast_S_S400 (id idx))))))
    (broadcastInDim S6x400 ![0, 1] bcast_S6x1_S6x400_0_1 (turnOf K idx)))))

/-- The row at an index. -/
theorem rowOfSquare_at (M : FVec Ideal S6x400x400 .f32) (i : Fin 400) (g : Fin 6) (j : Fin 400) :
    rowOfSquare M (fun _ => BitVec.ofNat 32 i.val) (ix2 g j) = M (ix3 g i j) := by
  unfold rowOfSquare shapeCast
  refine (congrArg _ (Shape.reshapeEquiv_eq_of_rowMajor (y := ix3 g (0 : Fin 1) j) shapeCasts_S6x1x400_S6x400 ?_)).trans ?_
  · rw [Shape.rowMajor_val_three, Shape.rowMajor_val_two]
    show (g.val * 1 + 0) * 400 + j.val = g.val * 400 + j.val
    omega
  have hi := i.isLt
  have ei : (BitVec.ofNat 32 i.val).toInt = i.val := StableHlo.Predicate.toInt_ofNat_small _ (by omega)
  unfold Host.dynamicSlice
  refine extractStridedSlice_apply _ _ _ _ _ fun b => ?_
  match b with
  | ⟨0, _⟩ => exact (Nat.zero_add _).symm
  | ⟨1, _⟩ =>
    show i.val = (min (max ((wrapped (fun _ => BitVec.ofNat 32 i.val) (Shape.Idx.first h_S_)).toInt) 0) ((400 - 1 : ℕ) : ℤ)).toNat + 0
    rw [wrapped_at _ hi, ei]
    omega
  | ⟨2, _⟩ => exact (Nat.zero_add _).symm

/-- Box `i`'s turn at an index. -/
theorem turnOf_at (K : IVec S6x400 1) (i : Fin 400) (g : Fin 6) : turnOf K (fun _ => BitVec.ofNat 32 i.val) (ix2 g 0) = K (ix2 g i) := by
  have hi := i.isLt
  have ei : (BitVec.ofNat 32 i.val).toInt = i.val := StableHlo.Predicate.toInt_ofNat_small _ (by omega)
  unfold turnOf Host.dynamicSlice
  refine extractStridedSlice_apply _ _ _ _ _ fun b => ?_
  match b with
  | ⟨0, _⟩ => exact (Nat.zero_add _).symm
  | ⟨1, _⟩ =>
    show i.val = (min (max ((wrapped (fun _ => BitVec.ofNat 32 i.val) (Shape.Idx.first h_S_)).toInt) 0) ((400 - 1 : ℕ) : ℤ)).toNat + 0
    rw [wrapped_at _ hi, ei]
    omega

/-- Which boxes come after box `i`. -/
theorem later_at (i j : Fin 400) (g : Fin 6) :
    broadcastInDim S6x400 ![0, 1] bcast_S1x400_S6x400_0_1 (broadcastInDim S1x400 ![1] bcast_S400_S1x400_1
      (cmpi .sgt (iotaInDim S400 32 0) (broadcastInDim S400 ![] bcast_S_S400 (id (fun _ => BitVec.ofNat 32 i.val : IVec S_ 32))))) (ix2 g j)
      = BitVec.ofBool (decide (i.val < j.val)) := by
  have hi := i.isLt
  have hj := j.isLt
  refine (broadcastInDim_apply _ _ _ _ (ix2 (0 : Fin 1) j) fun b => ?_).trans ((broadcastInDim_apply _ _ _ _ (ix1 j) fun b => ?_).trans ?_)
  · match b with
    | ⟨0, _⟩ => rfl
    | ⟨1, _⟩ => rfl
  · match b with
    | ⟨0, _⟩ => rfl
  · show BitVec.ofBool (BitVec.slt (BitVec.ofNat 32 i.val) (BitVec.ofNat 32 j.val)) = _
    rw [BitVec.slt, StableHlo.Predicate.toInt_ofNat_small _ (by omega), StableHlo.Predicate.toInt_ofNat_small _ (by omega)]
    simp

/-- One trip at an index. -/
theorem keepStep_at (M : FVec Ideal S6x400x400 .f32) (K : IVec S6x400 1) (g : Fin 6) (n : ℕ) (hn : n < 400)
    (hK : ∀ j, K (ix2 g j) = BitVec.ofBool (kept (fun a b => M (ix3 g a b)) n j)) (j : Fin 400) :
    keepStep M (fun _ => BitVec.ofNat 32 n) K (ix2 g j) = BitVec.ofBool (kept (fun a b => M (ix3 g a b)) (n + 1) j) := by
  have et : broadcastInDim S6x400 ![0, 1] bcast_S6x1_S6x400_0_1 (turnOf K (fun _ => BitVec.ofNat 32 n)) (ix2 g j) = K (ix2 g ⟨n, hn⟩) := by
    refine (broadcastInDim_apply _ _ _ _ (ix2 g (0 : Fin 1)) fun b => ?_).trans (turnOf_at K ⟨n, hn⟩ g)
    match b with
    | ⟨0, _⟩ => rfl
    | ⟨1, _⟩ => rfl
  have e : keepStep M (fun _ => BitVec.ofNat 32 n) K (ix2 g j)
      = K (ix2 g j) &&& ~~~((BitVec.ofBool (decide (w32 0x3F333333#32 < rowOfSquare M (fun _ => BitVec.ofNat 32 n) (ix2 g j)))
        &&& broadcastInDim S6x400 ![0, 1] bcast_S1x400_S6x400_0_1 (broadcastInDim S1x400 ![1] bcast_S400_S1x400_1
          (cmpi .sgt (iotaInDim S400 32 0) (broadcastInDim S400 ![] bcast_S_S400 (id (fun _ => BitVec.ofNat 32 n : IVec S_ 32))))) (ix2 g j))
        &&& broadcastInDim S6x400 ![0, 1] bcast_S6x1_S6x400_0_1 (turnOf K (fun _ => BitVec.ofNat 32 n)) (ix2 g j)) := rfl
  rw [e, et, rowOfSquare_at M ⟨n, hn⟩ g j, later_at ⟨n, hn⟩ j g, hK, hK]
  have hs : Spec.kept (fun a b => M (ix3 g a b)) (n + 1) j = (Spec.kept (fun a b => M (ix3 g a b)) n j
      && !(decide (w32 0x3F333333#32 < M (ix3 g ⟨n, hn⟩ j)) && decide (n < j.val) && Spec.kept (fun a b => M (ix3 g a b)) n ⟨n, hn⟩)) := by
    conv_lhs => unfold Spec.kept
    rw [dif_pos hn]
  rw [hs]
  generalize Spec.kept (fun a b => M (ix3 g a b)) n j = k1
  generalize Spec.kept (fun a b => M (ix3 g a b)) n ⟨n, hn⟩ = k2
  generalize decide (w32 0x3F333333#32 < M (ix3 g ⟨n, hn⟩ j)) = k3
  generalize decide (n < j.val) = k4
  revert k1 k2 k3 k4
  decide

variable (E : Valuation τ sig (Elt Ideal)) (h2 : E (Proc.devRef .tc main_v26_2) = fun _ => (0#32 : BitVec 32))
  (h3 : E (Proc.devRef .tc main_v26_3) = fun _ => (1#1 : BitVec 1))
include h2 h3

/-- The carried buffers after `n` trips. -/
theorem loop_at : ∀ n : ℕ, n ≤ 400 →
    STEP^[n] E (Proc.devRef .tc main_v26_0) = E (Proc.devRef .tc main_v26_0)
    ∧ STEP^[n] E (Proc.devRef .tc main_v26_2) = (fun _ => BitVec.ofNat 32 n)
    ∧ ∀ (g : Fin 6) (j : Fin 400), (STEP^[n] E (Proc.devRef .tc main_v26_3) : S6x400.Idx → BitVec 1) (ix2 g j)
        = BitVec.ofBool (kept (fun a b => (E (Proc.devRef .tc main_v26_0) : S6x400x400.Idx → EReal) (ix3 g a b)) n j)
  | 0, _ => ⟨rfl, h2, fun g j => by
      show (E (Proc.devRef .tc main_v26_3) : S6x400.Idx → BitVec 1) (ix2 g j) = _
      rw [h3]
      rfl⟩
  | n + 1, hn => by
    obtain ⟨i0, i2, i3⟩ := loop_at n (by omega)
    rw [Function.iterate_succ_apply']
    refine ⟨(STEP_main_v26_0 _).trans i0, (STEP_main_v26_2 _).trans ?_, fun g j => ?_⟩
    · unfold step_main_v26_2
      rw [i2]
      funext u
      show BitVec.ofNat 32 n + 1#32 = BitVec.ofNat 32 (n + 1)
      rw [BitVec.ofNat_add]
    · refine (congrFun (STEP_main_v26_3 _) (ix2 g j)).trans ?_
      have e : step_main_v26_3 (STEP^[n] E) = keepStep (STEP^[n] E (Proc.devRef .tc main_v26_0)) (STEP^[n] E (Proc.devRef .tc main_v26_2)) (STEP^[n] E (Proc.devRef .tc main_v26_3)) := rfl
      refine (congrFun e (ix2 g j)).trans ?_
      rw [i0, i2]
      exact keepStep_at _ _ g n (by omega) (i3 g) j

end Cert.ReferenceIdeal

end
-- ==== Proof.RefBest.lean ====
/- The reference's last choice at an index: the best hundred kept boxes of every row, laid out by image and level. -/
module

public import proofs.«01_k».proof.Proof.RefBox

@[expose] public section

noncomputable section

namespace Cert.ReferenceIdeal

open Idealize.ShloMosaic Idealize.ShloMosaic.TcCoe Cert.ReferenceIdeal.Gen Cert.Level Cert.Spec Cert.Ref Cert.Order Cert.Rank

/-- The scores, −∞ where a box isn't kept. -/
def keptScores (K : IVec S6x400 1) (s : FVec Ideal S6x400 .f32) : FVec Ideal S6x400 .f32 :=
  select K s (broadcastInDim S6x400 ![] bcast_S_S6x400 (constant S_ .f32 0xFF800000#32))

/-- The best hundred boxes of every row. -/
def bestRows (b : FVec Ideal S6x400x4 .f32) (K : IVec S6x400 1) (s : FVec Ideal S6x400 .f32) : FVec Ideal S6x100x4 .f32 :=
  rowsAt gather_S6x400x4_S6x100x1_S6x100x4_2_1_0_0_1_2_114_wf bcast_S_S6x100 bcast_S6x100_S6x100x1_0_1 400#32 b
    (Host.topK S6x100 1 (FloatOps.cmpfTotal (F := Ideal) (φ := .f32) .gt) (keptScores K s) sliceFits_S6x400_S6x100).2

/-- The six rows as the result holds them. -/
def laidOut (v : FVec Ideal S6x100x4 .f32) : FVec Ideal S2x300x4 .f32 :=
  shapeCast S2x300x4 (transpose S2x3x100x4 [1, 0, 2, 3] (shapeCast S3x2x100x4 v shapeCasts_S6x100x4_S3x2x100x4) transposes_S3x2x100x4_S2x3x100x4_1_0_2_3)
    shapeCasts_S2x3x100x4_S2x300x4

/-- The layout at an index: level `l`'s row of image `n` is row `2 l + n`. -/
theorem laidOut_at (v : FVec Ideal S6x100x4 .f32) (n : Fin 2) (l : Fin 3) (r : Fin 100) (k : Fin 4) :
    laidOut v (ix3 n ⟨100 * l.val + r.val, by omega⟩ k) = v (ix3 ⟨2 * l.val + n.val, by omega⟩ r k) := by
  unfold laidOut shapeCast
  refine (congrArg _ (Shape.reshapeEquiv_eq_of_rowMajor (y := ix4 n l r k) shapeCasts_S2x3x100x4_S2x300x4 ?_)).trans ?_
  · rw [Shape.rowMajor_val_three, Shape.rowMajor_val_four]
    show ((n.val * 3 + l.val) * 100 + r.val) * 4 + k.val = (n.val * 300 + (100 * l.val + r.val)) * 4 + k.val
    omega
  refine (transpose_apply _ _ _ _ (ix4 l n r k) fun b => by fin_cases b <;> rfl).trans ?_
  refine congrArg _ (Shape.reshapeEquiv_eq_of_rowMajor shapeCasts_S6x100x4_S3x2x100x4 ?_)
  rw [Shape.rowMajor_val_three, Shape.rowMajor_val_four]
  show ((2 * l.val + n.val) * 100 + r.val) * 4 + k.val = ((l.val * 2 + n.val) * 100 + r.val) * 4 + k.val
  omega

/-- A row's best boxes at an index. -/
theorem bestRows_at (b : FVec Ideal S6x400x4 .f32) (K : IVec S6x400 1) (s : FVec Ideal S6x400 .f32) (g : Fin 6)
    (hK : ∀ j, K (ix2 g j) = BitVec.ofBool (kept (fun i j => overlap (fun k => b (ix3 g i k)) (fun k => b (ix3 g j k))) 400 j)) (r : Fin 100) (k : Fin 4) :
    bestRows b K s (ix3 g r k) = chosen (fun j k => b (ix3 g j k)) (fun j => s (ix2 g j)) r k := by
  unfold bestRows
  refine rowsAt_at _ _ _ _ _ _ g r k _ (by norm_num) ((top_index (keptScores K s) sliceFits_S6x400_S6x100 (by decide) g r).trans ?_)
  congr 3
  funext j
  have e : keptScores K s (ix2 g j) = if K (ix2 g j) = 1#1 then s (ix2 g j) else w32 0xFF800000#32 := rfl
  show keptScores K s (ix2 g j) = masked _ _ j
  rw [e, hK]
  unfold masked
  rw [show w32 0xFF800000#32 = (⊥ : EReal) by simp [Ideal.ofBits, Ideal.ieee]]
  cases kept (fun i j => overlap (fun k => b (ix3 g i k)) (fun k => b (ix3 g j k))) 400 j <;> rfl

variable (V : Valuation τ sig (Elt Ideal))

/-- The last stretch. -/
theorem best_eq : StableHlo.after hostOps0_29 V (Proc.devRef .tc main_v28)
    = laidOut (bestRows (V (Proc.devRef .tc main_v23)) (V (Proc.devRef .tc main_v26_3)) (V (Proc.devRef .tc main_v27))) := by
  after_reads_simp
  simp -implicitDefEqProofs only [StableHlo.TRef.toBuf, StableHlo.TRef.ofBuf, cast_cast, cast_eq]
  rfl

/-- The three levels' rows, one level after another. -/
def stackedRows {K : ℕ} (x y z : FVec Ideal (Rows 2 400 K) .f32) (h : Shape.Concatenates [Rows 2 400 K, Rows 2 400 K, Rows 2 400 K] (Rows 6 400 K) 0) : FVec Ideal (Rows 6 400 K) .f32 :=
  concatenate (Rows 6 400 K) 0 [⟨Rows 2 400 K, x⟩, ⟨Rows 2 400 K, y⟩, ⟨Rows 2 400 K, z⟩] h

/-- At an index. -/
theorem stackedRows_at {K : ℕ} (x y z : FVec Ideal (Rows 2 400 K) .f32) (h : Shape.Concatenates [Rows 2 400 K, Rows 2 400 K, Rows 2 400 K] (Rows 6 400 K) 0) (l : Fin 3) (n : Fin 2) (j : Fin 400) (k : Fin K) :
    stackedRows x y z h (ix3 ⟨2 * l.val + n.val, by omega⟩ j k) = (![x, y, z] : Fin 3 → FVec Ideal (Rows 2 400 K) .f32) l (ix3 n j k) := by
  have hi : ∀ l : Fin 3, ∀ b : Fin 3, b ≠ 0 →
      ((ix3 n j k : (Rows 2 400 K).Idx) b).val = ((ix3 ⟨2 * l.val + n.val, by omega⟩ j k : (Rows 6 400 K).Idx) b).val := by
    intro l b hb
    fin_cases b
    · exact absurd rfl hb
    · rfl
    · rfl
  unfold stackedRows
  fin_cases l
  · exact concatenate_apply_piece (0 : Fin (Rows 6 400 K).rank) [⟨Rows 2 400 K, x⟩, ⟨Rows 2 400 K, y⟩, ⟨Rows 2 400 K, z⟩] h _ 0 (by simp) _ x rfl rfl 0 rfl
      (ix3 n j k) (hi 0) (by show 0 + n.val = 2 * 0 + n.val; omega)
  · exact concatenate_apply_piece (0 : Fin (Rows 6 400 K).rank) [⟨Rows 2 400 K, x⟩, ⟨Rows 2 400 K, y⟩, ⟨Rows 2 400 K, z⟩] h _ 1 (by simp) _ y rfl rfl 2 rfl
      (ix3 n j k) (hi 1) (by show 2 + n.val = 2 * 1 + n.val; omega)
  · exact concatenate_apply_piece (0 : Fin (Rows 6 400 K).rank) [⟨Rows 2 400 K, x⟩, ⟨Rows 2 400 K, y⟩, ⟨Rows 2 400 K, z⟩] h _ 2 (by simp) _ z rfl rfl 4 rfl
      (ix3 n j k) (hi 2) (by show 4 + n.val = 2 * 2 + n.val; omega)

/-- The three levels' scores, one level after another. -/
def stackedScores (x y z : FVec Ideal (Mat 2 400) .f32) (h : Shape.Concatenates [Mat 2 400, Mat 2 400, Mat 2 400] (Mat 6 400) 0) : FVec Ideal (Mat 6 400) .f32 :=
  concatenate (Mat 6 400) 0 [⟨Mat 2 400, x⟩, ⟨Mat 2 400, y⟩, ⟨Mat 2 400, z⟩] h

/-- At an index. -/
theorem stackedScores_at (x y z : FVec Ideal (Mat 2 400) .f32) (h : Shape.Concatenates [Mat 2 400, Mat 2 400, Mat 2 400] (Mat 6 400) 0) (l : Fin 3) (n : Fin 2) (j : Fin 400) :
    stackedScores x y z h (ix2 ⟨2 * l.val + n.val, by omega⟩ j) = (![x, y, z] : Fin 3 → FVec Ideal (Mat 2 400) .f32) l (ix2 n j) := by
  have hi : ∀ l : Fin 3, ∀ b : Fin 2, b ≠ 0 →
      ((ix2 n j : (Mat 2 400).Idx) b).val = ((ix2 ⟨2 * l.val + n.val, by omega⟩ j : (Mat 6 400).Idx) b).val := by
    intro l b hb
    fin_cases b
    · exact absurd rfl hb
    · rfl
  unfold stackedScores
  fin_cases l
  · exact concatenate_apply_piece (0 : Fin (Mat 6 400).rank) [⟨Mat 2 400, x⟩, ⟨Mat 2 400, y⟩, ⟨Mat 2 400, z⟩] h _ 0 (by simp) _ x rfl rfl 0 rfl
      (ix2 n j) (hi 0) (by show 0 + n.val = 2 * 0 + n.val; omega)
  · exact concatenate_apply_piece (0 : Fin (Mat 6 400).rank) [⟨Mat 2 400, x⟩, ⟨Mat 2 400, y⟩, ⟨Mat 2 400, z⟩] h _ 1 (by simp) _ y rfl rfl 2 rfl
      (ix2 n j) (hi 1) (by show 2 + n.val = 2 * 1 + n.val; omega)
  · exact concatenate_apply_piece (0 : Fin (Mat 6 400).rank) [⟨Mat 2 400, x⟩, ⟨Mat 2 400, y⟩, ⟨Mat 2 400, z⟩] h _ 2 (by simp) _ z rfl rfl 4 rfl
      (ix2 n j) (hi 2) (by show 4 + n.val = 2 * 2 + n.val; omega)

/-- The stretches that stack them. -/
theorem stackDeltas_eq : StableHlo.after hostOps0_24 V (Proc.devRef .tc main_v21)
    = stackedRows (K := 4) (V (Proc.devRef .tc main_v4)) (V (Proc.devRef .tc main_v11)) (V (Proc.devRef .tc main_v18)) concatenates_S2x400x4_S2x400x4_S2x400x4_S6x400x4_d0 := by
  after_reads_simp
  rfl
@[inherit_doc stackDeltas_eq] theorem stackAnchors_eq : StableHlo.after hostOps0_24 V (Proc.devRef .tc main_v22)
    = stackedRows (K := 4) (V (Proc.devRef .tc main_v6)) (V (Proc.devRef .tc main_v13)) (V (Proc.devRef .tc main_v20)) concatenates_S2x400x4_S2x400x4_S2x400x4_S6x400x4_d0 := by
  after_reads_simp
  rfl
@[inherit_doc stackDeltas_eq] theorem stackScores_eq : StableHlo.after hostOps0_28 V (Proc.devRef .tc main_v27)
    = stackedScores (V (Proc.devRef .tc main_values)) (V (Proc.devRef .tc main_values_0)) (V (Proc.devRef .tc main_values_2)) concatenates_S2x400_S2x400_S2x400_S6x400_d0 := by
  after_reads_simp
  rfl

end Cert.ReferenceIdeal

end
-- ==== Proof.RefResult.lean ====
/- The reference's result at an index: each image's proposals, level after level. -/
module

public import proofs.«01_k».proof.Proof.RefValue
public import proofs.«01_k».proof.Proof.RefLoop
public import proofs.«01_k».proof.Proof.RefBest

@[expose] public section

noncomputable section

namespace Cert.ReferenceIdeal

open Idealize.ShloMosaic Idealize.ShloMosaic.StableHlo Idealize.ShloMosaic.TcCoe Cert.ReferenceIdeal.Gen Cert.ReferenceIdeal.Value Cert.Level Cert.Spec Cert.Ref

section
variable (V : Valuation τ sig (Elt Ideal))

/-- The six rows of boxes, of the three levels' chosen offsets and anchors. -/
theorem stage_boxes : stage V 28 (Proc.devRef .tc main_v23) = boxesOf
    (stackedRows (K := 4) (stage V 24 (Proc.devRef .tc main_v4)) (stage V 24 (Proc.devRef .tc main_v11)) (stage V 24 (Proc.devRef .tc main_v18)) concatenates_S2x400x4_S2x400x4_S2x400x4_S6x400x4_d0)
    (stackedRows (K := 4) (stage V 24 (Proc.devRef .tc main_v6)) (stage V 24 (Proc.devRef .tc main_v13)) (stage V 24 (Proc.devRef .tc main_v20)) concatenates_S2x400x4_S2x400x4_S2x400x4_S6x400x4_d0) := by
  refine (stage_keep V main_v23 26 2 (by decide)).trans ((decode_eq (stage V 25)).trans ?_)
  exact congrArg₂ boxesOf (stackDeltas_eq (stage V 24)) (stackAnchors_eq (stage V 24))

/-- What the loop starts from. -/
theorem start_overlaps : after hostOps0_27 V (Proc.devRef .tc main_v26_0) = V (Proc.devRef .tc main_v24) := by
  after_reads_simp
  rfl
@[inherit_doc start_overlaps] theorem start_trip : after hostOps0_27 V (Proc.devRef .tc main_v26_2) = fun _ => (0#32 : BitVec 32) := by
  after_reads_simp
  rfl
@[inherit_doc start_overlaps] theorem start_kept : after hostOps0_27 V (Proc.devRef .tc main_v26_3) = fun _ => (1#1 : BitVec 1) := by
  after_reads_simp
  rfl

/-- The loop's overlaps are those of the boxes. -/
theorem stage_overlaps : stage V 28 (Proc.devRef .tc main_v26_0) = overlapsOf (stage V 28 (Proc.devRef .tc main_v23)) := by
  refine (start_overlaps (stage V 27)).trans ((iou_eq (stage V 26)).trans ?_)
  rw [show stage V 28 (Proc.devRef .tc main_v23) = stage V 26 (Proc.devRef .tc main_v23) from stage_keep V main_v23 26 2 (by decide)]

/-- A box of a row, from the arrays of its level. -/
theorem boxes_at (n : Fin 2) (l : Fin 3) (j : Fin 400) (k : Fin 4) :
    (stage V 28 (Proc.devRef .tc main_v23) : S6x400x4.Idx → EReal) (ix3 ⟨2 * l.val + n.val, by omega⟩ j k)
      = (![(weights V).box anchors8 (by norm_num) (map0 V n), (weights V).box anchors16 (by norm_num) (map1 V n),
          (weights V).box anchors32 (by norm_num) (map2 V n)] : Fin 3 → Fin 400 → Fin 4 → EReal) l j k := by
  rw [stage_boxes]
  refine (boxesOf_at _ _ _ j k).trans ?_
  simp only [stackedRows_at]
  fin_cases l
  · exact congrArg₂ (fun d a => decode d a k) (funext ((stage_level0 V n).delta j)) (funext ((stage_level0 V n).anchor j))
  · exact congrArg₂ (fun d a => decode d a k) (funext ((stage_level1 V n).delta j)) (funext ((stage_level1 V n).anchor j))
  · exact congrArg₂ (fun d a => decode d a k) (funext ((stage_level2 V n).delta j)) (funext ((stage_level2 V n).anchor j))

/-- A score of a row, from the array of its level. -/
theorem scores_at (n : Fin 2) (l : Fin 3) (j : Fin 400) :
    (![stage V 28 (Proc.devRef .tc main_values), stage V 28 (Proc.devRef .tc main_values_0), stage V 28 (Proc.devRef .tc main_values_2)] : Fin 3 → FVec Ideal (Mat 2 400) .f32) l (ix2 n j)
      = (![fun j => (weights V).score (map0 V n) (sel ((weights V).score (map0 V n)) (by norm_num) j), fun j => (weights V).score (map1 V n) (sel ((weights V).score (map1 V n)) (by norm_num) j),
          fun j => (weights V).score (map2 V n) (sel ((weights V).score (map2 V n)) (by norm_num) j)] : Fin 3 → Fin 400 → EReal) l j := by
  have h0 := (stage_level0 V n).score j
  have h1 := (stage_level1 V n).score j
  have h2 := (stage_level2 V n).score j
  generalize stage V 28 (Proc.devRef .tc main_values) = x at h0 ⊢
  generalize stage V 28 (Proc.devRef .tc main_values_0) = y at h1 ⊢
  generalize stage V 28 (Proc.devRef .tc main_values_2) = z at h2 ⊢
  match l with
  | 0 => exact h0
  | 1 => exact h1
  | 2 => exact h2

end

variable (m : (ℓ : Loc nD τ sig) → Buf (Elt Ideal) ℓ) (c : Dev nD)

/-- The buffers after the loop. -/
def looped : Valuation τ sig (Elt Ideal) := after condOps (atTrip condOps bodyI (entryContents preI m) 400 c)

/-- The loop leaves what it doesn't write. -/
theorem looped_keep (r : Ref sig .tc) (hc : r ∉ condOps_W) (h0 : r ∉ while0Ops0_W) (h1 : r ∉ while0Ops0_1_W) (h2 : r ∉ while0Ops0_2_W) (h3 : r ∉ while0Ops0_3_W) :
    looped m c (Proc.devRef .tc r) = stage (launchContents m c) 28 (Proc.devRef .tc r) :=
  (after_of_writes_sub _ _ condOps_writes hc).trans
    ((Cert.RefRun.atTrip_keep r _ hc h0 h1 h2 h3 c 400).trans (by rw [stage_entry]))

/-- Which boxes are kept after the loop. -/
theorem looped_kept (g : Fin 6) (j : Fin 400) :
    (looped m c (Proc.devRef .tc main_v26_3) : IVec S6x400 1) (ix2 g j) = BitVec.ofBool (kept (fun a b =>
      overlap (fun k => (stage (launchContents m c) 28 (Proc.devRef .tc main_v23) : S6x400x4.Idx → EReal) (ix3 g a k))
        (fun k => (stage (launchContents m c) 28 (Proc.devRef .tc main_v23) : S6x400x4.Idx → EReal) (ix3 g b k))) 400 j) := by
  have e : looped m c (Proc.devRef .tc main_v26_3) = STEP^[400] (stage (launchContents m c) 28) (Proc.devRef .tc main_v26_3) :=
    (after_of_writes_sub _ _ condOps_writes (by decide)).trans
      ((atK_agree m c 400 main_v26_3 (by decide)).trans (by rw [stage_entry]))
  have h := (loop_at (stage (launchContents m c) 28) (start_trip (stage (launchContents m c) 27)) (start_kept (stage (launchContents m c) 27)) 400 le_rfl).2.2 g j
  refine (congrFun e (ix2 g j)).trans (h.trans ?_)
  rw [stage_overlaps]
  simp only [overlapsOf_at]

/-- The result at an index: the levels' proposals one after the other. -/
theorem result_at (n : Fin 2) (l : Fin 3) (r : Fin 100) (k : Fin 4) :
    (finalContents condOps preI bodyI postI 400 m c (Proc.devRef .tc main_v28) : S2x300x4.Idx → EReal) (ix3 n ⟨100 * l.val + r.val, by omega⟩ k)
      = (![(weights (launchContents m c)).level anchors8 (by norm_num) (map0 (launchContents m c) n),
          (weights (launchContents m c)).level anchors16 (by norm_num) (map1 (launchContents m c) n),
          (weights (launchContents m c)).level anchors32 (by norm_num) (map2 (launchContents m c) n)] : Fin 3 → Fin 100 → Fin 4 → EReal) l r k := by
  have e : finalContents condOps preI bodyI postI 400 m c = after hostOps0_29 (after hostOps0_28 (looped m c)) := by
    simp only [finalContents, afterL_cons, afterL_nil]
    rfl
  have e23 : after hostOps0_28 (looped m c) (Proc.devRef .tc main_v23) = stage (launchContents m c) 28 (Proc.devRef .tc main_v23) :=
    (after_of_writes_sub _ _ Cert.RefRun.hostOps0_28_writes (by decide)).trans
      (looped_keep m c main_v23 (by decide) (by decide) (by decide) (by decide) (by decide))
  have e26 : after hostOps0_28 (looped m c) (Proc.devRef .tc main_v26_3) = looped m c (Proc.devRef .tc main_v26_3) :=
    after_of_writes_sub _ _ Cert.RefRun.hostOps0_28_writes (by decide)
  have e27 := stackScores_eq (looped m c)
  rw [looped_keep m c main_values (by decide) (by decide) (by decide) (by decide) (by decide),
    looped_keep m c main_values_0 (by decide) (by decide) (by decide) (by decide) (by decide),
    looped_keep m c main_values_2 (by decide) (by decide) (by decide) (by decide) (by decide)] at e27
  rw [e, best_eq, e23, e26, e27]
  refine (laidOut_at _ n l r k).trans ?_
  refine (bestRows_at _ _ _ ⟨2 * l.val + n.val, by omega⟩ (looped_kept m c _) r k).trans ?_
  have hb : (fun (j : Fin 400) (k : Fin 4) => (stage (launchContents m c) 28 (Proc.devRef .tc main_v23) : S6x400x4.Idx → EReal) (ix3 ⟨2 * l.val + n.val, by omega⟩ j k)) = _ :=
    funext fun j => funext fun k => boxes_at (launchContents m c) n l j k
  have hs := funext fun j => stackedScores_at (stage (launchContents m c) 28 (Proc.devRef .tc main_values)) (stage (launchContents m c) 28 (Proc.devRef .tc main_values_0))
    (stage (launchContents m c) 28 (Proc.devRef .tc main_values_2)) concatenates_S2x400_S2x400_S2x400_S6x400_d0 l n j
  refine (congrArg₂ (fun B s => chosen B s r k) hb (hs.trans (funext fun j => scores_at (launchContents m c) n l j))).trans ?_
  generalize launchContents m c = V
  match l with
  | 0 => rfl
  | 1 => rfl
  | 2 => rfl

end Cert.ReferenceIdeal

end
-- ==== Proof.Finite.lean ====
/- Scores of finite maps and weights are finite. -/
module

public import proofs.«01_k».proof.Proof.Whole

@[expose] public section

noncomputable section

namespace Cert.Spec

/-- Neither infinity. -/
def Finite (x : EReal) : Prop := ⊥ < x ∧ x < ⊤

/-- A finite extended real is a real. -/
theorem Finite.coe {x : EReal} (h : Finite x) : ∃ r : ℝ, (r : EReal) = x := ⟨x.toReal, EReal.coe_toReal h.2.ne h.1.ne'⟩

/-- A real is finite. -/
theorem finite_coe (r : ℝ) : Finite (r : EReal) := ⟨EReal.bot_lt_coe r, EReal.coe_lt_top r⟩

/-- Sums, products and greater ones of finite numbers are finite. -/
theorem Finite.add {x y : EReal} (hx : Finite x) (hy : Finite y) : Finite (x + y) := by
  obtain ⟨a, rfl⟩ := hx.coe
  obtain ⟨b, rfl⟩ := hy.coe
  exact finite_coe (a + b)
@[inherit_doc Finite.add] theorem Finite.mul {x y : EReal} (hx : Finite x) (hy : Finite y) : Finite (x * y) := by
  obtain ⟨a, rfl⟩ := hx.coe
  obtain ⟨b, rfl⟩ := hy.coe
  rw [← EReal.coe_mul]
  exact finite_coe (a * b)
@[inherit_doc Finite.add] theorem Finite.max {x y : EReal} (hx : Finite x) (hy : Finite y) : Finite (max x y) :=
  ⟨lt_max_of_lt_left hx.1, max_lt hx.2 hy.2⟩
@[inherit_doc Finite.add] theorem Finite.sum {ι : Type} (s : Finset ι) {f : ι → EReal} (h : ∀ i, Finite (f i)) : Finite (∑ i ∈ s, f i) :=
  Finset.sum_induction f Finite (fun _ _ => Finite.add) (finite_coe 0) fun i _ => h i

/-- A map with its border is finite where the map is. -/
theorem finite_padded {W : ℕ} (x : Fin 256 → Fin W → Fin W → EReal) (hx : ∀ a i j, Finite (x a i j)) (a : Fin 256) (i j : ℕ) : Finite (padded x a i j) := by
  unfold padded
  split
  · exact hx _ _ _
  · exact finite_coe 0

/-- The score of a finite map is above −∞. -/
theorem bot_lt_score (P : Weights) {W : ℕ} (x : Fin 256 → Fin W → Fin W → EReal) (hx : ∀ a i j, Finite (x a i j))
    (hw : ∀ o a ky kx, Finite (P.w o a ky kx)) (hb : ∀ o, Finite (P.b o)) (how : ∀ r a, Finite (P.ow r a)) (hob : ∀ r, Finite (P.ob r))
    (p : Fin (3 * (W * W))) : ⊥ < P.score x p := by
  have part_finite : ∀ ky kx o y x', Finite (part P.w (padded x) ky kx o y x') := fun ky kx o y x' =>
    Finite.sum _ fun a => (hw o a ky kx).mul (finite_padded x hx a _ _)
  have hidden_finite : ∀ o y x', Finite (P.hidden x o y x') := fun o y x' =>
    Finite.max ((((((((((part_finite 0 0 o y x').add (part_finite 0 1 o y x')).add (part_finite 0 2 o y x')).add (part_finite 1 0 o y x')).add
      (part_finite 1 1 o y x')).add (part_finite 1 2 o y x')).add (part_finite 2 0 o y x')).add (part_finite 2 1 o y x')).add (part_finite 2 2 o y x')).add (hb o)) (finite_coe 0)
  exact ((Finite.sum _ fun a => (how _ a).mul (hidden_finite a _ _)).add (hob _)).1

end Cert.Spec

end
-- ==== Proof.FiniteArgs.lean ====
/- What the precondition says of the arguments: every number that a score depends on is finite. -/
module

public import proofs.«01_k».proof.Proof.Finite
public import proofs.«01_k».proof.Proof.Gen.Pre_finite
public import Idealize.ShloMosaic.Lib.ReduceAll
public import Idealize.ShloMosaic.PureOps.Ideal

@[expose] public section

noncomputable section

namespace Cert.Pre_finite

open Idealize.ShloMosaic Cert.Spec

/-- Whether all of an array is finite, as the predicate computes it. -/
def allFinite {s : Shape} {axes : List (Fin s.rank)} (hb : S_.BroadcastsInDim s ![]) (hr : s.ReducesTo axes S_) (hu : 0 < S_.numel) (x : FVec Ideal s .f32) : IVec S_ 1 :=
  Host.reduce IntOp.andi (andi (cmpf .olt x (broadcastInDim s ![] hb (constant S_ .f32 0x7F800000#32)))
    (cmpf .ogt x (broadcastInDim s ![] hb (constant S_ .f32 0xFF800000#32)))) (constantI S_ 1 1#1) hr hu

/-- There is one index of a scalar. -/
instance : Subsingleton S_.Idx := ⟨fun _ _ => funext fun b => b.elim0⟩

/-- Where it says so, it is. -/
theorem allFinite_at {s : Shape} {axes : List (Fin s.rank)} (hb : S_.BroadcastsInDim s ![]) (hr : s.ReducesTo axes S_) (hu : 0 < S_.numel) (x : FVec Ideal s .f32) (j : S_.Idx)
    (e : allFinite hb hr hu x j = 1#1) (i : s.Idx) : Finite (x i) := by
  have h := Host.reduce_andi_all _ _ hr hu j e i
  have h' : BitVec.ofBool (decide (x i < w32 0x7F800000#32)) &&& BitVec.ofBool (decide (w32 0xFF800000#32 < x i)) = 1#1 := h
  rw [show w32 0x7F800000#32 = (⊤ : EReal) by simp [Ideal.ofBits, Ideal.ieee], show w32 0xFF800000#32 = (⊥ : EReal) by simp [Ideal.ofBits, Ideal.ieee]] at h'
  by_cases h1 : x i < ⊤
  · by_cases h2 : ⊥ < x i
    · exact ⟨h2, h1⟩
    · rw [decide_eq_true h1, decide_eq_false h2] at h'
      exact absurd h' (by decide)
  · rw [decide_eq_false h1] at h'
    generalize decide (⊥ < x i) = b at h'
    revert h'
    cases b <;> exact fun h => absurd h (by decide)

/-- Both bits of a conjunction that is 1. -/
theorem both {x y : IVec S_ 1} {j : S_.Idx} (h : andi x y j = 1#1) : x j = 1#1 ∧ y j = 1#1 := by
  have h' : x j &&& y j = 1#1 := h
  revert h'
  generalize x j = a
  generalize y j = b
  revert a b
  decide

/-- The predicate, argument by argument. -/
theorem finite_of (a0 : FVec Ideal S2x256x64x64 .f32) (a1 : FVec Ideal S2x256x32x32 .f32) (a2 : FVec Ideal S2x256x16x16 .f32) (a3 : FVec Ideal S256x256x3x3 .f32)
    (a4 : FVec Ideal S256 .f32) (a5 : FVec Ideal S3x256x1x1 .f32) (a6 : FVec Ideal S3 .f32) (a7 : FVec Ideal S12x256x1x1 .f32) (a8 : FVec Ideal S12 .f32)
    (h : fn (F := Ideal) a0 a1 a2 a3 a4 a5 a6 a7 a8 = fun _ => 1#1) :
    (∀ i, Finite (a0 i)) ∧ (∀ i, Finite (a1 i)) ∧ (∀ i, Finite (a2 i)) ∧ (∀ i, Finite (a3 i)) ∧ (∀ i, Finite (a4 i)) ∧ (∀ i, Finite (a5 i)) ∧ (∀ i, Finite (a6 i)) := by
  have e : fn (F := Ideal) a0 a1 a2 a3 a4 a5 a6 a7 a8
      = andi (andi (andi (andi (andi (andi (andi (constantI S_ 1 1#1)
          (allFinite Gen.bcast_S_S2x256x64x64 Gen.reducesTo_S2x256x64x64_S_d0_1_2_3 Gen.h_S_ a0))
          (allFinite Gen.bcast_S_S2x256x32x32 Gen.reducesTo_S2x256x32x32_S_d0_1_2_3 Gen.h_S_ a1))
          (allFinite Gen.bcast_S_S2x256x16x16 Gen.reducesTo_S2x256x16x16_S_d0_1_2_3 Gen.h_S_ a2))
          (allFinite Gen.bcast_S_S256x256x3x3 Gen.reducesTo_S256x256x3x3_S_d0_1_2_3 Gen.h_S_ a3))
          (allFinite Gen.bcast_S_S256 Gen.reducesTo_S256_S_d0 Gen.h_S_ a4))
          (allFinite Gen.bcast_S_S3x256x1x1 Gen.reducesTo_S3x256x1x1_S_d0_1_2_3 Gen.h_S_ a5))
          (allFinite Gen.bcast_S_S3 Gen.reducesTo_S3_S_d0 Gen.h_S_ a6) := rfl
  obtain ⟨h, h6⟩ := both (congrFun (e.symm.trans h) (fun b => b.elim0))
  obtain ⟨h, h5⟩ := both h
  obtain ⟨h, h4⟩ := both h
  obtain ⟨h, h3⟩ := both h
  obtain ⟨h, h2⟩ := both h
  obtain ⟨h, h1⟩ := both h
  obtain ⟨_, h0⟩ := both h
  exact ⟨allFinite_at _ _ _ a0 _ h0, allFinite_at _ _ _ a1 _ h1, allFinite_at _ _ _ a2 _ h2, allFinite_at _ _ _ a3 _ h3, allFinite_at _ _ _ a4 _ h4,
    allFinite_at _ _ _ a5 _ h5, allFinite_at _ _ _ a6 _ h6⟩

end Cert.Pre_finite

end
-- ==== Proof.Equation.lean ====
/- The equation: on arguments that agree, the kernel's result is the reference's. -/
module

public import proofs.«01_k».proof.Proof.KernelValue
public import proofs.«01_k».proof.Proof.RefResult
public import proofs.«01_k».proof.Proof.FiniteArgs

@[expose] public section

noncomputable section

namespace Cert.Equation

open Idealize.ShloMosaic Idealize.ShloMosaic.StableHlo Idealize.SL.Sem Idealize.ShloMosaic.TcCoe Cert.Level Cert.Spec

/-- Two arrays of three hundred rows per image are equal where they agree on every hundred. -/
theorem ext_rows (x y : (⟨3, ![2, 300, 4]⟩ : Shape).Idx → EReal)
    (h : ∀ (n : Fin 2) (l : Fin 3) (r : Fin 100) (k : Fin 4), x (ix3 n ⟨100 * l.val + r.val, by omega⟩ k) = y (ix3 n ⟨100 * l.val + r.val, by omega⟩ k)) : x = y := by
  funext i
  have hq : (i 1).val < 300 := (i 1).isLt
  have e : i = ix3 (i 0) ⟨100 * ((i 1).val / 100) + (i 1).val % 100, by omega⟩ (i 2) := by
    funext b
    match b with
    | ⟨0, _⟩ => rfl
    | ⟨1, _⟩ => exact Fin.ext (Nat.div_add_mod (i 1).val 100).symm
    | ⟨2, _⟩ => rfl
  rw [e]
  exact h (i 0) ⟨(i 1).val / 100, by omega⟩ ⟨(i 1).val % 100, Nat.mod_lt _ (by decide)⟩ (i 2)

variable (m : (ℓ : Loc Cert.KernelIdeal.nD Cert.KernelIdeal.τ Cert.KernelIdeal.sig) → Buf (Elt Ideal) ℓ) (g : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-- The two programs' arguments agree on a device. -/
structure Agree : Prop where
  a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)

variable {m m' c}

/-- Then so do the weights and the maps. -/
theorem Agree.weights (h : Agree m m' c) : Cert.ReferenceIdeal.weights (launchContents m' c) = Cert.KernelIdeal.weights m c := by
  unfold Cert.ReferenceIdeal.weights Cert.KernelIdeal.weights
  congr 1
  · funext o a ky kx; exact congrFun h.a3 (ix4 o a ky kx)
  · funext o; exact congrFun h.a4 (ix1 o)
  · funext r a; exact congrFun h.a5 (ix4 r a 0 0)
  · funext r; exact congrFun h.a6 (ix1 r)
  · funext r a; exact congrFun h.a7 (ix4 r a 0 0)
  · funext r; exact congrFun h.a8 (ix1 r)
@[inherit_doc Agree.weights] theorem Agree.map0 (h : Agree m m' c) (n : Fin 2) : Cert.ReferenceIdeal.map0 (launchContents m' c) n = Cert.KernelIdeal.map0 m c n := by
  funext a y x; exact congrFun h.a0 (ix4 n a y x)
@[inherit_doc Agree.weights] theorem Agree.map1 (h : Agree m m' c) (n : Fin 2) : Cert.ReferenceIdeal.map1 (launchContents m' c) n = Cert.KernelIdeal.map1 m c n := by
  funext a y x; exact congrFun h.a1 (ix4 n a y x)
@[inherit_doc Agree.weights] theorem Agree.map2 (h : Agree m m' c) (n : Fin 2) : Cert.ReferenceIdeal.map2 (launchContents m' c) n = Cert.KernelIdeal.map2 m c n := by
  funext a y x; exact congrFun h.a2 (ix4 n a y x)

/-- What the precondition gives. -/
theorem args_finite (hp : Cert.Pre_KernelIdeal_finite m) (c : Dev Cert.KernelIdeal.nD) :
    (∀ i, Finite (m ((c.tc : Thread Cert.KernelIdeal.nD Cert.KernelIdeal.τ).loc Cert.KernelIdeal.main_arg0) i))
    ∧ (∀ i, Finite (m ((c.tc : Thread Cert.KernelIdeal.nD Cert.KernelIdeal.τ).loc Cert.KernelIdeal.main_arg1) i))
    ∧ (∀ i, Finite (m ((c.tc : Thread Cert.KernelIdeal.nD Cert.KernelIdeal.τ).loc Cert.KernelIdeal.main_arg2) i))
    ∧ (∀ i, Finite (m ((c.tc : Thread Cert.KernelIdeal.nD Cert.KernelIdeal.τ).loc Cert.KernelIdeal.main_arg3) i))
    ∧ (∀ i, Finite (m ((c.tc : Thread Cert.KernelIdeal.nD Cert.KernelIdeal.τ).loc Cert.KernelIdeal.main_arg4) i))
    ∧ (∀ i, Finite (m ((c.tc : Thread Cert.KernelIdeal.nD Cert.KernelIdeal.τ).loc Cert.KernelIdeal.main_arg5) i))
    ∧ (∀ i, Finite (m ((c.tc : Thread Cert.KernelIdeal.nD Cert.KernelIdeal.τ).loc Cert.KernelIdeal.main_arg6) i)) := by
  have h := hp c
  exact Cert.Pre_finite.finite_of _ _ _ _ _ _ _ _ _ h

/-- The two results are equal. -/
theorem result_eq (hp : Cert.Pre_KernelIdeal_finite m) (h : Agree m m' c) :
    (finalContents Cert.ReferenceIdeal.Value.condOps Cert.ReferenceIdeal.Value.preI Cert.ReferenceIdeal.Value.bodyI Cert.ReferenceIdeal.Value.postI 400 m' c
        (Proc.devRef .tc Cert.ReferenceIdeal.main_v28) : (⟨3, ![2, 300, 4]⟩ : Shape).Idx → EReal)
      = Cert.KernelIdeal.Gen.W13 m g c (Proc.devRef .tc Cert.KernelIdeal.main_v42) := by
  obtain ⟨f0, f1, f2, f3, f4, f5, f6⟩ := args_finite hp c
  refine ext_rows _ _ fun n l r k => ?_
  refine (Cert.ReferenceIdeal.result_at m' c n l r k).trans ?_
  refine Eq.trans ?_ (Cert.KernelIdeal.result_at m g c n ?_ ?_ ?_ l r k).symm
  · rw [h.weights, h.map0, h.map1, h.map2]
  · exact bot_lt_score _ _ (fun a i j => f0 _) (fun o a ky kx => f3 _) (fun o => f4 _) (fun r a => f5 _) (fun r => f6 _)
  · exact bot_lt_score _ _ (fun a i j => f1 _) (fun o a ky kx => f3 _) (fun o => f4 _) (fun r a => f5 _) (fun r => f6 _)
  · exact bot_lt_score _ _ (fun a i j => f2 _) (fun o a ky kx => f3 _) (fun o => f4 _) (fun r a => f5 _) (fun r => f6 _)

/-- The value claim. -/
theorem algebraic : Cert.algebraic_KernelIdeal_ReferenceIdeal_pre_finite := by
  intro m g m' g' hp ha
  refine ⟨fun c => Cert.KernelIdeal.Gen.W13 m g c (Proc.devRef .tc Cert.KernelIdeal.main_v42), ?_, ?_⟩
  · refine (θ_run _ _ _).mono (fun r h c => ?_) (Cert.KernelIdeal.Run.run m g)
    obtain ⟨h0, h1⟩ := h c
    exact ⟨h0, h1 _ (by decide), h1 _ (by decide), h1 _ (by decide), h1 _ (by decide), h1 _ (by decide), h1 _ (by decide), h1 _ (by decide), h1 _ (by decide), h1 _ (by decide)⟩
  · refine (θ_run _ _ _).mono (fun r h c => ?_) (Cert.RefRun.run_args m' g')
    obtain ⟨h0, h1⟩ := h c
    obtain ⟨a0, a1, a2, a3, a4, a5, a6, a7, a8⟩ := ha c
    exact ⟨h0.trans (result_eq g hp ⟨a0, a1, a2, a3, a4, a5, a6, a7, a8⟩), h1⟩

end Cert.Equation

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Pre_finite
public import proofs.«01_k».proof.Proof.RefRun
public import proofs.«01_k».proof.Proof.Equation
public import Idealize.ShloMosaic.Adequacy
public import Idealize.ShloMosaic.Init

@[expose] public section

noncomputable section

namespace Cert.Proof

open Idealize.ShloMosaic Idealize.SL.Sem

/-- Everything the certificate states. -/
theorem claim : Cert.Claim :=
  ⟨Cert.Kernel.Gen.facts, Cert.KernelIdeal.Gen.facts, Cert.ReferenceIdeal.Gen.facts, Cert.Pre_finite.Gen.facts,
    fun m ρ _ => Cert.Kernel.Gen.frame m ρ,
    fun m ρ _ => Cert.KernelIdeal.Gen.frame m ρ,
    fun m ρ _ => Cert.KernelIdeal.Gen.frame m ρ,
    fun m ρ _ => Cert.RefRun.frame m ρ,
    fun m ρ _ => Cert.RefRun.frame m ρ,
    IdealRules.named_const.statement Cert.KernelIdeal.κ "masked_off" .f32 0xF149F2CA#32 ⊥ rfl,
    Cert.Equation.algebraic⟩

end Cert.Proof

end
